-- ==== Defs.lean ====
def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8)) (m ((c.tc : Thread Cert.NormIdeal.nD Cert.NormIdeal.τ).loc Cert.NormIdeal.main_arg9))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8)) (m ((c.tc : Thread Cert.NormRefIdeal.nD Cert.NormRefIdeal.τ).loc Cert.NormRefIdeal.main_arg9))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ReluFwd (m : (ℓ : Loc Cert.ReluFwd.nD Cert.ReluFwd.τ Cert.ReluFwd.sig) → Buf (Elt Bits) ℓ) : Prop :=
  True

def Pre_ReluFwdIdeal (m : (ℓ : Loc Cert.ReluFwdIdeal.nD Cert.ReluFwdIdeal.τ Cert.ReluFwdIdeal.sig) → Buf (Elt Ideal) ℓ) : Prop :=
  True

def Pre_ReluFwdRefIdeal (m : (ℓ : Loc Cert.ReluFwdRefIdeal.nD Cert.ReluFwdRefIdeal.τ Cert.ReluFwdRefIdeal.sig) → Buf (Elt Ideal) ℓ) : Prop :=
  True

def Pre_ReluW (m : (ℓ : Loc Cert.ReluW.nD Cert.ReluW.τ Cert.ReluW.sig) → Buf (Elt Bits) ℓ) : Prop :=
  True

def Pre_ReluWIdeal (m : (ℓ : Loc Cert.ReluWIdeal.nD Cert.ReluWIdeal.τ Cert.ReluWIdeal.sig) → Buf (Elt Ideal) ℓ) : Prop :=
  True

def Pre_ReluWRefIdeal (m : (ℓ : Loc Cert.ReluWRefIdeal.nD Cert.ReluWRefIdeal.τ Cert.ReluWRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsRefIdeal (m : (ℓ : Loc Cert.GradsRefIdeal.nD Cert.GradsRefIdeal.τ Cert.GradsRefIdeal.sig) → Buf (Elt Ideal) ℓ) : Prop :=
  True

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8)
      ∧ r.2.mem ((c.tc : Thread Cert.Norm.nD Cert.Norm.τ).loc Cert.Norm.main_arg9) = m ((c.tc : Thread Cert.Norm.nD Cert.Norm.τ).loc Cert.Norm.main_arg9))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8)
      ∧ r.2.mem ((c.tc : Thread Cert.NormRefIdeal.nD Cert.NormRefIdeal.τ).loc Cert.NormRefIdeal.main_arg9) = m ((c.tc : Thread Cert.NormRefIdeal.nD Cert.NormRefIdeal.τ).loc Cert.NormRefIdeal.main_arg9))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8)
      ∧ r.2.mem ((c.tc : Thread Cert.NormRefIdeal.nD Cert.NormRefIdeal.τ).loc Cert.NormRefIdeal.main_arg9) = m ((c.tc : Thread Cert.NormRefIdeal.nD Cert.NormRefIdeal.τ).loc Cert.NormRefIdeal.main_arg9))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2))
      ∧ r.2.sem = fun _ => 0)

def quiescent_ReluFwd [hReluFwd : Cert.ReluFwd.Facts] : Prop :=
  ∀ (m : (ℓ : Loc Cert.ReluFwd.nD Cert.ReluFwd.τ Cert.ReluFwd.sig) → Buf (Elt Bits) ℓ) (g : Dev Cert.ReluFwd.nD → PrngReg), Pre_ReluFwd m →
    θ_run (Cert.ReluFwd.defs (F := Bits)) (onTc (τ := Cert.ReluFwd.τ) (Cert.ReluFwd.main (F := Bits))) ⟨m, fun _ => 0, g⟩ (fun r => (∀ c : Dev Cert.ReluFwd.nD,
      r.2.mem ((c.tc : Thread Cert.ReluFwd.nD Cert.ReluFwd.τ).loc Cert.ReluFwd.main_arg0) = m ((c.tc : Thread Cert.ReluFwd.nD Cert.ReluFwd.τ).loc Cert.ReluFwd.main_arg0)
      ∧ r.2.mem ((c.tc : Thread Cert.ReluFwd.nD Cert.ReluFwd.τ).loc Cert.ReluFwd.main_arg1) = m ((c.tc : Thread Cert.ReluFwd.nD Cert.ReluFwd.τ).loc Cert.ReluFwd.main_arg1)
      ∧ r.2.mem ((c.tc : Thread Cert.ReluFwd.nD Cert.ReluFwd.τ).loc Cert.ReluFwd.main_arg2) = m ((c.tc : Thread Cert.ReluFwd.nD Cert.ReluFwd.τ).loc Cert.ReluFwd.main_arg2))
      ∧ r.2.sem = fun _ => 0)

def quiescent_ReluFwdIdeal [hReluFwdIdeal : Cert.ReluFwdIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg), Pre_ReluFwdIdeal m →
    θ_run (Cert.ReluFwdIdeal.defs (F := Ideal)) (onTc (τ := Cert.ReluFwdIdeal.τ) (Cert.ReluFwdIdeal.main (F := Ideal))) ⟨m, fun _ => 0, g⟩ (fun r => (∀ c : Dev Cert.ReluFwdIdeal.nD,
      r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
      ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1)
      ∧ r.2.mem ((c.tc : Thread Cert.ReluFwdIdeal.nD Cert.ReluFwdIdeal.τ).loc Cert.ReluFwdIdeal.main_arg2) = m ((c.tc : Thread Cert.ReluFwdIdeal.nD Cert.ReluFwdIdeal.τ).loc Cert.ReluFwdIdeal.main_arg2))
      ∧ r.2.sem = fun _ => 0)

def quiescent_ReluFwdRefIdeal [hReluFwdRefIdeal : Cert.ReluFwdRefIdeal.Facts] : Prop :=
  ∀ (m : (ℓ : Loc Cert.ReluFwdRefIdeal.nD Cert.ReluFwdRefIdeal.τ Cert.ReluFwdRefIdeal.sig) → Buf (Elt Ideal) ℓ) (g : Dev Cert.ReluFwdRefIdeal.nD → PrngReg), Pre_ReluFwdRefIdeal m →
    θ_run (Cert.ReluFwdRefIdeal.defs (F := Ideal)) (onTc (τ := Cert.ReluFwdRefIdeal.τ) (Cert.ReluFwdRefIdeal.main (F := Ideal))) ⟨m, fun _ => 0, g⟩ (fun r => (∀ c : Dev Cert.ReluFwdRefIdeal.nD,
      r.2.mem ((c.tc : Thread Cert.ReluFwdRefIdeal.nD Cert.ReluFwdRefIdeal.τ).loc Cert.ReluFwdRefIdeal.main_arg0) = m ((c.tc : Thread Cert.ReluFwdRefIdeal.nD Cert.ReluFwdRefIdeal.τ).loc Cert.ReluFwdRefIdeal.main_arg0)
      ∧ r.2.mem ((c.tc : Thread Cert.ReluFwdRefIdeal.nD Cert.ReluFwdRefIdeal.τ).loc Cert.ReluFwdRefIdeal.main_arg1) = m ((c.tc : Thread Cert.ReluFwdRefIdeal.nD Cert.ReluFwdRefIdeal.τ).loc Cert.ReluFwdRefIdeal.main_arg1)
      ∧ r.2.mem ((c.tc : Thread Cert.ReluFwdRefIdeal.nD Cert.ReluFwdRefIdeal.τ).loc Cert.ReluFwdRefIdeal.main_arg2) = m ((c.tc : Thread Cert.ReluFwdRefIdeal.nD Cert.ReluFwdRefIdeal.τ).loc Cert.ReluFwdRefIdeal.main_arg2))
      ∧ r.2.sem = fun _ => 0)

def quiescent_ReluW [hReluW : Cert.ReluW.Facts] : Prop :=
  ∀ (m : (ℓ : Loc Cert.ReluW.nD Cert.ReluW.τ Cert.ReluW.sig) → Buf (Elt Bits) ℓ) (g : Dev Cert.ReluW.nD → PrngReg), Pre_ReluW m →
    θ_run (Cert.ReluW.defs (F := Bits)) (onTc (τ := Cert.ReluW.τ) (Cert.ReluW.main (F := Bits))) ⟨m, fun _ => 0, g⟩ (fun r => (∀ c : Dev Cert.ReluW.nD,
      r.2.mem ((c.tc : Thread Cert.ReluW.nD Cert.ReluW.τ).loc Cert.ReluW.main_arg0) = m ((c.tc : Thread Cert.ReluW.nD Cert.ReluW.τ).loc Cert.ReluW.main_arg0)
      ∧ r.2.mem ((c.tc : Thread Cert.ReluW.nD Cert.ReluW.τ).loc Cert.ReluW.main_arg1) = m ((c.tc : Thread Cert.ReluW.nD Cert.ReluW.τ).loc Cert.ReluW.main_arg1)
      ∧ r.2.mem ((c.tc : Thread Cert.ReluW.nD Cert.ReluW.τ).loc Cert.ReluW.main_arg2) = m ((c.tc : Thread Cert.ReluW.nD Cert.ReluW.τ).loc Cert.ReluW.main_arg2))
      ∧ r.2.sem = fun _ => 0)

def quiescent_ReluWIdeal [hReluWIdeal : Cert.ReluWIdeal.Facts] : Prop :=
  ∀ (m : (ℓ : Loc Cert.ReluWIdeal.nD Cert.ReluWIdeal.τ Cert.ReluWIdeal.sig) → Buf (Elt Ideal) ℓ) (g : Dev Cert.ReluWIdeal.nD → PrngReg), Pre_ReluWIdeal m →
    θ_run (Cert.ReluWIdeal.defs (F := Ideal)) (onTc (τ := Cert.ReluWIdeal.τ) (Cert.ReluWIdeal.main (F := Ideal))) ⟨m, fun _ => 0, g⟩ (fun r => (∀ c : Dev Cert.ReluWIdeal.nD,
      r.2.mem ((c.tc : Thread Cert.ReluWIdeal.nD Cert.ReluWIdeal.τ).loc Cert.ReluWIdeal.main_arg0) = m ((c.tc : Thread Cert.ReluWIdeal.nD Cert.ReluWIdeal.τ).loc Cert.ReluWIdeal.main_arg0)
      ∧ r.2.mem ((c.tc : Thread Cert.ReluWIdeal.nD Cert.ReluWIdeal.τ).loc Cert.ReluWIdeal.main_arg1) = m ((c.tc : Thread Cert.ReluWIdeal.nD Cert.ReluWIdeal.τ).loc Cert.ReluWIdeal.main_arg1)
      ∧ r.2.mem ((c.tc : Thread Cert.ReluWIdeal.nD Cert.ReluWIdeal.τ).loc Cert.ReluWIdeal.main_arg2) = m ((c.tc : Thread Cert.ReluWIdeal.nD Cert.ReluWIdeal.τ).loc Cert.ReluWIdeal.main_arg2))
      ∧ r.2.sem = fun _ => 0)

def quiescent_ReluWRefIdeal [hReluWRefIdeal : Cert.ReluWRefIdeal.Facts] : Prop :=
  ∀ (m : (ℓ : Loc Cert.ReluWRefIdeal.nD Cert.ReluWRefIdeal.τ Cert.ReluWRefIdeal.sig) → Buf (Elt Ideal) ℓ) (g : Dev Cert.ReluWRefIdeal.nD → PrngReg), Pre_ReluWRefIdeal m →
    θ_run (Cert.ReluWRefIdeal.defs (F := Ideal)) (onTc (τ := Cert.ReluWRefIdeal.τ) (Cert.ReluWRefIdeal.main (F := Ideal))) ⟨m, fun _ => 0, g⟩ (fun r => (∀ c : Dev Cert.ReluWRefIdeal.nD,
      r.2.mem ((c.tc : Thread Cert.ReluWRefIdeal.nD Cert.ReluWRefIdeal.τ).loc Cert.ReluWRefIdeal.main_arg0) = m ((c.tc : Thread Cert.ReluWRefIdeal.nD Cert.ReluWRefIdeal.τ).loc Cert.ReluWRefIdeal.main_arg0)
      ∧ r.2.mem ((c.tc : Thread Cert.ReluWRefIdeal.nD Cert.ReluWRefIdeal.τ).loc Cert.ReluWRefIdeal.main_arg1) = m ((c.tc : Thread Cert.ReluWRefIdeal.nD Cert.ReluWRefIdeal.τ).loc Cert.ReluWRefIdeal.main_arg1)
      ∧ r.2.mem ((c.tc : Thread Cert.ReluWRefIdeal.nD Cert.ReluWRefIdeal.τ).loc Cert.ReluWRefIdeal.main_arg2) = m ((c.tc : Thread Cert.ReluWRefIdeal.nD Cert.ReluWRefIdeal.τ).loc Cert.ReluWRefIdeal.main_arg2))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1)
      ∧ r.2.mem ((c.tc : Thread Cert.BranchFwd.nD Cert.BranchFwd.τ).loc Cert.BranchFwd.main_arg2) = m ((c.tc : Thread Cert.BranchFwd.nD Cert.BranchFwd.τ).loc Cert.BranchFwd.main_arg2)
      ∧ r.2.mem ((c.tc : Thread Cert.BranchFwd.nD Cert.BranchFwd.τ).loc Cert.BranchFwd.main_arg3) = m ((c.tc : Thread Cert.BranchFwd.nD Cert.BranchFwd.τ).loc Cert.BranchFwd.main_arg3)
      ∧ r.2.mem ((c.tc : Thread Cert.BranchFwd.nD Cert.BranchFwd.τ).loc Cert.BranchFwd.main_arg4) = m ((c.tc : Thread Cert.BranchFwd.nD Cert.BranchFwd.τ).loc Cert.BranchFwd.main_arg4)
      ∧ r.2.mem ((c.tc : Thread Cert.BranchFwd.nD Cert.BranchFwd.τ).loc Cert.BranchFwd.main_arg5) = m ((c.tc : Thread Cert.BranchFwd.nD Cert.BranchFwd.τ).loc Cert.BranchFwd.main_arg5)
      ∧ r.2.mem ((c.tc : Thread Cert.BranchFwd.nD Cert.BranchFwd.τ).loc Cert.BranchFwd.main_arg6) = m ((c.tc : Thread Cert.BranchFwd.nD Cert.BranchFwd.τ).loc Cert.BranchFwd.main_arg6)
      ∧ r.2.mem ((c.tc : Thread Cert.BranchFwd.nD Cert.BranchFwd.τ).loc Cert.BranchFwd.main_arg7) = m ((c.tc : Thread Cert.BranchFwd.nD Cert.BranchFwd.τ).loc Cert.BranchFwd.main_arg7))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
      ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
      ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
      ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4)
      ∧ r.2.mem ((c.tc : Thread Cert.BranchFwdIdeal.nD Cert.BranchFwdIdeal.τ).loc Cert.BranchFwdIdeal.main_arg5) = m ((c.tc : Thread Cert.BranchFwdIdeal.nD Cert.BranchFwdIdeal.τ).loc Cert.BranchFwdIdeal.main_arg5)
      ∧ r.2.mem ((c.tc : Thread Cert.BranchFwdIdeal.nD Cert.BranchFwdIdeal.τ).loc Cert.BranchFwdIdeal.main_arg6) = m ((c.tc : Thread Cert.BranchFwdIdeal.nD Cert.BranchFwdIdeal.τ).loc Cert.BranchFwdIdeal.main_arg6)
      ∧ r.2.mem ((c.tc : Thread Cert.BranchFwdIdeal.nD Cert.BranchFwdIdeal.τ).loc Cert.BranchFwdIdeal.main_arg7) = m ((c.tc : Thread Cert.BranchFwdIdeal.nD Cert.BranchFwdIdeal.τ).loc Cert.BranchFwdIdeal.main_arg7))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1)
      ∧ r.2.mem ((c.tc : Thread Cert.BranchFwdRefIdeal.nD Cert.BranchFwdRefIdeal.τ).loc Cert.BranchFwdRefIdeal.main_arg2) = m ((c.tc : Thread Cert.BranchFwdRefIdeal.nD Cert.BranchFwdRefIdeal.τ).loc Cert.BranchFwdRefIdeal.main_arg2)
      ∧ r.2.mem ((c.tc : Thread Cert.BranchFwdRefIdeal.nD Cert.BranchFwdRefIdeal.τ).loc Cert.BranchFwdRefIdeal.main_arg3) = m ((c.tc : Thread Cert.BranchFwdRefIdeal.nD Cert.BranchFwdRefIdeal.τ).loc Cert.BranchFwdRefIdeal.main_arg3)
      ∧ r.2.mem ((c.tc : Thread Cert.BranchFwdRefIdeal.nD Cert.BranchFwdRefIdeal.τ).loc Cert.BranchFwdRefIdeal.main_arg4) = m ((c.tc : Thread Cert.BranchFwdRefIdeal.nD Cert.BranchFwdRefIdeal.τ).loc Cert.BranchFwdRefIdeal.main_arg4)
      ∧ r.2.mem ((c.tc : Thread Cert.BranchFwdRefIdeal.nD Cert.BranchFwdRefIdeal.τ).loc Cert.BranchFwdRefIdeal.main_arg5) = m ((c.tc : Thread Cert.BranchFwdRefIdeal.nD Cert.BranchFwdRefIdeal.τ).loc Cert.BranchFwdRefIdeal.main_arg5)
      ∧ r.2.mem ((c.tc : Thread Cert.BranchFwdRefIdeal.nD Cert.BranchFwdRefIdeal.τ).loc Cert.BranchFwdRefIdeal.main_arg6) = m ((c.tc : Thread Cert.BranchFwdRefIdeal.nD Cert.BranchFwdRefIdeal.τ).loc Cert.BranchFwdRefIdeal.main_arg6)
      ∧ r.2.mem ((c.tc : Thread Cert.BranchFwdRefIdeal.nD Cert.BranchFwdRefIdeal.τ).loc Cert.BranchFwdRefIdeal.main_arg7) = m ((c.tc : Thread Cert.BranchFwdRefIdeal.nD Cert.BranchFwdRefIdeal.τ).loc Cert.BranchFwdRefIdeal.main_arg7))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3)
      ∧ r.2.mem ((c.tc : Thread Cert.StepUpRefIdeal.nD Cert.StepUpRefIdeal.τ).loc Cert.StepUpRefIdeal.main_arg4) = m ((c.tc : Thread Cert.StepUpRefIdeal.nD Cert.StepUpRefIdeal.τ).loc Cert.StepUpRefIdeal.main_arg4))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0)
      ∧ r.2.mem ((c.tc : Thread Cert.Grads.nD Cert.Grads.τ).loc Cert.Grads.main_arg1) = m ((c.tc : Thread Cert.Grads.nD Cert.Grads.τ).loc Cert.Grads.main_arg1)
      ∧ r.2.mem ((c.tc : Thread Cert.Grads.nD Cert.Grads.τ).loc Cert.Grads.main_arg2) = m ((c.tc : Thread Cert.Grads.nD Cert.Grads.τ).loc Cert.Grads.main_arg2)
      ∧ r.2.mem ((c.tc : Thread Cert.Grads.nD Cert.Grads.τ).loc Cert.Grads.main_arg3) = m ((c.tc : Thread Cert.Grads.nD Cert.Grads.τ).loc Cert.Grads.main_arg3)
      ∧ r.2.mem ((c.tc : Thread Cert.Grads.nD Cert.Grads.τ).loc Cert.Grads.main_arg4) = m ((c.tc : Thread Cert.Grads.nD Cert.Grads.τ).loc Cert.Grads.main_arg4)
      ∧ r.2.mem ((c.tc : Thread Cert.Grads.nD Cert.Grads.τ).loc Cert.Grads.main_arg5) = m ((c.tc : Thread Cert.Grads.nD Cert.Grads.τ).loc Cert.Grads.main_arg5)
      ∧ r.2.mem ((c.tc : Thread Cert.Grads.nD Cert.Grads.τ).loc Cert.Grads.main_arg6) = m ((c.tc : Thread Cert.Grads.nD Cert.Grads.τ).loc Cert.Grads.main_arg6)
      ∧ r.2.mem ((c.tc : Thread Cert.Grads.nD Cert.Grads.τ).loc Cert.Grads.main_arg7) = m ((c.tc : Thread Cert.Grads.nD Cert.Grads.τ).loc Cert.Grads.main_arg7)
      ∧ r.2.mem ((c.tc : Thread Cert.Grads.nD Cert.Grads.τ).loc Cert.Grads.main_arg8) = m ((c.tc : Thread Cert.Grads.nD Cert.Grads.τ).loc Cert.Grads.main_arg8))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
      ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
      ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
      ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
      ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4)
      ∧ r.2.mem ((c.tc : Thread Cert.GradsIdeal.nD Cert.GradsIdeal.τ).loc Cert.GradsIdeal.main_arg5) = m ((c.tc : Thread Cert.GradsIdeal.nD Cert.GradsIdeal.τ).loc Cert.GradsIdeal.main_arg5)
      ∧ r.2.mem ((c.tc : Thread Cert.GradsIdeal.nD Cert.GradsIdeal.τ).loc Cert.GradsIdeal.main_arg6) = m ((c.tc : Thread Cert.GradsIdeal.nD Cert.GradsIdeal.τ).loc Cert.GradsIdeal.main_arg6)
      ∧ r.2.mem ((c.tc : Thread Cert.GradsIdeal.nD Cert.GradsIdeal.τ).loc Cert.GradsIdeal.main_arg7) = m ((c.tc : Thread Cert.GradsIdeal.nD Cert.GradsIdeal.τ).loc Cert.GradsIdeal.main_arg7)
      ∧ r.2.mem ((c.tc : Thread Cert.GradsIdeal.nD Cert.GradsIdeal.τ).loc Cert.GradsIdeal.main_arg8) = m ((c.tc : Thread Cert.GradsIdeal.nD Cert.GradsIdeal.τ).loc Cert.GradsIdeal.main_arg8))
      ∧ r.2.sem = fun _ => 0)

def quiescent_GradsRefIdeal [hGradsRefIdeal : Cert.GradsRefIdeal.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0)
      ∧ r.2.mem ((c.tc : Thread Cert.GradsRefIdeal.nD Cert.GradsRefIdeal.τ).loc Cert.GradsRefIdeal.main_arg1) = m ((c.tc : Thread Cert.GradsRefIdeal.nD Cert.GradsRefIdeal.τ).loc Cert.GradsRefIdeal.main_arg1)
      ∧ r.2.mem ((c.tc : Thread Cert.GradsRefIdeal.nD Cert.GradsRefIdeal.τ).loc Cert.GradsRefIdeal.main_arg2) = m ((c.tc : Thread Cert.GradsRefIdeal.nD Cert.GradsRefIdeal.τ).loc Cert.GradsRefIdeal.main_arg2)
      ∧ r.2.mem ((c.tc : Thread Cert.GradsRefIdeal.nD Cert.GradsRefIdeal.τ).loc Cert.GradsRefIdeal.main_arg3) = m ((c.tc : Thread Cert.GradsRefIdeal.nD Cert.GradsRefIdeal.τ).loc Cert.GradsRefIdeal.main_arg3)
      ∧ r.2.mem ((c.tc : Thread Cert.GradsRefIdeal.nD Cert.GradsRefIdeal.τ).loc Cert.GradsRefIdeal.main_arg4) = m ((c.tc : Thread Cert.GradsRefIdeal.nD Cert.GradsRefIdeal.τ).loc Cert.GradsRefIdeal.main_arg4)
      ∧ r.2.mem ((c.tc : Thread Cert.GradsRefIdeal.nD Cert.GradsRefIdeal.τ).loc Cert.GradsRefIdeal.main_arg5) = m ((c.tc : Thread Cert.GradsRefIdeal.nD Cert.GradsRefIdeal.τ).loc Cert.GradsRefIdeal.main_arg5)
      ∧ r.2.mem ((c.tc : Thread Cert.GradsRefIdeal.nD Cert.GradsRefIdeal.τ).loc Cert.GradsRefIdeal.main_arg6) = m ((c.tc : Thread Cert.GradsRefIdeal.nD Cert.GradsRefIdeal.τ).loc Cert.GradsRefIdeal.main_arg6)
      ∧ r.2.mem ((c.tc : Thread Cert.GradsRefIdeal.nD Cert.GradsRefIdeal.τ).loc Cert.GradsRefIdeal.main_arg7) = m ((c.tc : Thread Cert.GradsRefIdeal.nD Cert.GradsRefIdeal.τ).loc Cert.GradsRefIdeal.main_arg7)
      ∧ r.2.mem ((c.tc : Thread Cert.GradsRefIdeal.nD Cert.GradsRefIdeal.τ).loc Cert.GradsRefIdeal.main_arg8) = m ((c.tc : Thread Cert.GradsRefIdeal.nD Cert.GradsRefIdeal.τ).loc Cert.GradsRefIdeal.main_arg8))
      ∧ r.2.sem = fun _ => 0)

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)) →
    ∃ (v0 : (c : Dev Cert.ReluIdeal.nD) → Buf (Elt Ideal) ((c.tc : Thread Cert.ReluIdeal.nD Cert.ReluIdeal.τ).loc Cert.ReluIdeal.main_v0)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v0) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v18) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)) (v2 : (c : Dev Cert.MergeIdeal.nD) → Buf (Elt Ideal) ((c.tc : Thread Cert.MergeIdeal.nD Cert.MergeIdeal.τ).loc Cert.MergeIdeal.main_v4_2)) (v3 : (c : Dev Cert.MergeIdeal.nD) → Buf (Elt Ideal) ((c.tc : Thread Cert.MergeIdeal.nD Cert.MergeIdeal.τ).loc Cert.MergeIdeal.main_v4_3)) (v4 : (c : Dev Cert.MergeIdeal.nD) → Buf (Elt Ideal) ((c.tc : Thread Cert.MergeIdeal.nD Cert.MergeIdeal.τ).loc Cert.MergeIdeal.main_v4_4)) (v5 : (c : Dev Cert.MergeIdeal.nD) → Buf (Elt Ideal) ((c.tc : Thread Cert.MergeIdeal.nD Cert.MergeIdeal.τ).loc Cert.MergeIdeal.main_v4_5)) (v6 : (c : Dev Cert.MergeIdeal.nD) → Buf (Elt Ideal) ((c.tc : Thread Cert.MergeIdeal.nD Cert.MergeIdeal.τ).loc Cert.MergeIdeal.main_v4_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_v4_2) = v2 c
          ∧ r.2.mem ((c.tc : Thread Cert.MergeIdeal.nD Cert.MergeIdeal.τ).loc Cert.MergeIdeal.main_v4_3) = v3 c
          ∧ r.2.mem ((c.tc : Thread Cert.MergeIdeal.nD Cert.MergeIdeal.τ).loc Cert.MergeIdeal.main_v4_4) = v4 c
          ∧ r.2.mem ((c.tc : Thread Cert.MergeIdeal.nD Cert.MergeIdeal.τ).loc Cert.MergeIdeal.main_v4_5) = v5 c
          ∧ r.2.mem ((c.tc : Thread Cert.MergeIdeal.nD Cert.MergeIdeal.τ).loc Cert.MergeIdeal.main_v4_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_v53) = v1 c
          ∧ r.2.mem ((c.tc : Thread Cert.MergeRefIdeal.nD Cert.MergeRefIdeal.τ).loc Cert.MergeRefIdeal.main_v55) = v2 c
          ∧ r.2.mem ((c.tc : Thread Cert.MergeRefIdeal.nD Cert.MergeRefIdeal.τ).loc Cert.MergeRefIdeal.main_v57) = v3 c
          ∧ r.2.mem ((c.tc : Thread Cert.MergeRefIdeal.nD Cert.MergeRefIdeal.τ).loc Cert.MergeRefIdeal.main_v59) = v4 c
          ∧ r.2.mem ((c.tc : Thread Cert.MergeRefIdeal.nD Cert.MergeRefIdeal.τ).loc Cert.MergeRefIdeal.main_v61) = v5 c
          ∧ r.2.mem ((c.tc : Thread Cert.MergeRefIdeal.nD Cert.MergeRefIdeal.τ).loc Cert.MergeRefIdeal.main_v63) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Sgu_SguIdeal : Prop :=
  IdealRules.named_const.Statement Cert.SguIdeal.κ "gelu_k" .f32 0x3D372713#32 ((8943 / 200000 : ℝ) : EReal)
  ∧ IdealRules.named_const.Statement Cert.SguIdeal.κ "gelu_3k" .f32 0x3E095D4F#32 ((26829 / 200000 : ℝ) : EReal)

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v18_0)) (v1 : (c : Dev Cert.SguIdeal.nD) → Buf (Elt Ideal) ((c.tc : Thread Cert.SguIdeal.nD Cert.SguIdeal.τ).loc Cert.SguIdeal.main_v18_1)) (v2 : (c : Dev Cert.SguIdeal.nD) → Buf (Elt Ideal) ((c.tc : Thread Cert.SguIdeal.nD Cert.SguIdeal.τ).loc Cert.SguIdeal.main_v18_2)) (v3 : (c : Dev Cert.SguIdeal.nD) → Buf (Elt Ideal) ((c.tc : Thread Cert.SguIdeal.nD Cert.SguIdeal.τ).loc Cert.SguIdeal.main_v18_3)) (v4 : (c : Dev Cert.SguIdeal.nD) → Buf (Elt Ideal) ((c.tc : Thread Cert.SguIdeal.nD Cert.SguIdeal.τ).loc Cert.SguIdeal.main_v18_4)) (v5 : (c : Dev Cert.SguIdeal.nD) → Buf (Elt Ideal) ((c.tc : Thread Cert.SguIdeal.nD Cert.SguIdeal.τ).loc Cert.SguIdeal.main_v18_5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v18_0) = v0 c
          ∧ r.2.mem ((c.tc : Thread Cert.SguIdeal.nD Cert.SguIdeal.τ).loc Cert.SguIdeal.main_v18_1) = v1 c
          ∧ r.2.mem ((c.tc : Thread Cert.SguIdeal.nD Cert.SguIdeal.τ).loc Cert.SguIdeal.main_v18_2) = v2 c
          ∧ r.2.mem ((c.tc : Thread Cert.SguIdeal.nD Cert.SguIdeal.τ).loc Cert.SguIdeal.main_v18_3) = v3 c
          ∧ r.2.mem ((c.tc : Thread Cert.SguIdeal.nD Cert.SguIdeal.τ).loc Cert.SguIdeal.main_v18_4) = v4 c
          ∧ r.2.mem ((c.tc : Thread Cert.SguIdeal.nD Cert.SguIdeal.τ).loc Cert.SguIdeal.main_v18_5) = v5 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v171) = v0 c
          ∧ r.2.mem ((c.tc : Thread Cert.SguRefIdeal.nD Cert.SguRefIdeal.τ).loc Cert.SguRefIdeal.main_v173) = v1 c
          ∧ r.2.mem ((c.tc : Thread Cert.SguRefIdeal.nD Cert.SguRefIdeal.τ).loc Cert.SguRefIdeal.main_v111) = v2 c
          ∧ r.2.mem ((c.tc : Thread Cert.SguRefIdeal.nD Cert.SguRefIdeal.τ).loc Cert.SguRefIdeal.main_v175) = v3 c
          ∧ r.2.mem ((c.tc : Thread Cert.SguRefIdeal.nD Cert.SguRefIdeal.τ).loc Cert.SguRefIdeal.main_v176) = v4 c
          ∧ r.2.mem ((c.tc : Thread Cert.SguRefIdeal.nD Cert.SguRefIdeal.τ).loc Cert.SguRefIdeal.main_v177) = v5 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_SguFwd_SguFwdIdeal : Prop :=
  IdealRules.named_const.Statement Cert.SguFwdIdeal.κ "gelu_k" .f32 0x3D372713#32 ((8943 / 200000 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v16)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v16) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v79) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)
      ∧ m' ((c.tc : Thread Cert.NormRefIdeal.nD Cert.NormRefIdeal.τ).loc Cert.NormRefIdeal.main_arg9) = m ((c.tc : Thread Cert.NormIdeal.nD Cert.NormIdeal.τ).loc Cert.NormIdeal.main_arg9)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
          ∧ r.2.mem ((c.tc : Thread Cert.NormIdeal.nD Cert.NormIdeal.τ).loc Cert.NormIdeal.main_arg9) = m ((c.tc : Thread Cert.NormIdeal.nD Cert.NormIdeal.τ).loc Cert.NormIdeal.main_arg9))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v56) = v0 c
          ∧ r.2.mem ((c.tc : Thread Cert.NormRefIdeal.nD Cert.NormRefIdeal.τ).loc Cert.NormRefIdeal.main_v58) = v1 c
          ∧ r.2.mem ((c.tc : Thread Cert.NormRefIdeal.nD Cert.NormRefIdeal.τ).loc Cert.NormRefIdeal.main_v59) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8)
          ∧ r.2.mem ((c.tc : Thread Cert.NormRefIdeal.nD Cert.NormRefIdeal.τ).loc Cert.NormRefIdeal.main_arg9) = m' ((c.tc : Thread Cert.NormRefIdeal.nD Cert.NormRefIdeal.τ).loc Cert.NormRefIdeal.main_arg9))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v61) = v0 c
          ∧ r.2.mem ((c.tc : Thread Cert.LossRefIdeal.nD Cert.LossRefIdeal.τ).loc Cert.LossRefIdeal.main_v63) = v1 c
          ∧ r.2.mem ((c.tc : Thread Cert.LossRefIdeal.nD Cert.LossRefIdeal.τ).loc Cert.LossRefIdeal.main_v64) = v2 c
          ∧ r.2.mem ((c.tc : Thread Cert.LossRefIdeal.nD Cert.LossRefIdeal.τ).loc Cert.LossRefIdeal.main_v65) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v35) = v0 c
          ∧ r.2.mem ((c.tc : Thread Cert.MergeFwdRefIdeal.nD Cert.MergeFwdRefIdeal.τ).loc Cert.MergeFwdRefIdeal.main_v37) = v1 c
          ∧ r.2.mem ((c.tc : Thread Cert.MergeFwdRefIdeal.nD Cert.MergeFwdRefIdeal.τ).loc Cert.MergeFwdRefIdeal.main_v39) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v45) = v0 c
          ∧ r.2.mem ((c.tc : Thread Cert.UpRefIdeal.nD Cert.UpRefIdeal.τ).loc Cert.UpRefIdeal.main_v47) = v1 c
          ∧ r.2.mem ((c.tc : Thread Cert.UpRefIdeal.nD Cert.UpRefIdeal.τ).loc Cert.UpRefIdeal.main_v48) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v2_0)) (v1 : (c : Dev Cert.NormFwdIdeal.nD) → Buf (Elt Ideal) ((c.tc : Thread Cert.NormFwdIdeal.nD Cert.NormFwdIdeal.τ).loc Cert.NormFwdIdeal.main_v2_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2_0) = v0 c
          ∧ r.2.mem ((c.tc : Thread Cert.NormFwdIdeal.nD Cert.NormFwdIdeal.τ).loc Cert.NormFwdIdeal.main_v2_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v17) = v0 c
          ∧ r.2.mem ((c.tc : Thread Cert.NormFwdRefIdeal.nD Cert.NormFwdRefIdeal.τ).loc Cert.NormFwdRefIdeal.main_v19) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2))

def preserves_ReluFwd_ReluFwdIdeal : Prop :=
  True

def algebraic_ReluFwdIdeal_ReluFwdRefIdeal [hReluFwdIdeal : Cert.ReluFwdIdeal.Facts] [hReluFwdRefIdeal : Cert.ReluFwdRefIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg)
    (m' : (ℓ : Loc Cert.ReluFwdRefIdeal.nD Cert.ReluFwdRefIdeal.τ Cert.ReluFwdRefIdeal.sig) → Buf (Elt Ideal) ℓ) (g' : Dev Cert.ReluFwdRefIdeal.nD → PrngReg), Pre_ReluFwdIdeal m →
    (∀ c : Dev Cert.ReluFwdIdeal.nD,
      m' ((c.tc : Thread Cert.ReluFwdRefIdeal.nD Cert.ReluFwdRefIdeal.τ).loc Cert.ReluFwdRefIdeal.main_arg0) = m ((c.tc : Thread Cert.ReluFwdIdeal.nD Cert.ReluFwdIdeal.τ).loc Cert.ReluFwdIdeal.main_arg0)
      ∧ m' ((c.tc : Thread Cert.ReluFwdRefIdeal.nD Cert.ReluFwdRefIdeal.τ).loc Cert.ReluFwdRefIdeal.main_arg1) = m ((c.tc : Thread Cert.ReluFwdIdeal.nD Cert.ReluFwdIdeal.τ).loc Cert.ReluFwdIdeal.main_arg1)
      ∧ m' ((c.tc : Thread Cert.ReluFwdRefIdeal.nD Cert.ReluFwdRefIdeal.τ).loc Cert.ReluFwdRefIdeal.main_arg2) = m ((c.tc : Thread Cert.ReluFwdIdeal.nD Cert.ReluFwdIdeal.τ).loc Cert.ReluFwdIdeal.main_arg2)) →
    ∃ (v0 : (c : Dev Cert.ReluFwdIdeal.nD) → Buf (Elt Ideal) ((c.tc : Thread Cert.ReluFwdIdeal.nD Cert.ReluFwdIdeal.τ).loc Cert.ReluFwdIdeal.main_v0)),
      θ_run (Cert.ReluFwdIdeal.defs (F := Ideal)) (onTc (τ := Cert.ReluFwdIdeal.τ) (Cert.ReluFwdIdeal.main (F := Ideal))) ⟨m, fun _ => 0, g⟩ (fun r => ∀ c : Dev Cert.ReluFwdIdeal.nD,
          r.2.mem ((c.tc : Thread Cert.ReluFwdIdeal.nD Cert.ReluFwdIdeal.τ).loc Cert.ReluFwdIdeal.main_v0) = v0 c
          ∧ r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
          ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1)
          ∧ r.2.mem ((c.tc : Thread Cert.ReluFwdIdeal.nD Cert.ReluFwdIdeal.τ).loc Cert.ReluFwdIdeal.main_arg2) = m ((c.tc : Thread Cert.ReluFwdIdeal.nD Cert.ReluFwdIdeal.τ).loc Cert.ReluFwdIdeal.main_arg2))
      ∧ θ_run (Cert.ReluFwdRefIdeal.defs (F := Ideal)) (onTc (τ := Cert.ReluFwdRefIdeal.τ) (Cert.ReluFwdRefIdeal.main (F := Ideal))) ⟨m', fun _ => 0, g'⟩ (fun r => ∀ c : Dev Cert.ReluFwdRefIdeal.nD,
          r.2.mem ((c.tc : Thread Cert.ReluFwdRefIdeal.nD Cert.ReluFwdRefIdeal.τ).loc Cert.ReluFwdRefIdeal.main_v8) = v0 c
          ∧ r.2.mem ((c.tc : Thread Cert.ReluFwdRefIdeal.nD Cert.ReluFwdRefIdeal.τ).loc Cert.ReluFwdRefIdeal.main_arg0) = m' ((c.tc : Thread Cert.ReluFwdRefIdeal.nD Cert.ReluFwdRefIdeal.τ).loc Cert.ReluFwdRefIdeal.main_arg0)
          ∧ r.2.mem ((c.tc : Thread Cert.ReluFwdRefIdeal.nD Cert.ReluFwdRefIdeal.τ).loc Cert.ReluFwdRefIdeal.main_arg1) = m' ((c.tc : Thread Cert.ReluFwdRefIdeal.nD Cert.ReluFwdRefIdeal.τ).loc Cert.ReluFwdRefIdeal.main_arg1)
          ∧ r.2.mem ((c.tc : Thread Cert.ReluFwdRefIdeal.nD Cert.ReluFwdRefIdeal.τ).loc Cert.ReluFwdRefIdeal.main_arg2) = m' ((c.tc : Thread Cert.ReluFwdRefIdeal.nD Cert.ReluFwdRefIdeal.τ).loc Cert.ReluFwdRefIdeal.main_arg2))

def preserves_ReluW_ReluWIdeal : Prop :=
  True

def algebraic_ReluWIdeal_ReluWRefIdeal [hReluWIdeal : Cert.ReluWIdeal.Facts] [hReluWRefIdeal : Cert.ReluWRefIdeal.Facts] : Prop :=
  ∀ (m : (ℓ : Loc Cert.ReluWIdeal.nD Cert.ReluWIdeal.τ Cert.ReluWIdeal.sig) → Buf (Elt Ideal) ℓ) (g : Dev Cert.ReluWIdeal.nD → PrngReg)
    (m' : (ℓ : Loc Cert.ReluWRefIdeal.nD Cert.ReluWRefIdeal.τ Cert.ReluWRefIdeal.sig) → Buf (Elt Ideal) ℓ) (g' : Dev Cert.ReluWRefIdeal.nD → PrngReg), Pre_ReluWIdeal m →
    (∀ c : Dev Cert.ReluWIdeal.nD,
      m' ((c.tc : Thread Cert.ReluWRefIdeal.nD Cert.ReluWRefIdeal.τ).loc Cert.ReluWRefIdeal.main_arg0) = m ((c.tc : Thread Cert.ReluWIdeal.nD Cert.ReluWIdeal.τ).loc Cert.ReluWIdeal.main_arg0)
      ∧ m' ((c.tc : Thread Cert.ReluWRefIdeal.nD Cert.ReluWRefIdeal.τ).loc Cert.ReluWRefIdeal.main_arg1) = m ((c.tc : Thread Cert.ReluWIdeal.nD Cert.ReluWIdeal.τ).loc Cert.ReluWIdeal.main_arg1)
      ∧ m' ((c.tc : Thread Cert.ReluWRefIdeal.nD Cert.ReluWRefIdeal.τ).loc Cert.ReluWRefIdeal.main_arg2) = m ((c.tc : Thread Cert.ReluWIdeal.nD Cert.ReluWIdeal.τ).loc Cert.ReluWIdeal.main_arg2)) →
    ∃ (v0 : (c : Dev Cert.ReluWIdeal.nD) → Buf (Elt Ideal) ((c.tc : Thread Cert.ReluWIdeal.nD Cert.ReluWIdeal.τ).loc Cert.ReluWIdeal.main_v0)),
      θ_run (Cert.ReluWIdeal.defs (F := Ideal)) (onTc (τ := Cert.ReluWIdeal.τ) (Cert.ReluWIdeal.main (F := Ideal))) ⟨m, fun _ => 0, g⟩ (fun r => ∀ c : Dev Cert.ReluWIdeal.nD,
          r.2.mem ((c.tc : Thread Cert.ReluWIdeal.nD Cert.ReluWIdeal.τ).loc Cert.ReluWIdeal.main_v0) = v0 c
          ∧ r.2.mem ((c.tc : Thread Cert.ReluWIdeal.nD Cert.ReluWIdeal.τ).loc Cert.ReluWIdeal.main_arg0) = m ((c.tc : Thread Cert.ReluWIdeal.nD Cert.ReluWIdeal.τ).loc Cert.ReluWIdeal.main_arg0)
          ∧ r.2.mem ((c.tc : Thread Cert.ReluWIdeal.nD Cert.ReluWIdeal.τ).loc Cert.ReluWIdeal.main_arg1) = m ((c.tc : Thread Cert.ReluWIdeal.nD Cert.ReluWIdeal.τ).loc Cert.ReluWIdeal.main_arg1)
          ∧ r.2.mem ((c.tc : Thread Cert.ReluWIdeal.nD Cert.ReluWIdeal.τ).loc Cert.ReluWIdeal.main_arg2) = m ((c.tc : Thread Cert.ReluWIdeal.nD Cert.ReluWIdeal.τ).loc Cert.ReluWIdeal.main_arg2))
      ∧ θ_run (Cert.ReluWRefIdeal.defs (F := Ideal)) (onTc (τ := Cert.ReluWRefIdeal.τ) (Cert.ReluWRefIdeal.main (F := Ideal))) ⟨m', fun _ => 0, g'⟩ (fun r => ∀ c : Dev Cert.ReluWRefIdeal.nD,
          r.2.mem ((c.tc : Thread Cert.ReluWRefIdeal.nD Cert.ReluWRefIdeal.τ).loc Cert.ReluWRefIdeal.main_v10) = v0 c
          ∧ r.2.mem ((c.tc : Thread Cert.ReluWRefIdeal.nD Cert.ReluWRefIdeal.τ).loc Cert.ReluWRefIdeal.main_arg0) = m' ((c.tc : Thread Cert.ReluWRefIdeal.nD Cert.ReluWRefIdeal.τ).loc Cert.ReluWRefIdeal.main_arg0)
          ∧ r.2.mem ((c.tc : Thread Cert.ReluWRefIdeal.nD Cert.ReluWRefIdeal.τ).loc Cert.ReluWRefIdeal.main_arg1) = m' ((c.tc : Thread Cert.ReluWRefIdeal.nD Cert.ReluWRefIdeal.τ).loc Cert.ReluWRefIdeal.main_arg1)
          ∧ r.2.mem ((c.tc : Thread Cert.ReluWRefIdeal.nD Cert.ReluWRefIdeal.τ).loc Cert.ReluWRefIdeal.main_arg2) = m' ((c.tc : Thread Cert.ReluWRefIdeal.nD Cert.ReluWRefIdeal.τ).loc Cert.ReluWRefIdeal.main_arg2))

def preserves_BranchFwd_BranchFwdIdeal : Prop :=
  IdealRules.named_const.Statement Cert.BranchFwdIdeal.κ "gelu_k" .f32 0x3D372713#32 ((8943 / 200000 : ℝ) : EReal)

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v9) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)
      ∧ m' ((c.tc : Thread Cert.StepUpRefIdeal.nD Cert.StepUpRefIdeal.τ).loc Cert.StepUpRefIdeal.main_arg4) = m ((c.tc : Thread Cert.StepUpIdeal.nD Cert.StepUpIdeal.τ).loc Cert.StepUpIdeal.main_arg4)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v2) = v0 c
          ∧ r.2.mem ((c.tc : Thread Cert.StepUpRefIdeal.nD Cert.StepUpRefIdeal.τ).loc Cert.StepUpRefIdeal.main_v26) = v1 c
          ∧ r.2.mem ((c.tc : Thread Cert.StepUpRefIdeal.nD Cert.StepUpRefIdeal.τ).loc Cert.StepUpRefIdeal.main_v7) = v2 c
          ∧ r.2.mem ((c.tc : Thread Cert.StepUpRefIdeal.nD Cert.StepUpRefIdeal.τ).loc Cert.StepUpRefIdeal.main_v13) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3)
          ∧ r.2.mem ((c.tc : Thread Cert.StepUpRefIdeal.nD Cert.StepUpRefIdeal.τ).loc Cert.StepUpRefIdeal.main_arg4) = m' ((c.tc : Thread Cert.StepUpRefIdeal.nD Cert.StepUpRefIdeal.τ).loc Cert.StepUpRefIdeal.main_arg4))

def preserves_Grads_GradsIdeal : Prop :=
  True

def algebraic_GradsIdeal_GradsRefIdeal [hGradsIdeal : Cert.GradsIdeal.Facts] [hGradsRefIdeal : Cert.GradsRefIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsRefIdeal.nD Cert.GradsRefIdeal.τ Cert.GradsRefIdeal.sig) → Buf (Elt Ideal) ℓ) (g' : Dev Cert.GradsRefIdeal.nD → PrngReg), Pre_GradsIdeal m →
    (∀ c : Dev Cert.GradsIdeal.nD,
      m' ((c.tc : Thread Cert.GradsRefIdeal.nD Cert.GradsRefIdeal.τ).loc Cert.GradsRefIdeal.main_arg0) = m ((c.tc : Thread Cert.GradsIdeal.nD Cert.GradsIdeal.τ).loc Cert.GradsIdeal.main_arg0)
      ∧ m' ((c.tc : Thread Cert.GradsRefIdeal.nD Cert.GradsRefIdeal.τ).loc Cert.GradsRefIdeal.main_arg1) = m ((c.tc : Thread Cert.GradsIdeal.nD Cert.GradsIdeal.τ).loc Cert.GradsIdeal.main_arg1)
      ∧ m' ((c.tc : Thread Cert.GradsRefIdeal.nD Cert.GradsRefIdeal.τ).loc Cert.GradsRefIdeal.main_arg2) = m ((c.tc : Thread Cert.GradsIdeal.nD Cert.GradsIdeal.τ).loc Cert.GradsIdeal.main_arg2)
      ∧ m' ((c.tc : Thread Cert.GradsRefIdeal.nD Cert.GradsRefIdeal.τ).loc Cert.GradsRefIdeal.main_arg3) = m ((c.tc : Thread Cert.GradsIdeal.nD Cert.GradsIdeal.τ).loc Cert.GradsIdeal.main_arg3)
      ∧ m' ((c.tc : Thread Cert.GradsRefIdeal.nD Cert.GradsRefIdeal.τ).loc Cert.GradsRefIdeal.main_arg4) = m ((c.tc : Thread Cert.GradsIdeal.nD Cert.GradsIdeal.τ).loc Cert.GradsIdeal.main_arg4)
      ∧ m' ((c.tc : Thread Cert.GradsRefIdeal.nD Cert.GradsRefIdeal.τ).loc Cert.GradsRefIdeal.main_arg5) = m ((c.tc : Thread Cert.GradsIdeal.nD Cert.GradsIdeal.τ).loc Cert.GradsIdeal.main_arg5)
      ∧ m' ((c.tc : Thread Cert.GradsRefIdeal.nD Cert.GradsRefIdeal.τ).loc Cert.GradsRefIdeal.main_arg6) = m ((c.tc : Thread Cert.GradsIdeal.nD Cert.GradsIdeal.τ).loc Cert.GradsIdeal.main_arg6)
      ∧ m' ((c.tc : Thread Cert.GradsRefIdeal.nD Cert.GradsRefIdeal.τ).loc Cert.GradsRefIdeal.main_arg7) = m ((c.tc : Thread Cert.GradsIdeal.nD Cert.GradsIdeal.τ).loc Cert.GradsIdeal.main_arg7)
      ∧ m' ((c.tc : Thread Cert.GradsRefIdeal.nD Cert.GradsRefIdeal.τ).loc Cert.GradsRefIdeal.main_arg8) = m ((c.tc : Thread Cert.GradsIdeal.nD Cert.GradsIdeal.τ).loc Cert.GradsIdeal.main_arg8)) →
    ∃ (v0 : (c : Dev Cert.GradsIdeal.nD) → Buf (Elt Ideal) ((c.tc : Thread Cert.GradsIdeal.nD Cert.GradsIdeal.τ).loc Cert.GradsIdeal.main_v0_0)) (v1 : (c : Dev Cert.GradsIdeal.nD) → Buf (Elt Ideal) ((c.tc : Thread Cert.GradsIdeal.nD Cert.GradsIdeal.τ).loc Cert.GradsIdeal.main_v0_1)) (v2 : (c : Dev Cert.GradsIdeal.nD) → Buf (Elt Ideal) ((c.tc : Thread Cert.GradsIdeal.nD Cert.GradsIdeal.τ).loc Cert.GradsIdeal.main_v0_2)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v0_0) = v0 c
          ∧ r.2.mem ((c.tc : Thread Cert.GradsIdeal.nD Cert.GradsIdeal.τ).loc Cert.GradsIdeal.main_v0_1) = v1 c
          ∧ r.2.mem ((c.tc : Thread Cert.GradsIdeal.nD Cert.GradsIdeal.τ).loc Cert.GradsIdeal.main_v0_2) = v2 c
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
          ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
          ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
          ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
          ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4)
          ∧ r.2.mem ((c.tc : Thread Cert.GradsIdeal.nD Cert.GradsIdeal.τ).loc Cert.GradsIdeal.main_arg5) = m ((c.tc : Thread Cert.GradsIdeal.nD Cert.GradsIdeal.τ).loc Cert.GradsIdeal.main_arg5)
          ∧ r.2.mem ((c.tc : Thread Cert.GradsIdeal.nD Cert.GradsIdeal.τ).loc Cert.GradsIdeal.main_arg6) = m ((c.tc : Thread Cert.GradsIdeal.nD Cert.GradsIdeal.τ).loc Cert.GradsIdeal.main_arg6)
          ∧ r.2.mem ((c.tc : Thread Cert.GradsIdeal.nD Cert.GradsIdeal.τ).loc Cert.GradsIdeal.main_arg7) = m ((c.tc : Thread Cert.GradsIdeal.nD Cert.GradsIdeal.τ).loc Cert.GradsIdeal.main_arg7)
          ∧ r.2.mem ((c.tc : Thread Cert.GradsIdeal.nD Cert.GradsIdeal.τ).loc Cert.GradsIdeal.main_arg8) = m ((c.tc : Thread Cert.GradsIdeal.nD Cert.GradsIdeal.τ).loc Cert.GradsIdeal.main_arg8))
      ∧ θ_run (Cert.GradsRefIdeal.defs (F := Ideal)) (onTc (τ := Cert.GradsRefIdeal.τ) (Cert.GradsRefIdeal.main (F := Ideal))) ⟨m', fun _ => 0, g'⟩ (fun r => ∀ c : Dev Cert.GradsRefIdeal.nD,
          r.2.mem ((c.tc : Thread Cert.GradsRefIdeal.nD Cert.GradsRefIdeal.τ).loc Cert.GradsRefIdeal.main_v24) = v0 c
          ∧ r.2.mem ((c.tc : Thread Cert.GradsRefIdeal.nD Cert.GradsRefIdeal.τ).loc Cert.GradsRefIdeal.main_v25) = v1 c
          ∧ r.2.mem ((c.tc : Thread Cert.GradsRefIdeal.nD Cert.GradsRefIdeal.τ).loc Cert.GradsRefIdeal.main_v26) = v2 c
          ∧ r.2.mem ((c.tc : Thread Cert.GradsRefIdeal.nD Cert.GradsRefIdeal.τ).loc Cert.GradsRefIdeal.main_arg0) = m' ((c.tc : Thread Cert.GradsRefIdeal.nD Cert.GradsRefIdeal.τ).loc Cert.GradsRefIdeal.main_arg0)
          ∧ r.2.mem ((c.tc : Thread Cert.GradsRefIdeal.nD Cert.GradsRefIdeal.τ).loc Cert.GradsRefIdeal.main_arg1) = m' ((c.tc : Thread Cert.GradsRefIdeal.nD Cert.GradsRefIdeal.τ).loc Cert.GradsRefIdeal.main_arg1)
          ∧ r.2.mem ((c.tc : Thread Cert.GradsRefIdeal.nD Cert.GradsRefIdeal.τ).loc Cert.GradsRefIdeal.main_arg2) = m' ((c.tc : Thread Cert.GradsRefIdeal.nD Cert.GradsRefIdeal.τ).loc Cert.GradsRefIdeal.main_arg2)
          ∧ r.2.mem ((c.tc : Thread Cert.GradsRefIdeal.nD Cert.GradsRefIdeal.τ).loc Cert.GradsRefIdeal.main_arg3) = m' ((c.tc : Thread Cert.GradsRefIdeal.nD Cert.GradsRefIdeal.τ).loc Cert.GradsRefIdeal.main_arg3)
          ∧ r.2.mem ((c.tc : Thread Cert.GradsRefIdeal.nD Cert.GradsRefIdeal.τ).loc Cert.GradsRefIdeal.main_arg4) = m' ((c.tc : Thread Cert.GradsRefIdeal.nD Cert.GradsRefIdeal.τ).loc Cert.GradsRefIdeal.main_arg4)
          ∧ r.2.mem ((c.tc : Thread Cert.GradsRefIdeal.nD Cert.GradsRefIdeal.τ).loc Cert.GradsRefIdeal.main_arg5) = m' ((c.tc : Thread Cert.GradsRefIdeal.nD Cert.GradsRefIdeal.τ).loc Cert.GradsRefIdeal.main_arg5)
          ∧ r.2.mem ((c.tc : Thread Cert.GradsRefIdeal.nD Cert.GradsRefIdeal.τ).loc Cert.GradsRefIdeal.main_arg6) = m' ((c.tc : Thread Cert.GradsRefIdeal.nD Cert.GradsRefIdeal.τ).loc Cert.GradsRefIdeal.main_arg6)
          ∧ r.2.mem ((c.tc : Thread Cert.GradsRefIdeal.nD Cert.GradsRefIdeal.τ).loc Cert.GradsRefIdeal.main_arg7) = m' ((c.tc : Thread Cert.GradsRefIdeal.nD Cert.GradsRefIdeal.τ).loc Cert.GradsRefIdeal.main_arg7)
          ∧ r.2.mem ((c.tc : Thread Cert.GradsRefIdeal.nD Cert.GradsRefIdeal.τ).loc Cert.GradsRefIdeal.main_arg8) = m' ((c.tc : Thread Cert.GradsRefIdeal.nD Cert.GradsRefIdeal.τ).loc Cert.GradsRefIdeal.main_arg8))

def Claim : Prop :=
  ∃ (hRelu : Cert.Relu.Facts) (hReluIdeal : Cert.ReluIdeal.Facts) (hReluRefIdeal : Cert.ReluRefIdeal.Facts) (hMerge : Cert.Merge.Facts) (hMergeIdeal : Cert.MergeIdeal.Facts) (hMergeRefIdeal : Cert.MergeRefIdeal.Facts) (hSgu : Cert.Sgu.Facts) (hSguIdeal : Cert.SguIdeal.Facts) (hSguRefIdeal : Cert.SguRefIdeal.Facts) (hSguFwd : Cert.SguFwd.Facts) (hSguFwdIdeal : Cert.SguFwdIdeal.Facts) (hSguFwdRefIdeal : Cert.SguFwdRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hMergeFwd : Cert.MergeFwd.Facts) (hMergeFwdIdeal : Cert.MergeFwdIdeal.Facts) (hMergeFwdRefIdeal : Cert.MergeFwdRefIdeal.Facts) (hUp : Cert.Up.Facts) (hUpIdeal : Cert.UpIdeal.Facts) (hUpRefIdeal : Cert.UpRefIdeal.Facts) (hNormFwd : Cert.NormFwd.Facts) (hNormFwdIdeal : Cert.NormFwdIdeal.Facts) (hNormFwdRefIdeal : Cert.NormFwdRefIdeal.Facts) (hReluFwd : Cert.ReluFwd.Facts) (hReluFwdIdeal : Cert.ReluFwdIdeal.Facts) (hReluFwdRefIdeal : Cert.ReluFwdRefIdeal.Facts) (hReluW : Cert.ReluW.Facts) (hReluWIdeal : Cert.ReluWIdeal.Facts) (hReluWRefIdeal : Cert.ReluWRefIdeal.Facts) (hBranchFwd : Cert.BranchFwd.Facts) (hBranchFwdIdeal : Cert.BranchFwdIdeal.Facts) (hBranchFwdRefIdeal : Cert.BranchFwdRefIdeal.Facts) (hUpW : Cert.UpW.Facts) (hUpWIdeal : Cert.UpWIdeal.Facts) (hUpWRefIdeal : Cert.UpWRefIdeal.Facts) (hStepUp : Cert.StepUp.Facts) (hStepUpIdeal : Cert.StepUpIdeal.Facts) (hStepUpRefIdeal : Cert.StepUpRefIdeal.Facts) (hGrads : Cert.Grads.Facts) (hGradsIdeal : Cert.GradsIdeal.Facts) (hGradsRefIdeal : Cert.GradsRefIdeal.Facts) (hPre_sgu_finite : Cert.Pre_sgu_finite.Facts) (hPre_norm_finite : Cert.Pre_norm_finite.Facts) (hPre_loss_finite : Cert.Pre_loss_finite.Facts) (hPre_up_finite : Cert.Pre_up_finite.Facts),
    quiescent_Relu (hRelu := hRelu)
    ∧ quiescent_ReluIdeal (hReluIdeal := hReluIdeal)
    ∧ quiescent_ReluRefIdeal (hReluRefIdeal := hReluRefIdeal)
    ∧ quiescent_Merge (hMerge := hMerge)
    ∧ quiescent_MergeIdeal (hMergeIdeal := hMergeIdeal)
    ∧ quiescent_MergeRefIdeal (hMergeRefIdeal := hMergeRefIdeal)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ReluFwd (hReluFwd := hReluFwd)
    ∧ quiescent_ReluFwdIdeal (hReluFwdIdeal := hReluFwdIdeal)
    ∧ quiescent_ReluFwdRefIdeal (hReluFwdRefIdeal := hReluFwdRefIdeal)
    ∧ quiescent_ReluW (hReluW := hReluW)
    ∧ quiescent_ReluWIdeal (hReluWIdeal := hReluWIdeal)
    ∧ quiescent_ReluWRefIdeal (hReluWRefIdeal := hReluWRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_UpW (hUpW := hUpW)
    ∧ quiescent_UpWIdeal (hUpWIdeal := hUpWIdeal)
    ∧ quiescent_UpWRefIdeal (hUpWRefIdeal := hUpWRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_Grads (hGrads := hGrads)
    ∧ quiescent_GradsIdeal (hGradsIdeal := hGradsIdeal)
    ∧ quiescent_GradsRefIdeal (hGradsRefIdeal := hGradsRefIdeal)
    ∧ preserves_Relu_ReluIdeal
    ∧ algebraic_ReluIdeal_ReluRefIdeal (hReluIdeal := hReluIdeal) (hReluRefIdeal := hReluRefIdeal)
    ∧ preserves_Merge_MergeIdeal
    ∧ algebraic_MergeIdeal_MergeRefIdeal (hMergeIdeal := hMergeIdeal) (hMergeRefIdeal := hMergeRefIdeal)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_SguFwd_SguFwdIdeal
    ∧ algebraic_SguFwdIdeal_SguFwdRefIdeal (hSguFwdIdeal := hSguFwdIdeal) (hSguFwdRefIdeal := hSguFwdRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_NormFwd_NormFwdIdeal
    ∧ algebraic_NormFwdIdeal_NormFwdRefIdeal (hNormFwdIdeal := hNormFwdIdeal) (hNormFwdRefIdeal := hNormFwdRefIdeal)
    ∧ preserves_ReluFwd_ReluFwdIdeal
    ∧ algebraic_ReluFwdIdeal_ReluFwdRefIdeal (hReluFwdIdeal := hReluFwdIdeal) (hReluFwdRefIdeal := hReluFwdRefIdeal)
    ∧ preserves_ReluW_ReluWIdeal
    ∧ algebraic_ReluWIdeal_ReluWRefIdeal (hReluWIdeal := hReluWIdeal) (hReluWRefIdeal := hReluWRefIdeal)
    ∧ preserves_BranchFwd_BranchFwdIdeal
    ∧ preserves_UpW_UpWIdeal
    ∧ algebraic_UpWIdeal_UpWRefIdeal (hUpWIdeal := hUpWIdeal) (hUpWRefIdeal := hUpWRefIdeal)
    ∧ preserves_StepUp_StepUpIdeal
    ∧ algebraic_StepUpIdeal_StepUpRefIdeal (hStepUpIdeal := hStepUpIdeal) (hStepUpRefIdeal := hStepUpRefIdeal)
    ∧ preserves_Grads_GradsIdeal
    ∧ algebraic_GradsIdeal_GradsRefIdeal (hGradsIdeal := hGradsIdeal) (hGradsRefIdeal := hGradsRefIdeal)
-- ==== Pre_loss_finite.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : FVec F S1024 .f32) (main_arg4 : FVec F S4096x1024 .f32) (main_v16 : IVec S_ 1) : IVec S_ 1 :=
  let main_v17 : FVec F S1024 .f32 := Host.absf main_arg3
  let main_cst_5 : FVec F S_ .f32 := constant S_ .f32 0x7F800000#32
  let main_v18 : FVec F S1024 .f32 := broadcastInDim S1024 ![] bcast_S_S1024 main_cst_5
  let main_v19 : IVec S1024 1 := cmpf .olt main_v17 main_v18
  let main_c_6 : IVec S_ 1 := constantI S_ 1 1#1
  let main_v20 : IVec S_ 1 := (fun x v => Host.reduce IntOp.andi x v reducesTo_S1024_S_d0 h_S_) main_v19 main_c_6
  let main_v21 : IVec S_ 1 := andi main_v16 main_v20
  let main_v22 : FVec F S4096x1024 .f32 := Host.absf main_arg4
  let main_cst_7 : FVec F S_ .f32 := constant S_ .f32 0x7F800000#32
  let main_v23 : FVec F S4096x1024 .f32 := broadcastInDim S4096x1024 ![] bcast_S_S4096x1024 main_cst_7
  let main_v24 : IVec S4096x1024 1 := cmpf .olt main_v22 main_v23
  let main_c_8 : IVec S_ 1 := constantI S_ 1 1#1
  let main_v25 : IVec S_ 1 := (fun x v => Host.reduce IntOp.andi x v reducesTo_S4096x1024_S_d0_1 h_S_) main_v24 main_c_8
  let main_v26 : IVec S_ 1 := andi main_v21 main_v25
  main_v26

def fn {F : FTy → Type} [FloatOps F] (main_arg0 : FVec F S4096x4096 .bf16) (main_arg1 : FVec F S4096x1024 .bf16) (main_arg2 : FVec F S4096x1024 .f32) (main_arg3 : FVec F S1024 .f32) (main_arg4 : FVec F S4096x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_c_0 : IVec S_ 1 := constantI S_ 1 1#1
  let main_v5 : IVec S_ 1 := andi main_c_0 main_v4
  let main_v6 : FVec F S4096x1024 .f32 := (extf .f32 · bitsLt_bf16_f32) main_arg1
  let main_v7 : FVec F S4096x1024 .f32 := Host.absf main_v6
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_c_2 : IVec S_ 1 := constantI S_ 1 1#1
  let main_v10 : IVec S_ 1 := (fun x v => Host.reduce IntOp.andi x v reducesTo_S4096x1024_S_d0_1 h_S_) main_v9 main_c_2
  let main_v11 : IVec S_ 1 := andi main_v5 main_v10
  let main_v12 : FVec F S4096x1024 .f32 := Host.absf main_arg2
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_c_4 : IVec S_ 1 := constantI S_ 1 1#1
  let main_v15 : IVec S_ 1 := (fun x v => Host.reduce IntOp.andi x v reducesTo_S4096x1024_S_d0_1 h_S_) main_v14 main_c_4
  let main_v16 : IVec S_ 1 := andi main_v11 main_v15
  fn_part1 (F := F) main_arg3 main_arg4 main_v16
-- ==== Pre_norm_finite.lean ====
abbrev S4096x1280 : Shape := ⟨2, ![4096, 1280]⟩
abbrev S4096x1024 : Shape := ⟨2, ![4096, 1024]⟩
abbrev S1024x6656 : Shape := ⟨2, ![1024, 6656]⟩
abbrev S1024 : Shape := ⟨1, ![1024]⟩
abbrev S_ : Shape := ⟨0, ![]⟩

class Facts : Prop where
  bitsLt_bf16_f32 : FTy.bits .bf16 < FTy.bits .f32
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x6656 : S_.BroadcastsInDim S1024x6656 (![] : Fin 0 → Fin S1024x6656.rank)
  reducesTo_S1024x6656_S_d0_1 : S1024x6656.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg6 : FVec F S1024x6656 .bf16) (main_arg7 : FVec F S4096x1024 .f32) (main_arg8 : FVec F S1024 .f32) (main_v29 : IVec S_ 1) (main_v34 : IVec S_ 1) : IVec S_ 1 :=
  let main_v35 : IVec S_ 1 := andi main_v29 main_v34
  let main_v36 : FVec F S1024x6656 .f32 := (extf .f32 · bitsLt_bf16_f32) main_arg6
  let main_v37 : FVec F S1024x6656 .f32 := Host.absf main_v36
  let main_cst_11 : FVec F S_ .f32 := constant S_ .f32 0x7F800000#32
  let main_v38 : FVec F S1024x6656 .f32 := broadcastInDim S1024x6656 ![] bcast_S_S1024x6656 main_cst_11
  let main_v39 : IVec S1024x6656 1 := cmpf .olt main_v37 main_v38
  let main_c_12 : IVec S_ 1 := constantI S_ 1 1#1
  let main_v40 : IVec S_ 1 := (fun x v => Host.reduce IntOp.andi x v reducesTo_S1024x6656_S_d0_1 h_S_) main_v39 main_c_12
  let main_v41 : IVec S_ 1 := andi main_v35 main_v40
  let main_v42 : FVec F S4096x1024 .f32 := Host.absf main_arg7
  let main_cst_13 : FVec F S_ .f32 := constant S_ .f32 0x7F800000#32
  let main_v43 : FVec F S4096x1024 .f32 := broadcastInDim S4096x1024 ![] bcast_S_S4096x1024 main_cst_13
  let main_v44 : IVec S4096x1024 1 := cmpf .olt main_v42 main_v43
  let main_c_14 : IVec S_ 1 := constantI S_ 1 1#1
  let main_v45 : IVec S_ 1 := (fun x v => Host.reduce IntOp.andi x v reducesTo_S4096x1024_S_d0_1 h_S_) main_v44 main_c_14
  let main_v46 : IVec S_ 1 := andi main_v41 main_v45
  let main_v47 : FVec F S1024 .f32 := Host.absf main_arg8
  let main_cst_15 : FVec F S_ .f32 := constant S_ .f32 0x7F800000#32
  let main_v48 : FVec F S1024 .f32 := broadcastInDim S1024 ![] bcast_S_S1024 main_cst_15
  let main_v49 : IVec S1024 1 := cmpf .olt main_v47 main_v48
  let main_c_16 : IVec S_ 1 := constantI S_ 1 1#1
  let main_v50 : IVec S_ 1 := (fun x v => Host.reduce IntOp.andi x v reducesTo_S1024_S_d0 h_S_) main_v49 main_c_16
  let main_v51 : IVec S_ 1 := andi main_v46 main_v50
  main_v51

def fn_part1 {F : FTy → Type} [FloatOps F] (main_arg3 : FVec F S4096x1024 .bf16) (main_arg4 : FVec F S4096x1024 .bf16) (main_arg5 : FVec F S4096x1024 .bf16) (main_arg6 : FVec F S1024x6656 .bf16) (main_arg7 : FVec F S4096x1024 .f32) (main_arg8 : FVec F S1024 .f32) (main_v11 : IVec S_ 1) (main_v16 : IVec S_ 1) : IVec S_ 1 :=
  let main_v17 : IVec S_ 1 := andi main_v11 main_v16
  let main_v18 : FVec F S4096x1024 .f32 := (extf .f32 · bitsLt_bf16_f32) main_arg3
  let main_v19 : FVec F S4096x1024 .f32 := Host.absf main_v18
  let main_cst_5 : FVec F S_ .f32 := constant S_ .f32 0x7F800000#32
  let main_v20 : FVec F S4096x1024 .f32 := broadcastInDim S4096x1024 ![] bcast_S_S4096x1024 main_cst_5
  let main_v21 : IVec S4096x1024 1 := cmpf .olt main_v19 main_v20
  let main_c_6 : IVec S_ 1 := constantI S_ 1 1#1
  let main_v22 : IVec S_ 1 := (fun x v => Host.reduce IntOp.andi x v reducesTo_S4096x1024_S_d0_1 h_S_) main_v21 main_c_6
  let main_v23 : IVec S_ 1 := andi main_v17 main_v22
  let main_v24 : FVec F S4096x1024 .f32 := (extf .f32 · bitsLt_bf16_f32) main_arg4
  let main_v25 : FVec F S4096x1024 .f32 := Host.absf main_v24
  let main_cst_7 : FVec F S_ .f32 := constant S_ .f32 0x7F800000#32
  let main_v26 : FVec F S4096x1024 .f32 := broadcastInDim S4096x1024 ![] bcast_S_S4096x1024 main_cst_7
  let main_v27 : IVec S4096x1024 1 := cmpf .olt main_v25 main_v26
  let main_c_8 : IVec S_ 1 := constantI S_ 1 1#1
  let main_v28 : IVec S_ 1 := (fun x v => Host.reduce IntOp.andi x v reducesTo_S4096x1024_S_d0_1 h_S_) main_v27 main_c_8
  let main_v29 : IVec S_ 1 := andi main_v23 main_v28
  let main_v30 : FVec F S4096x1024 .f32 := (extf .f32 · bitsLt_bf16_f32) main_arg5
  let main_v31 : FVec F S4096x1024 .f32 := Host.absf main_v30
  let main_cst_9 : FVec F S_ .f32 := constant S_ .f32 0x7F800000#32
  let main_v32 : FVec F S4096x1024 .f32 := broadcastInDim S4096x1024 ![] bcast_S_S4096x1024 main_cst_9
  let main_v33 : IVec S4096x1024 1 := cmpf .olt main_v31 main_v32
  let main_c_10 : IVec S_ 1 := constantI S_ 1 1#1
  let main_v34 : IVec S_ 1 := (fun x v => Host.reduce IntOp.andi x v reducesTo_S4096x1024_S_d0_1 h_S_) main_v33 main_c_10
  fn_part2 (F := F) main_arg6 main_arg7 main_arg8 main_v29 main_v34

def fn {F : FTy → Type} [FloatOps F] (main_arg0 : FVec F S4096x1280 .bf16) (main_arg1 : FVec F S4096x1280 .bf16) (main_arg2 : FVec F S4096x1024 .bf16) (main_arg3 : FVec F S4096x1024 .bf16) (main_arg4 : FVec F S4096x1024 .bf16) (main_arg5 : FVec F S4096x1024 .bf16) (main_arg6 : FVec F S1024x6656 .bf16) (main_arg7 : FVec F S4096x1024 .f32) (main_arg8 : FVec F S1024 .f32) (main_arg9 : FVec F S4096x1024 .f32) : IVec S_ 1 :=
  let main_v0 : FVec F S4096x1280 .f32 := (extf .f32 · bitsLt_bf16_f32) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_c_0 : IVec S_ 1 := constantI S_ 1 1#1
  let main_v5 : IVec S_ 1 := andi main_c_0 main_v4
  let main_v6 : FVec F S4096x1280 .f32 := (extf .f32 · bitsLt_bf16_f32) main_arg1
  let main_v7 : FVec F S4096x1280 .f32 := Host.absf main_v6
  let main_cst_1 : FVec F S_ .f32 := constant S_ .f32 0x7F800000#32
  let main_v8 : FVec F S4096x1280 .f32 := broadcastInDim S4096x1280 ![] bcast_S_S4096x1280 main_cst_1
  let main_v9 : IVec S4096x1280 1 := cmpf .olt main_v7 main_v8
  let main_c_2 : IVec S_ 1 := constantI S_ 1 1#1
  let main_v10 : IVec S_ 1 := (fun x v => Host.reduce IntOp.andi x v reducesTo_S4096x1280_S_d0_1 h_S_) main_v9 main_c_2
  let main_v11 : IVec S_ 1 := andi main_v5 main_v10
  let main_v12 : FVec F S4096x1024 .f32 := (extf .f32 · bitsLt_bf16_f32) main_arg2
  let main_v13 : FVec F S4096x1024 .f32 := Host.absf main_v12
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  let main_c_4 : IVec S_ 1 := constantI S_ 1 1#1
  let main_v16 : IVec S_ 1 := (fun x v => Host.reduce IntOp.andi x v reducesTo_S4096x1024_S_d0_1 h_S_) main_v15 main_c_4
  fn_part1 (F := F) main_arg3 main_arg4 main_arg5 main_arg6 main_arg7 main_arg8 main_v11 main_v16
-- ==== Pre_sgu_finite.lean ====
abbrev S4096x1024 : Shape := ⟨2, ![4096, 1024]⟩
abbrev S4096x6656 : Shape := ⟨2, ![4096, 6656]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x6656 : S_.BroadcastsInDim S4096x6656 (![] : Fin 0 → Fin S4096x6656.rank)
  reducesTo_S4096x6656_S_d0_1 : S4096x6656.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg3 : FVec F S1024 .f32) (main_arg4 : FVec F S8x128x128 .f32) (main_arg5 : FVec F S8x128 .f32) (main_v16 : IVec S_ 1) : IVec S_ 1 :=
  let main_v17 : FVec F S1024 .f32 := Host.absf main_arg3
  let main_cst_5 : FVec F S_ .f32 := constant S_ .f32 0x7F800000#32
  let main_v18 : FVec F S1024 .f32 := broadcastInDim S1024 ![] bcast_S_S1024 main_cst_5
  let main_v19 : IVec S1024 1 := cmpf .olt main_v17 main_v18
  let main_c_6 : IVec S_ 1 := constantI S_ 1 1#1
  let main_v20 : IVec S_ 1 := (fun x v => Host.reduce IntOp.andi x v reducesTo_S1024_S_d0 h_S_) main_v19 main_c_6
  let main_v21 : IVec S_ 1 := andi main_v16 main_v20
  let main_v22 : FVec F S8x128x128 .f32 := Host.absf main_arg4
  let main_cst_7 : FVec F S_ .f32 := constant S_ .f32 0x7F800000#32
  let main_v23 : FVec F S8x128x128 .f32 := broadcastInDim S8x128x128 ![] bcast_S_S8x128x128 main_cst_7
  let main_v24 : IVec S8x128x128 1 := cmpf .olt main_v22 main_v23
  let main_c_8 : IVec S_ 1 := constantI S_ 1 1#1
  let main_v25 : IVec S_ 1 := (fun x v => Host.reduce IntOp.andi x v reducesTo_S8x128x128_S_d0_1_2 h_S_) main_v24 main_c_8
  let main_v26 : IVec S_ 1 := andi main_v21 main_v25
  let main_v27 : FVec F S8x128 .f32 := Host.absf main_arg5
  let main_cst_9 : FVec F S_ .f32 := constant S_ .f32 0x7F800000#32
  let main_v28 : FVec F S8x128 .f32 := broadcastInDim S8x128 ![] bcast_S_S8x128 main_cst_9
  let main_v29 : IVec S8x128 1 := cmpf .olt main_v27 main_v28
  let main_c_10 : IVec S_ 1 := constantI S_ 1 1#1
  let main_v30 : IVec S_ 1 := (fun x v => Host.reduce IntOp.andi x v reducesTo_S8x128_S_d0_1 h_S_) main_v29 main_c_10
  let main_v31 : IVec S_ 1 := andi main_v26 main_v30
  main_v31

def fn {F : FTy → Type} [FloatOps F] (main_arg0 : FVec F S4096x1024 .bf16) (main_arg1 : FVec F S4096x6656 .bf16) (main_arg2 : FVec F S1024 .f32) (main_arg3 : FVec F S1024 .f32) (main_arg4 : FVec F S8x128x128 .f32) (main_arg5 : FVec F S8x128 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_c_0 : IVec S_ 1 := constantI S_ 1 1#1
  let main_v5 : IVec S_ 1 := andi main_c_0 main_v4
  let main_v6 : FVec F S4096x6656 .f32 := (extf .f32 · bitsLt_bf16_f32) main_arg1
  let main_v7 : FVec F S4096x6656 .f32 := Host.absf main_v6
  let main_cst_1 : FVec F S_ .f32 := constant S_ .f32 0x7F800000#32
  let main_v8 : FVec F S4096x6656 .f32 := broadcastInDim S4096x6656 ![] bcast_S_S4096x6656 main_cst_1
  let main_v9 : IVec S4096x6656 1 := cmpf .olt main_v7 main_v8
  let main_c_2 : IVec S_ 1 := constantI S_ 1 1#1
  let main_v10 : IVec S_ 1 := (fun x v => Host.reduce IntOp.andi x v reducesTo_S4096x6656_S_d0_1 h_S_) main_v9 main_c_2
  let main_v11 : IVec S_ 1 := andi main_v5 main_v10
  let main_v12 : FVec F S1024 .f32 := Host.absf main_arg2
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_c_4 : IVec S_ 1 := constantI S_ 1 1#1
  let main_v15 : IVec S_ 1 := (fun x v => Host.reduce IntOp.andi x v reducesTo_S1024_S_d0 h_S_) main_v14 main_c_4
  let main_v16 : IVec S_ 1 := andi main_v11 main_v15
  fn_part1 (F := F) main_arg3 main_arg4 main_arg5 main_v16
-- ==== Pre_up_finite.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : FVec F S1024 .f32) (main_v16 : IVec S_ 1) : IVec S_ 1 :=
  let main_v17 : FVec F S1024 .f32 := Host.absf main_arg3
  let main_cst_5 : FVec F S_ .f32 := constant S_ .f32 0x7F800000#32
  let main_v18 : FVec F S1024 .f32 := broadcastInDim S1024 ![] bcast_S_S1024 main_cst_5
  let main_v19 : IVec S1024 1 := cmpf .olt main_v17 main_v18
  let main_c_6 : IVec S_ 1 := constantI S_ 1 1#1
  let main_v20 : IVec S_ 1 := (fun x v => Host.reduce IntOp.andi x v reducesTo_S1024_S_d0 h_S_) main_v19 main_c_6
  let main_v21 : IVec S_ 1 := andi main_v16 main_v20
  main_v21

def fn {F : FTy → Type} [FloatOps F] (main_arg0 : FVec F S4096x4096 .bf16) (main_arg1 : FVec F S1024x4096 .bf16) (main_arg2 : FVec F S4096x1024 .f32) (main_arg3 : FVec F S1024 .f32) (main_arg4 : FVec F S4096x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_c_0 : IVec S_ 1 := constantI S_ 1 1#1
  let main_v5 : IVec S_ 1 := andi main_c_0 main_v4
  let main_v6 : FVec F S1024x4096 .f32 := (extf .f32 · bitsLt_bf16_f32) main_arg1
  let main_v7 : FVec F S1024x4096 .f32 := Host.absf main_v6
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_c_2 : IVec S_ 1 := constantI S_ 1 1#1
  let main_v10 : IVec S_ 1 := (fun x v => Host.reduce IntOp.andi x v reducesTo_S1024x4096_S_d0_1 h_S_) main_v9 main_c_2
  let main_v11 : IVec S_ 1 := andi main_v5 main_v10
  let main_v12 : FVec F S4096x1024 .f32 := Host.absf main_arg2
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_c_4 : IVec S_ 1 := constantI S_ 1 1#1
  let main_v15 : IVec S_ 1 := (fun x v => Host.reduce IntOp.andi x v reducesTo_S4096x1024_S_d0_1 h_S_) main_v14 main_c_4
  let main_v16 : IVec S_ 1 := andi main_v11 main_v15
  fn_part1 (F := F) main_arg3 main_v16
-- ==== Relu.lean ====
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReluRefIdeal.lean ====
abbrev S4096x1024 : Shape := ⟨2, ![4096, 1024]⟩
abbrev S4096x4096 : Shape := ⟨2, ![4096, 4096]⟩
abbrev S1x4096x4096 : Shape := ⟨3, ![1, 4096, 4096]⟩
abbrev S_ : Shape := ⟨0, ![]⟩
abbrev S1x4096x1024 : Shape := ⟨3, ![1, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .hbm, ⟨3, _⟩ => ⟨S4096x4096, .f32⟩
  | .hbm, ⟨4, _⟩ => ⟨S1x4096x4096, .f32⟩
  | .hbm, ⟨5, _⟩ => ⟨S_, .f32⟩
  | .hbm, ⟨6, _⟩ => ⟨S1x4096x4096, .f32⟩
  | .hbm, ⟨7, _⟩ => ⟨S1x4096x4096, .f32⟩
  | .hbm, ⟨8, _⟩ => ⟨S_, .f32⟩
  | .hbm, ⟨9, _⟩ => ⟨S1x4096x4096, .f32⟩
  | .hbm, ⟨10, _⟩ => ⟨S1x4096x4096, .i1⟩
  | .hbm, ⟨11, _⟩ => ⟨S_, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .f32⟩
  | .hbm, ⟨17, _⟩ => ⟨S4096x1024, .f32⟩
  | .hbm, ⟨18, _⟩ => ⟨S1x4096x1024, .f32⟩
  | .hbm, ⟨19, _⟩ => ⟨S4096x1024, .f32⟩
  | .hbm, ⟨20, _⟩ => ⟨S1x4096x1024, .f32⟩
  | .hbm, ⟨21, _⟩ => ⟨S1x4096x4096, .f32⟩
  | .hbm, ⟨22, _⟩ => ⟨S1x4096x4096, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S4096x4096, .f32⟩
  | .hbm, ⟨27, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Merge.lean ====
abbrev S4096x1024 : Shape := ⟨2, ![4096, 1024]⟩
abbrev S4096x1280 : Shape := ⟨2, ![4096, 1280]⟩
abbrev S4096x6656 : Shape := ⟨2, ![4096, 6656]⟩
abbrev S1280x1024 : Shape := ⟨2, ![1280, 1024]⟩
abbrev S1024x1024 : Shape := ⟨2, ![1024, 1024]⟩
abbrev S512x1024 : Shape := ⟨2, ![512, 1024]⟩
abbrev S512x512 : Shape := ⟨2, ![512, 512]⟩
abbrev S512x1280 : Shape := ⟨2, ![512, 1280]⟩

abbrev nBuf : Space → Nat
  | .hbm => 18
  | .vmem => 31
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S4096x1024, .bf16⟩
  | .hbm, ⟨3, _⟩ => ⟨S4096x6656, .bf16⟩
  | .hbm, ⟨4, _⟩ => ⟨S1280x1024, .bf16⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1280, .bf16⟩
  | .hbm, ⟨17, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1280x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1280, .bf16⟩
  | .local _ .vmem, ⟨28, _⟩ => ⟨S512x1280, .bf16⟩
  | .local _ .vmem, ⟨29, _⟩ => ⟨S512x1024, .bf16⟩
  | .local _ .vmem, ⟨30, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1280 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S4096x1024 : Shape := ⟨2, ![4096, 1024]⟩
abbrev S4096x1280 : Shape := ⟨2, ![4096, 1280]⟩
abbrev S4096x6656 : Shape := ⟨2, ![4096, 6656]⟩
abbrev S1280x1024 : Shape := ⟨2, ![1280, 1024]⟩
abbrev S1024x1024 : Shape := ⟨2, ![1024, 1024]⟩
abbrev S1x4096x6656 : Shape := ⟨3, ![1, 4096, 6656]⟩
abbrev S1x4096x1280 : Shape := ⟨3, ![1, 4096, 1280]⟩
abbrev S1x4096x1024 : Shape := ⟨3, ![1, 4096, 1024]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S4096x1024, .bf16⟩
  | .hbm, ⟨3, _⟩ => ⟨S4096x6656, .bf16⟩
  | .hbm, ⟨4, _⟩ => ⟨S1280x1024, .bf16⟩
  | .hbm, ⟨5, _⟩ => ⟨S1024x1024, .bf16⟩
  | .hbm, ⟨6, _⟩ => ⟨S1024x1024, .bf16⟩
  | .hbm, ⟨7, _⟩ => ⟨S4096x6656, .f32⟩
  | .hbm, ⟨8, _⟩ => ⟨S1x4096x6656, .f32⟩
  | .hbm, ⟨9, _⟩ => ⟨S1x4096x1280, .f32⟩
  | .hbm, ⟨10, _⟩ => ⟨S1x4096x1280, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S4096x1280, .f32⟩
  | .hbm, ⟨16, _⟩ => ⟨S1x4096x1280, .f32⟩
  | .hbm, ⟨17, _⟩ => ⟨S4096x1024, .f32⟩
  | .hbm, ⟨18, _⟩ => ⟨S1x4096x1024, .f32⟩
  | .hbm, ⟨19, _⟩ => ⟨S1280x1024, .f32⟩
  | .hbm, ⟨20, _⟩ => ⟨S1x4096x1024, .f32⟩
  | .hbm, ⟨21, _⟩ => ⟨S1024x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1024x1024, .f32⟩
  | .hbm, ⟨51, _⟩ => ⟨S1x4096x1024, .f32⟩
  | .hbm, ⟨52, _⟩ => ⟨S4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1280, .f32⟩
  | .hbm, ⟨63, _⟩ => ⟨S4096x1024, .f32⟩
  | .hbm, ⟨64, _⟩ => ⟨S4096x1024, .bf16⟩
  | .hbm, ⟨65, _⟩ => ⟨S4096x1024, .f32⟩
  | .hbm, ⟨66, _⟩ => ⟨S4096x1024, .bf16⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .bf16⟩
  | .hbm, ⟨73, _⟩ => ⟨S4096x1280, .f32⟩
  | .hbm, ⟨74, _⟩ => ⟨S4096x1280, .bf16⟩
  | .hbm, ⟨75, _⟩ => ⟨S4096x1024, .f32⟩
  | .hbm, ⟨76, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Sgu.lean ====
abbrev S4096x1024 : Shape := ⟨2, ![4096, 1024]⟩
abbrev S4096x6656 : Shape := ⟨2, ![4096, 6656]⟩
abbrev S1024 : Shape := ⟨1, ![1024]⟩
abbrev S8x128x128 : Shape := ⟨3, ![8, 128, 128]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x1 : Shape := ⟨3, ![8, 128, 1]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 47
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x6656, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .f32⟩
  | .hbm, ⟨31, _⟩ => ⟨S1x128x128, .f32⟩
  | .hbm, ⟨32, _⟩ => ⟨S8x128x128, .f32⟩
  | .hbm, ⟨33, _⟩ => ⟨S8x128x128, .f32⟩
  | .hbm, ⟨34, _⟩ => ⟨S8x128x1, .f32⟩
  | .hbm, ⟨35, _⟩ => ⟨S8x128x128, .f32⟩
  | .hbm, ⟨36, _⟩ => ⟨S1x1024, .f32⟩
  | .hbm, ⟨37, _⟩ => ⟨S1x1024, .f32⟩
  | .hbm, ⟨38, _⟩ => ⟨S8x128x128, .bf16⟩
  | .hbm, ⟨39, _⟩ => ⟨S8x128x128, .f32⟩
  | .hbm, ⟨40, _⟩ => ⟨S8x128x128, .bf16⟩
  | .hbm, ⟨41, _⟩ => ⟨S4096x1024, .bf16⟩
  | .hbm, ⟨42, _⟩ => ⟨S4096x1024, .bf16⟩
  | .hbm, ⟨43, _⟩ => ⟨S8x128x128, .f32⟩
  | .hbm, ⟨44, _⟩ => ⟨S8x128x128, .f32⟩
  | .hbm, ⟨45, _⟩ => ⟨S1x1024, .f32⟩
  | .hbm, ⟨46, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | .local _ .vmem, ⟨11, _⟩ => ⟨S1x1024, .f32⟩
  | .local _ .vmem, ⟨12, _⟩ => ⟨S8x128x128, .bf16⟩
  | .local _ .vmem, ⟨13, _⟩ => ⟨S8x128x128, .bf16⟩
  | .local _ .vmem, ⟨14, _⟩ => ⟨S8x128x128, .f32⟩
  | .local _ .vmem, ⟨15, _⟩ => ⟨S128x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x128x128, .f32⟩
  | .local _ .vmem, ⟨21, _⟩ => ⟨S8x128x128, .f32⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S8x128x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v18_2 : Ref sig .tc := ⟨.hbm, 43, rfl⟩
abbrev main_v18_3 : Ref sig .tc := ⟨.hbm, 44, rfl⟩
abbrev main_v18_4 : Ref sig .tc := ⟨.hbm, 45, rfl⟩
abbrev main_v18_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1355 : BitVec 1 := Scalar.cmpi .eq arg0 c7_i32
  let v1356 : BitVec 32 := Scalar.extui v1355
  let c0_i32_1006 : BitVec 32 := 0#32
  let v1357 : BitVec 1 := Scalar.cmpi .ne v1356 c0_i32_1006
  v1357

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SguIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== SguRefIdeal.lean ====
abbrev S4096x1024 : Shape := ⟨2, ![4096, 1024]⟩
abbrev S4096x6656 : Shape := ⟨2, ![4096, 6656]⟩
abbrev S1024 : Shape := ⟨1, ![1024]⟩
abbrev S8x128x128 : Shape := ⟨3, ![8, 128, 128]⟩
abbrev S8x128 : Shape := ⟨2, ![8, 128]⟩
abbrev S1x4096x6656 : Shape := ⟨3, ![1, 4096, 6656]⟩
abbrev S1x4096x1280 : Shape := ⟨3, ![1, 4096, 1280]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S4096 : Shape := ⟨1, ![4096]⟩
abbrev S8x128x1 : Shape := ⟨3, ![8, 128, 1]⟩

abbrev nBuf : Space → Nat
  | .hbm => 239
  | .vmem => 0
  | .smem => 0
  | _ => 0

abbrev hbmTy0_0 (i : Nat) : BufTy := match i % 128 with
  | 0 => ⟨S4096x1024, .bf16⟩
  | 1 => ⟨S4096x6656, .bf16⟩
  | 2 => ⟨S1024, .f32⟩
  | 3 => ⟨S1024, .f32⟩
  | 4 => ⟨S8x128x128, .f32⟩
  | 5 => ⟨S8x128, .f32⟩
  | 6 => ⟨S4096x6656, .f32⟩
  | 7 => ⟨S1x4096x6656, .f32⟩
  | 8 => ⟨S1x4096x1280, .f32⟩
  | 9 => ⟨S1x4096x1280, .f32⟩
  | 10 => ⟨S1x4096x1024, .f32⟩
  | 11 => ⟨S1x4096x1024, .f32⟩
  | 12 => ⟨S1x4096x1024, .f32⟩
  | 13 => ⟨S1x4096x1024, .f32⟩
  | 14 => ⟨S_, .f32⟩
  | 15 => ⟨S_, .f32⟩
  | 16 => ⟨S_, .f32⟩
  | 17 => ⟨S1x4096x1024, .f32⟩
  | 18 => ⟨S1x4096x1024, .f32⟩
  | 19 => ⟨S1x4096x1024, .f32⟩
  | 20 => ⟨S_, .f32⟩
  | 21 => ⟨S1x4096x1024, .f32⟩
  | 22 => ⟨S1x4096x1024, .f32⟩
  | 23 => ⟨S1x4096x1024, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S1x4096x1024, .f32⟩
  | 37 => ⟨S_, .f32⟩
  | 38 => ⟨S1x4096x1024, .f32⟩
  | 39 => ⟨S1x4096x1024, .f32⟩
  | 40 => ⟨S_, .f32⟩
  | 41 => ⟨S1x4096x1024, .f32⟩
  | 42 => ⟨S1x4096x1024, .f32⟩
  | 43 => ⟨S1x4096x1024, .f32⟩
  | 44 => ⟨S_, .f32⟩
  | 45 => ⟨S_, .f32⟩
  | 46 => ⟨S_, .f32⟩
  | 47 => ⟨S1x4096x1024, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S_, .f32⟩
  | 71 => ⟨S1x4096x1024, .f32⟩
  | 72 => ⟨S1x4096x1024, .f32⟩
  | 73 => ⟨S1x4096x1024, .f32⟩
  | 74 => ⟨S_, .f32⟩
  | 75 => ⟨S1x4096, .f32⟩
  | 76 => ⟨S1x4096x1, .f32⟩
  | 77 => ⟨S_, .f32⟩
  | 78 => ⟨S1x4096x1, .f32⟩
  | 79 => ⟨S1x4096x1, .f32⟩
  | 80 => ⟨S1x4096x1024, .f32⟩
  | 81 => ⟨S1x4096x1024, .f32⟩
  | 82 => ⟨S1x4096x1024, .f32⟩
  | 83 => ⟨S_, .f32⟩
  | 84 => ⟨S1x4096, .f32⟩
  | 85 => ⟨S1x4096x1, .f32⟩
  | 86 => ⟨S_, .f32⟩
  | 87 => ⟨S1x4096x1, .f32⟩
  | 88 => ⟨S1x4096x1, .f32⟩
  | 89 => ⟨S_, .f32⟩
  | 90 => ⟨S1x4096x1, .f32⟩
  | 91 => ⟨S1x4096x1, .f32⟩
  | 92 => ⟨S1x4096x1, .f32⟩
  | 93 => ⟨S1x4096x1, .f32⟩
  | 94 => ⟨S_, .f32⟩
  | 95 => ⟨S1x4096x1, .f32⟩
  | 96 => ⟨S1x4096x1, .f32⟩
  | 97 => ⟨S1x4096x1024, .f32⟩
  | 98 => ⟨S1x4096x1024, .f32⟩
  | 99 => ⟨S1x1x1024, .f32⟩
  | 100 => ⟨S1x4096x1024, .f32⟩
  | 101 => ⟨S1x4096x1024, .f32⟩
  | 102 => ⟨S1x1x1024, .f32⟩
  | 103 => ⟨S1x4096x1024, .f32⟩
  | 104 => ⟨S1x4096x1024, .f32⟩
  | 105 => ⟨S1x32x128x8x128, .f32⟩
  | 106 => ⟨S128, .i32⟩
  | 107 => ⟨S_, .i32⟩
  | 108 => ⟨S_, .i32⟩
  | 109 => ⟨S128, .i32⟩
  | 110 => ⟨S128, .i32⟩
  | 111 => ⟨S128, .i32⟩
  | 112 => ⟨S_, .i32⟩
  | 113 => ⟨S128, .i32⟩
  | 114 => ⟨S128, .i1⟩
  | 115 => ⟨S128, .i32⟩
  | 116 => ⟨S128, .i32⟩
  | 117 => ⟨S_, .i32⟩
  | 118 => ⟨S128, .i32⟩
  | 119 => ⟨S128, .i1⟩
  | 120 => ⟨S128, .i1⟩
  | 121 => ⟨S_, .i32⟩
  | 122 => ⟨S128, .i32⟩
  | 123 => ⟨S128, .i32⟩
  | 124 => ⟨S128, .i32⟩
  | 125 => ⟨S128x1, .i32⟩
  | 126 => ⟨S1x128, .i32⟩
  | 127 => ⟨S128x128, .i32⟩
  | _ => ⟨S4096x1024, .bf16⟩

abbrev hbmTy0_1 (i : Nat) : BufTy := match i % 128 with
  | 0 => ⟨S128x128, .i32⟩
  | 1 => ⟨S128x128, .i1⟩
  | 2 => ⟨S128x128, .f32⟩
  | 3 => ⟨S1x128x128, .f32⟩
  | 4 => ⟨S8x128x128, .f32⟩
  | 5 => ⟨S8x128x128, .f32⟩
  | 6 => ⟨S8x1x32x128x128, .f32⟩
  | 7 => ⟨S1x32x128x8x128, .f32⟩
  | 8 => ⟨S128x8, .f32⟩
  | 9 => ⟨S1x1x128x8x1, .f32⟩
  | 10 => ⟨S1x32x128x8x128, .f32⟩
  | 11 => ⟨S1x32x128x8x128, .f32⟩
  | 12 => ⟨S1x4096x1024, .f32⟩
  | 13 => ⟨S1x4096x1024, .f32⟩
  | 14 => ⟨S4096x1024, .f32⟩
  | 15 => ⟨S1x4096x1024, .f32⟩
  | 16 => ⟨S1x4096x1024, .f32⟩
  | 17 => ⟨S1x4096x1024, .f32⟩
  | 18 => ⟨S1x32x128x8x128, .f32⟩
  | 19 => ⟨S_, .f32⟩
  | 20 => ⟨S1x128x8, .f32⟩
  | 21 => ⟨S1x1x128x8x1, .f32⟩
  | 22 => ⟨S_, .f32⟩
  | 23 => ⟨S128x8, .f32⟩
  | 24 => ⟨S8x128, .f32⟩
  | 25 => ⟨S8x1x32x128x128, .f32⟩
  | 26 => ⟨S8x128x128, .f32⟩
  | 27 => ⟨S8x1x32x128x128, .f32⟩
  | 28 => ⟨S1x32x128x8x128, .f32⟩
  | 29 => ⟨S8x128x128, .f32⟩
  | 30 => ⟨S8x128x128, .f32⟩
  | 31 => ⟨S1x4096x1024, .f32⟩
  | 32 => ⟨S_, .f32⟩
  | 33 => ⟨S1x1024, .f32⟩
  | 34 => ⟨S1x1x1024, .f32⟩
  | 35 => ⟨S_, .f32⟩
  | 36 => ⟨S1024, .f32⟩
  | 37 => ⟨S1x4096x1024, .f32⟩
  | 38 => ⟨S_, .f32⟩
  | 39 => ⟨S1x1024, .f32⟩
  | 40 => ⟨S1x1x1024, .f32⟩
  | 41 => ⟨S1x4096x1024, .f32⟩
  | 42 => ⟨S1x4096x1024, .f32⟩
  | 43 => ⟨S_, .f32⟩
  | 44 => ⟨S1024, .f32⟩
  | 45 => ⟨S1x4096x1024, .f32⟩
  | 46 => ⟨S_, .f32⟩
  | 47 => ⟨S1x4096, .f32⟩
  | 48 => ⟨S1x4096x1, .f32⟩
  | 49 => ⟨S1x4096x1024, .f32⟩
  | 50 => ⟨S1x4096x1024, .f32⟩
  | 51 => ⟨S1x4096x1, .f32⟩
  | 52 => ⟨S_, .f32⟩
  | 53 => ⟨S1x4096x1, .f32⟩
  | 54 => ⟨S1x4096x1, .f32⟩
  | 55 => ⟨S_, .f32⟩
  | 56 => ⟨S4096, .f32⟩
  | 57 => ⟨S1x4096, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S_, .f32⟩
  | 65 => ⟨S1x4096, .f32⟩
  | 66 => ⟨S1x4096x1, .f32⟩
  | 67 => ⟨S_, .f32⟩
  | 68 => ⟨S1x4096x1, .f32⟩
  | 69 => ⟨S1x4096x1, .f32⟩
  | 70 => ⟨S_, .f32⟩
  | 71 => ⟨S4096, .f32⟩
  | 72 => ⟨S1x4096, .f32⟩
  | 73 => ⟨S1x4096x1024, .f32⟩
  | 74 => ⟨S1x4096x1024, .f32⟩
  | 75 => ⟨S1x4096x1024, .f32⟩
  | 76 => ⟨S1x4096x1024, .f32⟩
  | 77 => ⟨S_, .f32⟩
  | 78 => ⟨S1x4096x1024, .f32⟩
  | 79 => ⟨S1x4096x1024, .f32⟩
  | 80 => ⟨S1x4096x1024, .f32⟩
  | 81 => ⟨S_, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x4096x1024, .f32⟩
  | 90 => ⟨S1x4096x1024, .f32⟩
  | 91 => ⟨S_, .f32⟩
  | 92 => ⟨S1x4096x1024, .f32⟩
  | 93 => ⟨S1x4096x1024, .f32⟩
  | 94 => ⟨S1x4096x1024, .f32⟩
  | 95 => ⟨S_, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S4096x1024, .f32⟩
  | 104 => ⟨S4096x1024, .bf16⟩
  | 105 => ⟨S4096x1024, .f32⟩
  | 106 => ⟨S4096x1024, .bf16⟩
  | 107 => ⟨S8x128x1, .f32⟩
  | 108 => ⟨S8x128x128, .f32⟩
  | 109 => ⟨S1x1024, .f32⟩
  | 110 => ⟨S1x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_call0_v6 : Ref sig .tc := ⟨.hbm, 114, rfl⟩
abbrev main_call0_v7 : Ref sig .tc := ⟨.hbm, 115, rfl⟩
abbrev main_call0_v8 : Ref sig .tc := ⟨.hbm, 116, rfl⟩
abbrev main_call0_c : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_call0_c_0 : Ref sig .tc := ⟨.hbm, 121, rfl⟩
abbrev main_call0_v12 : Ref sig .tc := ⟨.hbm, 122, rfl⟩
abbrev main_call0_v13 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_23 : Ref sig .tc := ⟨.hbm, 160, rfl⟩
abbrev main_v113 : Ref sig .tc := ⟨.hbm, 161, rfl⟩
abbrev main_v114 : Ref sig .tc := ⟨.hbm, 162, rfl⟩
abbrev main_cst_24 : Ref sig .tc := ⟨.hbm, 163, rfl⟩
abbrev main_v115 : Ref sig .tc := ⟨.hbm, 164, rfl⟩
abbrev main_v116 : Ref sig .tc := ⟨.hbm, 165, rfl⟩
abbrev main_cst_25 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_26 : Ref sig .tc := ⟨.hbm, 171, rfl⟩
abbrev main_v121 : Ref sig .tc := ⟨.hbm, 172, rfl⟩
abbrev main_v122 : Ref sig .tc := ⟨.hbm, 173, rfl⟩
abbrev main_cst_27 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_28 : Ref sig .tc := ⟨.hbm, 180, rfl⟩
abbrev main_v128 : Ref sig .tc := ⟨.hbm, 181, rfl⟩
abbrev main_v129 : Ref sig .tc := ⟨.hbm, 182, rfl⟩
abbrev main_cst_29 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_30 : Ref sig .tc := ⟨.hbm, 192, rfl⟩
abbrev main_v138 : Ref sig .tc := ⟨.hbm, 193, rfl⟩
abbrev main_v139 : Ref sig .tc := ⟨.hbm, 194, rfl⟩
abbrev main_cst_31 : Ref sig .tc := ⟨.hbm, 195, rfl⟩
abbrev main_v140 : Ref sig .tc := ⟨.hbm, 196, rfl⟩
abbrev main_v141 : Ref sig .tc := ⟨.hbm, 197, rfl⟩
abbrev main_cst_32 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_33 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_34 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_35 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_36 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩

abbrev nD : Nat := 1
abbrev τ : Topo := Topo.v7x

variable {F : FTy → Type} [FloatOps F]
-- ==== SguFwd.lean ====
abbrev S4096x6656 : Shape := ⟨2, ![4096, 6656]⟩
abbrev S1024 : Shape := ⟨1, ![1024]⟩
abbrev S8x128x128 : Shape := ⟨3, ![8, 128, 128]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S8x128x1 : Shape := ⟨3, ![8, 128, 1]⟩
abbrev S1x1024 : Shape := ⟨2, ![1, 1024]⟩
abbrev S1x128x128 : Shape := ⟨3, ![1, 128, 128]⟩
abbrev S4096x1024 : Shape := ⟨2, ![4096, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 39
  | .vmem => 14
  | .smem => 0
  | _ => 0

abbrev bufTy : (tb : Table) → Fin (tcTables nBuf tb) → BufTy
  | .hbm, ⟨0, _⟩ => ⟨S4096x6656, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .f32⟩
  | .hbm, ⟨30, _⟩ => ⟨S8x128x1, .f32⟩
  | .hbm, ⟨31, _⟩ => ⟨S8x128x128, .f32⟩
  | .hbm, ⟨32, _⟩ => ⟨S1x1024, .f32⟩
  | .hbm, ⟨33, _⟩ => ⟨S1x1024, .f32⟩
  | .hbm, ⟨34, _⟩ => ⟨S1x128x128, .f32⟩
  | .hbm, ⟨35, _⟩ => ⟨S8x128x128, .f32⟩
  | .hbm, ⟨36, _⟩ => ⟨S8x128x128, .f32⟩
  | .hbm, ⟨37, _⟩ => ⟨S8x128x128, .bf16⟩
  | .hbm, ⟨38, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .f32⟩
  | .local _ .vmem, ⟨12, _⟩ => ⟨S256x1024, .bf16⟩
  | .local _ .vmem, ⟨13, _⟩ => ⟨S256x1024, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguFwdIdeal.lean ====
variable {F : FTy → Type} [FloatOps F] [Named F]
def κ : String → Option EReal := fun
  | "gelu_k" => some ((8943 / 200000 : ℝ) : EReal)
  | _ => none
-- ==== SguFwdRefIdeal.lean ====
abbrev S4096x6656 : Shape := ⟨2, ![4096, 6656]⟩
abbrev S1024 : Shape := ⟨1, ![1024]⟩
abbrev S8x128x128 : Shape := ⟨3, ![8, 128, 128]⟩
abbrev S8x128 : Shape := ⟨2, ![8, 128]⟩
abbrev S1x4096x6656 : Shape := ⟨3, ![1, 4096, 6656]⟩
abbrev S1x4096x1280 : Shape := ⟨3, ![1, 4096, 1280]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4096x1024 : Shape := ⟨2, ![4096, 1024]⟩

abbrev nBuf : Space → Nat
  | .hbm => 117
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x6656, .f32⟩
  | .hbm, ⟨6, _⟩ => ⟨S1x4096x6656, .f32⟩
  | .hbm, ⟨7, _⟩ => ⟨S1x4096x1280, .f32⟩
  | .hbm, ⟨8, _⟩ => ⟨S1x4096x1280, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S_, .f32⟩
  | .hbm, ⟨52, _⟩ => ⟨S1x4096, .f32⟩
  | .hbm, ⟨53, _⟩ => ⟨S1x4096x1, .f32⟩
  | .hbm, ⟨54, _⟩ => ⟨S_, .f32⟩
  | .hbm, ⟨55, _⟩ => ⟨S1x4096x1, .f32⟩
  | .hbm, ⟨56, _⟩ => ⟨S1x4096x1, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1x4096, .f32⟩
  | .hbm, ⟨62, _⟩ => ⟨S1x4096x1, .f32⟩
  | .hbm, ⟨63, _⟩ => ⟨S_, .f32⟩
  | .hbm, ⟨64, _⟩ => ⟨S1x4096x1, .f32⟩
  | .hbm, ⟨65, _⟩ => ⟨S1x4096x1, .f32⟩
  | .hbm, ⟨66, _⟩ => ⟨S_, .f32⟩
  | .hbm, ⟨67, _⟩ => ⟨S1x4096x1, .f32⟩
  | .hbm, ⟨68, _⟩ => ⟨S1x4096x1, .f32⟩
  | .hbm, ⟨69, _⟩ => ⟨S1x4096x1, .f32⟩
  | .hbm, ⟨70, _⟩ => ⟨S1x4096x1024, .f32⟩
  | .hbm, ⟨71, _⟩ => ⟨S1x4096x1024, .f32⟩
  | .hbm, ⟨72, _⟩ => ⟨S1x1x1024, .f32⟩
  | .hbm, ⟨73, _⟩ => ⟨S1x4096x1024, .f32⟩
  | .hbm, ⟨74, _⟩ => ⟨S1x4096x1024, .f32⟩
  | .hbm, ⟨75, _⟩ => ⟨S1x1x1024, .f32⟩
  | .hbm, ⟨76, _⟩ => ⟨S1x4096x1024, .f32⟩
  | .hbm, ⟨77, _⟩ => ⟨S1x4096x1024, .f32⟩
  | .hbm, ⟨78, _⟩ => ⟨S1x32x128x8x128, .f32⟩
  | .hbm, ⟨79, _⟩ => ⟨S128, .i32⟩
  | .hbm, ⟨80, _⟩ => ⟨S_, .i32⟩
  | .hbm, ⟨81, _⟩ => ⟨S_, .i32⟩
  | .hbm, ⟨82, _⟩ => ⟨S128, .i32⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S128, .i32⟩
  | .hbm, ⟨89, _⟩ => ⟨S128, .i32⟩
  | .hbm, ⟨90, _⟩ => ⟨S_, .i32⟩
  | .hbm, ⟨91, _⟩ => ⟨S128, .i32⟩
  | .hbm, ⟨92, _⟩ => ⟨S128, .i1⟩
  | .hbm, ⟨93, _⟩ => ⟨S128, .i1⟩
  | .hbm, ⟨94, _⟩ => ⟨S_, .i32⟩
  | .hbm, ⟨95, _⟩ => ⟨S128, .i32⟩
  | .hbm, ⟨96, _⟩ => ⟨S128, .i32⟩
  | .hbm, ⟨97, _⟩ => ⟨S128, .i32⟩
  | .hbm, ⟨98, _⟩ => ⟨S128x1, .i32⟩
  | .hbm, ⟨99, _⟩ => ⟨S1x128, .i32⟩
  | .hbm, ⟨100, _⟩ => ⟨S128x128, .i32⟩
  | .hbm, ⟨101, _⟩ => ⟨S128x128, .i32⟩
  | .hbm, ⟨102, _⟩ => ⟨S128x128, .i1⟩
  | .hbm, ⟨103, _⟩ => ⟨S128x128, .f32⟩
  | .hbm, ⟨104, _⟩ => ⟨S1x128x128, .f32⟩
  | .hbm, ⟨105, _⟩ => ⟨S8x128x128, .f32⟩
  | .hbm, ⟨106, _⟩ => ⟨S8x128x128, .f32⟩
  | .hbm, ⟨107, _⟩ => ⟨S8x1x32x128x128, .f32⟩
  | .hbm, ⟨108, _⟩ => ⟨S1x32x128x8x128, .f32⟩
  | .hbm, ⟨109, _⟩ => ⟨S128x8, .f32⟩
  | .hbm, ⟨110, _⟩ => ⟨S1x1x128x8x1, .f32⟩
  | .hbm, ⟨111, _⟩ => ⟨S1x32x128x8x128, .f32⟩
  | .hbm, ⟨112, _⟩ => ⟨S1x32x128x8x128, .f32⟩
  | .hbm, ⟨113, _⟩ => ⟨S1x4096x1024, .f32⟩
  | .hbm, ⟨114, _⟩ => ⟨S1x4096x1024, .f32⟩
  | .hbm, ⟨115, _⟩ => ⟨S4096x1024, .f32⟩
  | .hbm, ⟨116, _⟩ => ⟨S4096x1024, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_c : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_c_0 : Ref sig .tc := ⟨.hbm, 94, rfl⟩
abbrev main_call0_v12 : Ref sig .tc := ⟨.hbm, 95, rfl⟩
abbrev main_call0_v13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]
-- ==== Norm.lean ====
abbrev S4096x1280 : Shape := ⟨2, ![4096, 1280]⟩
abbrev S4096x1024 : Shape := ⟨2, ![4096, 1024]⟩
abbrev S1024x6656 : Shape := ⟨2, ![1024, 6656]⟩
abbrev S1024 : Shape := ⟨1, ![1024]⟩
abbrev S6656x1024 : Shape := ⟨2, ![6656, 1024]⟩
abbrev S1x1024 : Shape := ⟨2, ![1, 1024]⟩
abbrev S512x1280 : Shape := ⟨2, ![512, 1280]⟩
abbrev S512x1024 : Shape := ⟨2, ![512, 1024]⟩
abbrev S1280x1024 : Shape := ⟨2, ![1280, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 23
  | .smem => 0
  | _ => 0

abbrev bufTy : (tb : Table) → Fin (tcTables nBuf tb) → BufTy
  | .hbm, ⟨0, _⟩ => ⟨S4096x1280, .bf16⟩
  | .hbm, ⟨1, _⟩ => ⟨S4096x1280, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x6656, .bf16⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S6656x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S6656x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6656x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormRefIdeal.lean ====
abbrev S4096x1280 : Shape := ⟨2, ![4096, 1280]⟩
abbrev S4096x1024 : Shape := ⟨2, ![4096, 1024]⟩
abbrev S1024x6656 : Shape := ⟨2, ![1024, 6656]⟩
abbrev S1024 : Shape := ⟨1, ![1024]⟩
abbrev S1x4096x1280 : Shape := ⟨3, ![1, 4096, 1280]⟩
abbrev S1x4096x1024 : Shape := ⟨3, ![1, 4096, 1024]⟩
abbrev S1x4096x6656 : Shape := ⟨3, ![1, 4096, 6656]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩

abbrev nBuf : Space → Nat
  | .hbm => 79
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1280, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x6656, .bf16⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S4096x1280, .f32⟩
  | .hbm, ⟨11, _⟩ => ⟨S1x4096x1280, .f32⟩
  | .hbm, ⟨12, _⟩ => ⟨S4096x1280, .f32⟩
  | .hbm, ⟨13, _⟩ => ⟨S1x4096x1280, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S4096x1024, .f32⟩
  | .hbm, ⟨21, _⟩ => ⟨S1x4096x1024, .f32⟩
  | .hbm, ⟨22, _⟩ => ⟨S1x4096x6656, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S1024x6656, .f32⟩
  | .hbm, ⟨45, _⟩ => ⟨S1x4096x6656, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1024, .f32⟩
  | .hbm, ⟨56, _⟩ => ⟨S1x4096x1024, .f32⟩
  | .hbm, ⟨57, _⟩ => ⟨S_, .f32⟩
  | .hbm, ⟨58, _⟩ => ⟨S1x4096, .f32⟩
  | .hbm, ⟨59, _⟩ => ⟨S1x4096x1, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S1x4096x1, .f32⟩
  | .hbm, ⟨64, _⟩ => ⟨S_, .f32⟩
  | .hbm, ⟨65, _⟩ => ⟨S1x4096x1, .f32⟩
  | .hbm, ⟨66, _⟩ => ⟨S1x4096x1, .f32⟩
  | .hbm, ⟨67, _⟩ => ⟨S_, .f32⟩
  | .hbm, ⟨68, _⟩ => ⟨S4096, .f32⟩
  | .hbm, ⟨69, _⟩ => ⟨S1x4096, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S1x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Loss.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x4096 : Shape := ⟨2, ![4096, 4096]⟩
abbrev S4096x1024 : Shape := ⟨2, ![4096, 1024]⟩
abbrev S1024 : Shape := ⟨1, ![1024]⟩
abbrev S1x4096x4096 : Shape := ⟨3, ![1, 4096, 4096]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S8x128 : Shape := ⟨2, ![8, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .f32⟩
  | .hbm, ⟨6, _⟩ => ⟨S1x4096x4096, .f32⟩
  | .hbm, ⟨7, _⟩ => ⟨S_, .f32⟩
  | .hbm, ⟨8, _⟩ => ⟨S1x4096x4096, .f32⟩
  | .hbm, ⟨9, _⟩ => ⟨S1x4096x4096, .f32⟩
  | .hbm, ⟨10, _⟩ => ⟨S1x4096x4096, .f32⟩
  | .hbm, ⟨11, _⟩ => ⟨S1x4096x1024, .f32⟩
  | .hbm, ⟨12, _⟩ => ⟨S4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S_, .f32⟩
  | .hbm, ⟨17, _⟩ => ⟨S1x4096, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1, .f32⟩
  | .hbm, ⟨26, _⟩ => ⟨S1x4096x1, .f32⟩
  | .hbm, ⟨27, _⟩ => ⟨S_, .f32⟩
  | .hbm, ⟨28, _⟩ => ⟨S1x4096x1, .f32⟩
  | .hbm, ⟨29, _⟩ => ⟨S1x4096x1, .f32⟩
  | .hbm, ⟨30, _⟩ => ⟨S1x4096x1024, .f32⟩
  | .hbm, ⟨31, _⟩ => ⟨S1x4096x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1x4096, .f32⟩
  | .hbm, ⟨54, _⟩ => ⟨S_, .f32⟩
  | .hbm, ⟨55, _⟩ => ⟨S1x4096, .f32⟩
  | .hbm, ⟨56, _⟩ => ⟨S1x4096, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x4096x1024, .f32⟩
  | .hbm, ⟨64, _⟩ => ⟨S1x4096x1024, .f32⟩
  | .hbm, ⟨65, _⟩ => ⟨S_, .f32⟩
  | .hbm, ⟨66, _⟩ => ⟨S1024, .f32⟩
  | .hbm, ⟨67, _⟩ => ⟨S1x4096x1024, .f32⟩
  | .hbm, ⟨68, _⟩ => ⟨S_, .f32⟩
  | .hbm, ⟨69, _⟩ => ⟨S1x4096, .f32⟩
  | .hbm, ⟨70, _⟩ => ⟨S1x4096x1, .f32⟩
  | .hbm, ⟨71, _⟩ => ⟨S1x4096x1024, .f32⟩
  | .hbm, ⟨72, _⟩ => ⟨S1x4096x1024, .f32⟩
  | .hbm, ⟨73, _⟩ => ⟨S1x4096x1, .f32⟩
  | .hbm, ⟨74, _⟩ => ⟨S_, .f32⟩
  | .hbm, ⟨75, _⟩ => ⟨S1x4096x1, .f32⟩
  | .hbm, ⟨76, _⟩ => ⟨S1x4096x1, .f32⟩
  | .hbm, ⟨77, _⟩ => ⟨S_, .f32⟩
  | .hbm, ⟨78, _⟩ => ⟨S4096, .f32⟩
  | .hbm, ⟨79, _⟩ => ⟨S1x4096, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S4096x1024, .f32⟩
  | .hbm, ⟨86, _⟩ => ⟨S4096x1024, .f32⟩
  | .hbm, ⟨87, _⟩ => ⟨S4096x1024, .bf16⟩
  | .hbm, ⟨88, _⟩ => ⟨S1x1024, .f32⟩
  | .hbm, ⟨89, _⟩ => ⟨S8x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== MergeFwd.lean ====
abbrev S4096x1280 : Shape := ⟨2, ![4096, 1280]⟩
abbrev S4096x1024 : Shape := ⟨2, ![4096, 1024]⟩
abbrev S4096x6656 : Shape := ⟨2, ![4096, 6656]⟩
abbrev S1280x1024 : Shape := ⟨2, ![1280, 1024]⟩
abbrev S1024x1024 : Shape := ⟨2, ![1024, 1024]⟩
abbrev S512x1280 : Shape := ⟨2, ![512, 1280]⟩
abbrev S512x1024 : Shape := ⟨2, ![512, 1024]⟩
abbrev S512x512 : Shape := ⟨2, ![512, 512]⟩

abbrev nBuf : Space → Nat
  | .hbm => 10
  | .vmem => 23
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S4096x6656, .bf16⟩
  | .hbm, ⟨3, _⟩ => ⟨S4096x1024, .f32⟩
  | .hbm, ⟨4, _⟩ => ⟨S1280x1024, .bf16⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x1280, .bf16⟩
  | .local _ .vmem, ⟨1, _⟩ => ⟨S512x1280, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S1280x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdRefIdeal.lean ====
abbrev S4096x1280 : Shape := ⟨2, ![4096, 1280]⟩
abbrev S4096x1024 : Shape := ⟨2, ![4096, 1024]⟩
abbrev S4096x6656 : Shape := ⟨2, ![4096, 6656]⟩
abbrev S1280x1024 : Shape := ⟨2, ![1280, 1024]⟩
abbrev S1024x1024 : Shape := ⟨2, ![1024, 1024]⟩
abbrev S1x4096x6656 : Shape := ⟨3, ![1, 4096, 6656]⟩
abbrev S1x4096x1280 : Shape := ⟨3, ![1, 4096, 1280]⟩
abbrev S1x4096x1024 : Shape := ⟨3, ![1, 4096, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S4096x6656, .bf16⟩
  | .hbm, ⟨3, _⟩ => ⟨S4096x1024, .f32⟩
  | .hbm, ⟨4, _⟩ => ⟨S1280x1024, .bf16⟩
  | .hbm, ⟨5, _⟩ => ⟨S1024x1024, .bf16⟩
  | .hbm, ⟨6, _⟩ => ⟨S1024x1024, .bf16⟩
  | .hbm, ⟨7, _⟩ => ⟨S4096x6656, .f32⟩
  | .hbm, ⟨8, _⟩ => ⟨S1x4096x6656, .f32⟩
  | .hbm, ⟨9, _⟩ => ⟨S1x4096x1280, .f32⟩
  | .hbm, ⟨10, _⟩ => ⟨S1x4096x1280, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S4096x1280, .f32⟩
  | .hbm, ⟨16, _⟩ => ⟨S1x4096x1280, .f32⟩
  | .hbm, ⟨17, _⟩ => ⟨S1280x1024, .f32⟩
  | .hbm, ⟨18, _⟩ => ⟨S1x4096x1024, .f32⟩
  | .hbm, ⟨19, _⟩ => ⟨S4096x1024, .f32⟩
  | .hbm, ⟨20, _⟩ => ⟨S1x4096x1024, .f32⟩
  | .hbm, ⟨21, _⟩ => ⟨S1024x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1024x1024, .f32⟩
  | .hbm, ⟨44, _⟩ => ⟨S1x4096x1024, .f32⟩
  | .hbm, ⟨45, _⟩ => ⟨S1x4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S4096x1024, .f32⟩
  | .hbm, ⟨50, _⟩ => ⟨S4096x1024, .bf16⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Up.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpRefIdeal.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S1x1024 : Shape := ⟨2, ![1, 1024]⟩
abbrev S4096 : Shape := ⟨1, ![4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x4096, .f32⟩
  | .hbm, ⟨27, _⟩ => ⟨S1x4096x4096, .f32⟩
  | .hbm, ⟨28, _⟩ => ⟨S1x4096x1024, .f32⟩
  | .hbm, ⟨29, _⟩ => ⟨S4096x4096, .f32⟩
  | .hbm, ⟨30, _⟩ => ⟨S1x4096x4096, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== NormFwd.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S4096x4096 : Shape := ⟨2, ![4096, 4096]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S1x1024, .f32⟩
  | .hbm, ⟨4, _⟩ => ⟨S4096x1024, .bf16⟩
  | .hbm, ⟨5, _⟩ => ⟨S4096x4096, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4096x1024, .bf16⟩
  | .local _ .vmem, ⟨4, _⟩ => ⟨S1024x4096, .bf16⟩
  | .local _ .vmem, ⟨5, _⟩ => ⟨S1024x4096, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormFwdRefIdeal.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x4096, .f32⟩
  | .hbm, ⟨21, _⟩ => ⟨S1x4096x4096, .f32⟩
  | .hbm, ⟨22, _⟩ => ⟨S4096x4096, .f32⟩
  | .hbm, ⟨23, _⟩ => ⟨S4096x4096, .bf16⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== ReluFwd.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReluFwdRefIdeal.lean ====
abbrev S4096x4096 : Shape := ⟨2, ![4096, 4096]⟩
abbrev S4096x1024 : Shape := ⟨2, ![4096, 1024]⟩
abbrev S1x4096x4096 : Shape := ⟨3, ![1, 4096, 4096]⟩
abbrev S_ : Shape := ⟨0, ![]⟩
abbrev S1x4096x1024 : Shape := ⟨3, ![1, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S1x4096x4096, .f32⟩
  | .hbm, ⟨5, _⟩ => ⟨S_, .f32⟩
  | .hbm, ⟨6, _⟩ => ⟨S1x4096x4096, .f32⟩
  | .hbm, ⟨7, _⟩ => ⟨S1x4096x4096, .f32⟩
  | .hbm, ⟨8, _⟩ => ⟨S1x4096x4096, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S1x4096x1024, .f32⟩
  | .hbm, ⟨13, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== ReluW.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReluWRefIdeal.lean ====
abbrev S4096x4096 : Shape := ⟨2, ![4096, 4096]⟩
abbrev S4096x1024 : Shape := ⟨2, ![4096, 1024]⟩
abbrev S1x4096x4096 : Shape := ⟨3, ![1, 4096, 4096]⟩
abbrev S_ : Shape := ⟨0, ![]⟩
abbrev S1x4096x1024 : Shape := ⟨3, ![1, 4096, 1024]⟩
abbrev S1024x4096 : Shape := ⟨2, ![1024, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x4096, .f32⟩
  | .hbm, ⟨5, _⟩ => ⟨S1x4096x4096, .f32⟩
  | .hbm, ⟨6, _⟩ => ⟨S_, .f32⟩
  | .hbm, ⟨7, _⟩ => ⟨S1x4096x4096, .f32⟩
  | .hbm, ⟨8, _⟩ => ⟨S1x4096x4096, .f32⟩
  | .hbm, ⟨9, _⟩ => ⟨S1x4096x4096, .f32⟩
  | .hbm, ⟨10, _⟩ => ⟨S1x4096x1024, .f32⟩
  | .hbm, ⟨11, _⟩ => ⟨S4096x1024, .f32⟩
  | .hbm, ⟨12, _⟩ => ⟨S1x4096x1024, .f32⟩
  | .hbm, ⟨13, _⟩ => ⟨S1024x4096, .f32⟩
  | .hbm, ⟨14, _⟩ => ⟨S4096x1024, .f32⟩
  | .hbm, ⟨15, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== BranchFwd.lean ====
abbrev S4096x6656 : Shape := ⟨2, ![4096, 6656]⟩
abbrev S4x1280 : Shape := ⟨2, ![4, 1280]⟩
abbrev S1280 : Shape := ⟨1, ![1280]⟩
abbrev S20x64x64 : Shape := ⟨3, ![20, 64, 64]⟩
abbrev S20x64 : Shape := ⟨2, ![20, 64]⟩
abbrev S10x2x64x64 : Shape := ⟨4, ![10, 2, 64, 64]⟩
abbrev S10x1x64x64 : Shape := ⟨4, ![10, 1, 64, 64]⟩
abbrev S10x64x64 : Shape := ⟨3, ![10, 64, 64]⟩
abbrev S_ : Shape := ⟨0, ![]⟩
abbrev S10x64x128 : Shape := ⟨3, ![10, 64, 128]⟩
abbrev S10x128x128 : Shape := ⟨3, ![10, 128, 128]⟩
abbrev S1x1280 : Shape := ⟨2, ![1, 1280]⟩
abbrev S512 : Shape := ⟨1, ![512]⟩
abbrev S512x1 : Shape := ⟨2, ![512, 1]⟩
abbrev S192 : Shape := ⟨1, ![192]⟩
abbrev S1x192 : Shape := ⟨2, ![1, 192]⟩
abbrev S512x192 : Shape := ⟨2, ![512, 192]⟩
abbrev S4096x1280 : Shape := ⟨2, ![4096, 1280]⟩
abbrev S512x640 : Shape := ⟨2, ![512, 640]⟩
abbrev S4x640 : Shape := ⟨2, ![4, 640]⟩
abbrev S1x640 : Shape := ⟨2, ![1, 640]⟩
abbrev S5x128x128 : Shape := ⟨3, ![5, 128, 128]⟩
abbrev S8x640 : Shape := ⟨2, ![8, 640]⟩
abbrev S5x512x128 : Shape := ⟨3, ![5, 512, 128]⟩
abbrev S5x520x128 : Shape := ⟨3, ![5, 520, 128]⟩
abbrev S512x128 : Shape := ⟨2, ![512, 128]⟩
abbrev S8x128 : Shape := ⟨2, ![8, 128]⟩
abbrev S1x520x128 : Shape := ⟨3, ![1, 520, 128]⟩
abbrev S520x128 : Shape := ⟨2, ![520, 128]⟩
abbrev S1x128 : Shape := ⟨2, ![1, 128]⟩
abbrev S4x128 : Shape := ⟨2, ![4, 128]⟩
abbrev S1x128x128 : Shape := ⟨3, ![1, 128, 128]⟩
abbrev S128x128 : Shape := ⟨2, ![128, 128]⟩
abbrev S504x128 : Shape := ⟨2, ![504, 128]⟩
abbrev S64x8x128 : Shape := ⟨3, ![64, 8, 128]⟩
abbrev S1x512x128 : Shape := ⟨3, ![1, 512, 128]⟩
abbrev S64x128 : Shape := ⟨2, ![64, 128]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩
abbrev S192x128 : Shape := ⟨2, ![192, 128]⟩

abbrev nBuf : Space → Nat
  | .hbm => 88
  | .vmem => 28
  | .smem => 0
  | _ => 0

abbrev bufTy : (tb : Table) → Fin (tcTables nBuf tb) → BufTy
  | .hbm, ⟨0, _⟩ => ⟨S4096x6656, .bf16⟩
  | .hbm, ⟨1, _⟩ => ⟨S4x1280, .f32⟩
  | .hbm, ⟨2, _⟩ => ⟨S1280, .f32⟩
  | .hbm, ⟨3, _⟩ => ⟨S20x64x64, .f32⟩
  | .hbm, ⟨4, _⟩ => ⟨S20x64, .f32⟩
  | .hbm, ⟨5, _⟩ => ⟨S20x64x64, .f32⟩
  | .hbm, ⟨6, _⟩ => ⟨S20x64, .f32⟩
  | .hbm, ⟨7, _⟩ => ⟨S1280, .f32⟩
  | .hbm, ⟨8, _⟩ => ⟨S10x2x64x64, .f32⟩
  | .hbm, ⟨9, _⟩ => ⟨S10x1x64x64, .f32⟩
  | .hbm, ⟨10, _⟩ => ⟨S10x64x64, .f32⟩
  | .hbm, ⟨11, _⟩ => ⟨S_, .f32⟩
  | .hbm, ⟨12, _⟩ => ⟨S10x64x64, .f32⟩
  | .hbm, ⟨13, _⟩ => ⟨S10x1x64x64, .f32⟩
  | .hbm, ⟨14, _⟩ => ⟨S10x64x64, .f32⟩
  | .hbm, ⟨15, _⟩ => ⟨S10x64x128, .f32⟩
  | .hbm, ⟨16, _⟩ => ⟨S10x1x64x64, .f32⟩
  | .hbm, ⟨17, _⟩ => ⟨S10x64x64, .f32⟩
  | .hbm, ⟨18, _⟩ => ⟨S10x64x128, .f32⟩
  | .hbm, ⟨19, _⟩ => ⟨S10x128x128, .f32⟩
  | .hbm, ⟨20, _⟩ => ⟨S10x128x128, .bf16⟩
  | .hbm, ⟨21, _⟩ => ⟨S10x2x64x64, .f32⟩
  | .hbm, ⟨22, _⟩ => ⟨S10x1x64x64, .f32⟩
  | .hbm, ⟨23, _⟩ => ⟨S10x64x64, .f32⟩
  | .hbm, ⟨24, _⟩ => ⟨S_, .f32⟩
  | .hbm, ⟨25, _⟩ => ⟨S10x64x64, .f32⟩
  | .hbm, ⟨26, _⟩ => ⟨S10x1x64x64, .f32⟩
  | .hbm, ⟨27, _⟩ => ⟨S10x64x64, .f32⟩
  | .hbm, ⟨28, _⟩ => ⟨S10x64x128, .f32⟩
  | .hbm, ⟨29, _⟩ => ⟨S10x1x64x64, .f32⟩
  | .hbm, ⟨30, _⟩ => ⟨S10x64x64, .f32⟩
  | .hbm, ⟨31, _⟩ => ⟨S10x64x128, .f32⟩
  | .hbm, ⟨32, _⟩ => ⟨S10x128x128, .f32⟩
  | .hbm, ⟨33, _⟩ => ⟨S10x128x128, .bf16⟩
  | .hbm, ⟨34, _⟩ => ⟨S1x1280, .f32⟩
  | .hbm, ⟨35, _⟩ => ⟨S1x1280, .f32⟩
  | .hbm, ⟨36, _⟩ => ⟨S1x1280, .f32⟩
  | .hbm, ⟨37, _⟩ => ⟨S1x1280, .f32⟩
  | .hbm, ⟨38, _⟩ => ⟨S512, .i32⟩
  | .hbm, ⟨39, _⟩ => ⟨S512x1, .i32⟩
  | .hbm, ⟨40, _⟩ => ⟨S_, .i32⟩
  | .hbm, ⟨41, _⟩ => ⟨S_, .i32⟩
  | .hbm, ⟨42, _⟩ => ⟨S512x1, .i32⟩
  | .hbm, ⟨43, _⟩ => ⟨S512x1, .i32⟩
  | .hbm, ⟨44, _⟩ => ⟨S512x1, .i32⟩
  | .hbm, ⟨45, _⟩ => ⟨S_, .i32⟩
  | .hbm, ⟨46, _⟩ => ⟨S512x1, .i32⟩
  | .hbm, ⟨47, _⟩ => ⟨S512x1, .i1⟩
  | .hbm, ⟨48, _⟩ => ⟨S512x1, .i32⟩
  | .hbm, ⟨49, _⟩ => ⟨S512x1, .i32⟩
  | .hbm, ⟨50, _⟩ => ⟨S_, .i32⟩
  | .hbm, ⟨51, _⟩ => ⟨S512x1, .i32⟩
  | .hbm, ⟨52, _⟩ => ⟨S512x1, .i1⟩
  | .hbm, ⟨53, _⟩ => ⟨S512x1, .i1⟩
  | .hbm, ⟨54, _⟩ => ⟨S_, .i32⟩
  | .hbm, ⟨55, _⟩ => ⟨S512x1, .i32⟩
  | .hbm, ⟨56, _⟩ => ⟨S512x1, .i32⟩
  | .hbm, ⟨57, _⟩ => ⟨S512x1, .i32⟩
  | .hbm, ⟨58, _⟩ => ⟨S192, .i32⟩
  | .hbm, ⟨59, _⟩ => ⟨S1x192, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S1x192, .i32⟩
  | .hbm, ⟨67, _⟩ => ⟨S1x192, .i32⟩
  | .hbm, ⟨68, _⟩ => ⟨S_, .i32⟩
  | .hbm, ⟨69, _⟩ => ⟨S1x192, .i32⟩
  | .hbm, ⟨70, _⟩ => ⟨S1x192, .i1⟩
  | .hbm, ⟨71, _⟩ => ⟨S_, .i32⟩
  | .hbm, ⟨72, _⟩ => ⟨S1x192, .i32⟩
  | .hbm, ⟨73, _⟩ => ⟨S1x192, .i1⟩
  | .hbm, ⟨74, _⟩ => ⟨S_, .i32⟩
  | .hbm, ⟨75, _⟩ => ⟨S_, .i1⟩
  | .hbm, ⟨76, _⟩ => ⟨S1x192, .i1⟩
  | .hbm, ⟨77, _⟩ => ⟨S1x192, .i1⟩
  | .hbm, ⟨78, _⟩ => ⟨S1x192, .i1⟩
  | .hbm, ⟨79, _⟩ => ⟨S1x192, .i32⟩
  | .hbm, ⟨80, _⟩ => ⟨S1x192, .i32⟩
  | .hbm, ⟨81, _⟩ => ⟨S1x192, .i32⟩
  | .hbm, ⟨82, _⟩ => ⟨S512x192, .i32⟩
  | .hbm, ⟨83, _⟩ => ⟨S512x192, .i32⟩
  | .hbm, ⟨84, _⟩ => ⟨S512x192, .i1⟩
  | .hbm, ⟨85, _⟩ => ⟨S512x192, .bf16⟩
  | .hbm, ⟨86, _⟩ => ⟨S4096x1280, .f32⟩
  | .hbm, ⟨87, _⟩ => ⟨S4096x1280, .bf16⟩
  | .local _ .vmem, ⟨0, _⟩ => ⟨S512x640, .bf16⟩
  | .local _ .vmem, ⟨1, _⟩ => ⟨S512x640, .bf16⟩
  | .local _ .vmem, ⟨2, _⟩ => ⟨S512x640, .bf16⟩
  | .local _ .vmem, ⟨3, _⟩ => ⟨S512x640, .bf16⟩
  | .local _ .vmem, ⟨4, _⟩ => ⟨S4x640, .f32⟩
  | .local _ .vmem, ⟨5, _⟩ => ⟨S4x640, .f32⟩
  | .local _ .vmem, ⟨6, _⟩ => ⟨S1x640, .f32⟩
  | .local _ .vmem, ⟨7, _⟩ => ⟨S1x640, .f32⟩
  | .local _ .vmem, ⟨8, _⟩ => ⟨S5x128x128, .bf16⟩
  | .local _ .vmem, ⟨9, _⟩ => ⟨S5x128x128, .bf16⟩
  | .local _ .vmem, ⟨10, _⟩ => ⟨S1x640, .f32⟩
  | .local _ .vmem, ⟨11, _⟩ => ⟨S1x640, .f32⟩
  | .local _ .vmem, ⟨12, _⟩ => ⟨S5x128x128, .bf16⟩
  | .local _ .vmem, ⟨13, _⟩ => ⟨S5x128x128, .bf16⟩
  | .local _ .vmem, ⟨14, _⟩ => ⟨S1x640, .f32⟩
  | .local _ .vmem, ⟨15, _⟩ => ⟨S1x640, .f32⟩
  | .local _ .vmem, ⟨16, _⟩ => ⟨S1x640, .f32⟩
  | .local _ .vmem, ⟨17, _⟩ => ⟨S1x640, .f32⟩
  | .local _ .vmem, ⟨18, _⟩ => ⟨S512x192, .bf16⟩
  | .local _ .vmem, ⟨19, _⟩ => ⟨S512x640, .f32⟩
  | .local _ .vmem, ⟨20, _⟩ => ⟨S512x640, .f32⟩
  | .local _ .vmem, ⟨21, _⟩ => ⟨S512x640, .bf16⟩
  | .local _ .vmem, ⟨22, _⟩ => ⟨S512x640, .bf16⟩
  | .local _ .vmem, ⟨23, _⟩ => ⟨S8x640, .f32⟩
  | .local _ .vmem, ⟨24, _⟩ => ⟨S8x640, .f32⟩
  | .local _ .vmem, ⟨25, _⟩ => ⟨S5x512x128, .f32⟩
  | .local _ .vmem, ⟨26, _⟩ => ⟨S5x512x128, .f32⟩
  | .local _ .vmem, ⟨27, _⟩ => ⟨S5x520x128, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_1 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38_0 : Ref sig .tc := ⟨.hbm, 86, rfl⟩
abbrev main_v38_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S5x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S5x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== BranchFwdIdeal.lean ====
variable {F : FTy → Type} [FloatOps F] [Named F]
def κ : String → Option EReal := fun
  | "gelu_k" => some ((8943 / 200000 : ℝ) : EReal)
  | _ => none
-- ==== BranchFwdRefIdeal.lean ====
abbrev S4096x6656 : Shape := ⟨2, ![4096, 6656]⟩
abbrev S4x1280 : Shape := ⟨2, ![4, 1280]⟩
abbrev S1280 : Shape := ⟨1, ![1280]⟩
abbrev S20x64x64 : Shape := ⟨3, ![20, 64, 64]⟩
abbrev S20x64 : Shape := ⟨2, ![20, 64]⟩
abbrev S1x4096x6656 : Shape := ⟨3, ![1, 4096, 6656]⟩
abbrev S1x4096x1280 : Shape := ⟨3, ![1, 4096, 1280]⟩
abbrev S1x4096x1024 : Shape := ⟨3, ![1, 4096, 1024]⟩
abbrev S_ : Shape := ⟨0, ![]⟩
abbrev S1x4099x1280 : Shape := ⟨3, ![1, 4099, 1280]⟩
abbrev S1x1280 : Shape := ⟨2, ![1, 1280]⟩
abbrev S1x1x1280 : Shape := ⟨3, ![1, 1, 1280]⟩
abbrev S1x4096x20x64 : Shape := ⟨4, ![1, 4096, 20, 64]⟩
abbrev S20x64x1x4096 : Shape := ⟨4, ![20, 64, 1, 4096]⟩
abbrev S1x1x20x64 : Shape := ⟨4, ![1, 1, 20, 64]⟩
abbrev S1x2048x1280 : Shape := ⟨3, ![1, 2048, 1280]⟩
abbrev S1x1024x1280 : Shape := ⟨3, ![1, 1024, 1280]⟩
abbrev S1x512x1280 : Shape := ⟨3, ![1, 512, 1280]⟩
abbrev S1x256x1280 : Shape := ⟨3, ![1, 256, 1280]⟩
abbrev S1x128x1280 : Shape := ⟨3, ![1, 128, 1280]⟩
abbrev S1x64x1280 : Shape := ⟨3, ![1, 64, 1280]⟩
abbrev S1x32x1280 : Shape := ⟨3, ![1, 32, 1280]⟩
abbrev S1x16x1280 : Shape := ⟨3, ![1, 16, 1280]⟩
abbrev S1x8x1280 : Shape := ⟨3, ![1, 8, 1280]⟩
abbrev S1x4x1280 : Shape := ⟨3, ![1, 4, 1280]⟩
abbrev S1x2x1280 : Shape := ⟨3, ![1, 2, 1280]⟩
abbrev S1x0x1280 : Shape := ⟨3, ![1, 0, 1280]⟩
abbrev S1x3x1280 : Shape := ⟨3, ![1, 3, 1280]⟩
abbrev S1x7x1280 : Shape := ⟨3, ![1, 7, 1280]⟩
abbrev S1x15x1280 : Shape := ⟨3, ![1, 15, 1280]⟩
abbrev S1x31x1280 : Shape := ⟨3, ![1, 31, 1280]⟩
abbrev S1x63x1280 : Shape := ⟨3, ![1, 63, 1280]⟩
abbrev S1x127x1280 : Shape := ⟨3, ![1, 127, 1280]⟩
abbrev S1x255x1280 : Shape := ⟨3, ![1, 255, 1280]⟩
abbrev S1x511x1280 : Shape := ⟨3, ![1, 511, 1280]⟩
abbrev S1x1023x1280 : Shape := ⟨3, ![1, 1023, 1280]⟩
abbrev S1x2047x1280 : Shape := ⟨3, ![1, 2047, 1280]⟩
abbrev S4096x1280 : Shape := ⟨2, ![4096, 1280]⟩

abbrev nBuf : Space → Nat
  | .hbm => 467
  | .vmem => 0
  | .smem => 0
  | _ => 0

abbrev hbmTy0_0 (i : Nat) : BufTy := match i % 128 with
  | 0 => ⟨S4096x6656, .bf16⟩
  | 1 => ⟨S4x1280, .f32⟩
  | 2 => ⟨S1280, .f32⟩
  | 3 => ⟨S20x64x64, .f32⟩
  | 4 => ⟨S20x64, .f32⟩
  | 5 => ⟨S20x64x64, .f32⟩
  | 6 => ⟨S20x64, .f32⟩
  | 7 => ⟨S1280, .f32⟩
  | 8 => ⟨S4096x6656, .f32⟩
  | 9 => ⟨S1x4096x6656, .f32⟩
  | 10 => ⟨S1x4096x1280, .f32⟩
  | 11 => ⟨S1x4096x1280, .f32⟩
  | 12 => ⟨S1x4096x1024, .f32⟩
  | 13 => ⟨S1x4096x1024, .f32⟩
  | 14 => ⟨S1x4096x1024, .f32⟩
  | 15 => ⟨S1x4096x1024, .f32⟩
  | 16 => ⟨S_, .i32⟩
  | 17 => ⟨S_, .f32⟩
  | 18 => ⟨S1x4099x1280, .f32⟩
  | 19 => ⟨S1x4096x1280, .f32⟩
  | 20 => ⟨S1x1280, .f32⟩
  | 21 => ⟨S1280, .f32⟩
  | 22 => ⟨S1x1x1280, .f32⟩
  | 23 => ⟨S1x4096x1280, .f32⟩
  | 24 => ⟨S1x4096x1280, .f32⟩
  | 25 => ⟨S1x1x1280, .f32⟩
  | 26 => ⟨S1x4096x1280, .f32⟩
  | 27 => ⟨S1x4096x1280, .f32⟩
  | 28 => ⟨S1x4096x1280, .f32⟩
  | 29 => ⟨S1x1280, .f32⟩
  | 30 => ⟨S1280, .f32⟩
  | 31 => ⟨S1x1x1280, .f32⟩
  | 32 => ⟨S1x4096x1280, .f32⟩
  | 33 => ⟨S1x4096x1280, .f32⟩
  | 34 => ⟨S1x4096x1280, .f32⟩
  | 35 => ⟨S1x4096x1280, .f32⟩
  | 36 => ⟨S1x1280, .f32⟩
  | 37 => ⟨S1280, .f32⟩
  | 38 => ⟨S1x1x1280, .f32⟩
  | 39 => ⟨S1x4096x1280, .f32⟩
  | 40 => ⟨S1x4096x1280, .f32⟩
  | 41 => ⟨S1x4096x1280, .f32⟩
  | 42 => ⟨S1x4096x1280, .f32⟩
  | 43 => ⟨S1x1280, .f32⟩
  | 44 => ⟨S1280, .f32⟩
  | 45 => ⟨S1x1x1280, .f32⟩
  | 46 => ⟨S1x4096x1280, .f32⟩
  | 47 => ⟨S1x4096x1280, .f32⟩
  | 48 => ⟨S1x4096x1280, .f32⟩
  | 49 => ⟨S1x4096x20x64, .f32⟩
  | 50 => ⟨S20x64x1x4096, .f32⟩
  | 51 => ⟨S1x4096x20x64, .f32⟩
  | 52 => ⟨S1x1x20x64, .f32⟩
  | 53 => ⟨S1x4096x20x64, .f32⟩
  | 54 => ⟨S1x4096x20x64, .f32⟩
  | 55 => ⟨S1x4096x20x64, .f32⟩
  | 56 => ⟨S1x4096x20x64, .f32⟩
  | 57 => ⟨S_, .f32⟩
  | 58 => ⟨S1x4096x20x64, .f32⟩
  | 59 => ⟨S1x4096x20x64, .f32⟩
  | 60 => ⟨S_, .f32⟩
  | 61 => ⟨S1x4096x20x64, .f32⟩
  | 62 => ⟨S1x4096x20x64, .f32⟩
  | 63 => ⟨S1x4096x1280, .f32⟩
  | 64 => ⟨S20x64x1x4096, .f32⟩
  | 65 => ⟨S1x4096x20x64, .f32⟩
  | 66 => ⟨S1x1x20x64, .f32⟩
  | 67 => ⟨S1x4096x20x64, .f32⟩
  | 68 => ⟨S1x4096x20x64, .f32⟩
  | 69 => ⟨S1x4096x20x64, .f32⟩
  | 70 => ⟨S1x4096x20x64, .f32⟩
  | 71 => ⟨S_, .f32⟩
  | 72 => ⟨S1x4096x20x64, .f32⟩
  | 73 => ⟨S1x4096x20x64, .f32⟩
  | 74 => ⟨S_, .f32⟩
  | 75 => ⟨S1x4096x20x64, .f32⟩
  | 76 => ⟨S1x4096x20x64, .f32⟩
  | 77 => ⟨S1x4096x1280, .f32⟩
  | 78 => ⟨S_, .f32⟩
  | 79 => ⟨S1x4096x1280, .f32⟩
  | 80 => ⟨S1x4096x1280, .f32⟩
  | 81 => ⟨S1280, .f32⟩
  | 82 => ⟨S_, .f32⟩
  | 83 => ⟨S1280, .f32⟩
  | 84 => ⟨S1280, .f32⟩
  | 85 => ⟨S1280, .f32⟩
  | 86 => ⟨S1280, .f32⟩
  | 87 => ⟨S1280, .i1⟩
  | 88 => ⟨S1280, .f32⟩
  | 89 => ⟨S1280, .f32⟩
  | 90 => ⟨S1280, .f32⟩
  | 91 => ⟨S1280, .f32⟩
  | 92 => ⟨S1280, .f32⟩
  | 93 => ⟨S1280, .f32⟩
  | 94 => ⟨S1280, .f32⟩
  | 95 => ⟨S1280, .f32⟩
  | 96 => ⟨S1x1x1280, .f32⟩
  | 97 => ⟨S1x4096x1280, .f32⟩
  | 98 => ⟨S1x4096x1280, .f32⟩
  | 99 => ⟨S1x4096x1280, .f32⟩
  | 100 => ⟨S_, .f32⟩
  | 101 => ⟨S1x4096x1280, .f32⟩
  | 102 => ⟨S1x4096x1280, .f32⟩
  | 103 => ⟨S1x4096x1280, .f32⟩
  | 104 => ⟨S1x4096x1280, .f32⟩
  | 105 => ⟨S1x4096x1280, .f32⟩
  | 106 => ⟨S1x4096x1280, .f32⟩
  | 107 => ⟨S1x4096x1280, .f32⟩
  | 108 => ⟨S1x2048x1280, .f32⟩
  | 109 => ⟨S1x2048x1280, .f32⟩
  | 110 => ⟨S1x2048x1280, .f32⟩
  | 111 => ⟨S1x2048x1280, .f32⟩
  | 112 => ⟨S1x2048x1280, .f32⟩
  | 113 => ⟨S1x2048x1280, .f32⟩
  | 114 => ⟨S1x2048x1280, .f32⟩
  | 115 => ⟨S1x1024x1280, .f32⟩
  | 116 => ⟨S1x1024x1280, .f32⟩
  | 117 => ⟨S1x1024x1280, .f32⟩
  | 118 => ⟨S1x1024x1280, .f32⟩
  | 119 => ⟨S1x1024x1280, .f32⟩
  | 120 => ⟨S1x1024x1280, .f32⟩
  | 121 => ⟨S1x1024x1280, .f32⟩
  | 122 => ⟨S1x512x1280, .f32⟩
  | 123 => ⟨S1x512x1280, .f32⟩
  | 124 => ⟨S1x512x1280, .f32⟩
  | 125 => ⟨S1x512x1280, .f32⟩
  | 126 => ⟨S1x512x1280, .f32⟩
  | 127 => ⟨S1x512x1280, .f32⟩
  | _ => ⟨S4096x6656, .bf16⟩

abbrev hbmTy0_1 (i : Nat) : BufTy := match i % 128 with
  | 0 => ⟨S1x512x1280, .f32⟩
  | 1 => ⟨S1x256x1280, .f32⟩
  | 2 => ⟨S1x256x1280, .f32⟩
  | 3 => ⟨S1x256x1280, .f32⟩
  | 4 => ⟨S1x256x1280, .f32⟩
  | 5 => ⟨S1x256x1280, .f32⟩
  | 6 => ⟨S1x256x1280, .f32⟩
  | 7 => ⟨S1x256x1280, .f32⟩
  | 8 => ⟨S1x128x1280, .f32⟩
  | 9 => ⟨S1x128x1280, .f32⟩
  | 10 => ⟨S1x128x1280, .f32⟩
  | 11 => ⟨S1x128x1280, .f32⟩
  | 12 => ⟨S1x128x1280, .f32⟩
  | 13 => ⟨S1x128x1280, .f32⟩
  | 14 => ⟨S1x128x1280, .f32⟩
  | 15 => ⟨S1x64x1280, .f32⟩
  | 16 => ⟨S1x64x1280, .f32⟩
  | 17 => ⟨S1x64x1280, .f32⟩
  | 18 => ⟨S1x64x1280, .f32⟩
  | 19 => ⟨S1x64x1280, .f32⟩
  | 20 => ⟨S1x64x1280, .f32⟩
  | 21 => ⟨S1x64x1280, .f32⟩
  | 22 => ⟨S1x32x1280, .f32⟩
  | 23 => ⟨S1x32x1280, .f32⟩
  | 24 => ⟨S1x32x1280, .f32⟩
  | 25 => ⟨S1x32x1280, .f32⟩
  | 26 => ⟨S1x32x1280, .f32⟩
  | 27 => ⟨S1x32x1280, .f32⟩
  | 28 => ⟨S1x32x1280, .f32⟩
  | 29 => ⟨S1x16x1280, .f32⟩
  | 30 => ⟨S1x16x1280, .f32⟩
  | 31 => ⟨S1x16x1280, .f32⟩
  | 32 => ⟨S1x16x1280, .f32⟩
  | 33 => ⟨S1x16x1280, .f32⟩
  | 34 => ⟨S1x16x1280, .f32⟩
  | 35 => ⟨S1x16x1280, .f32⟩
  | 36 => ⟨S1x8x1280, .f32⟩
  | 37 => ⟨S1x8x1280, .f32⟩
  | 38 => ⟨S1x8x1280, .f32⟩
  | 39 => ⟨S1x8x1280, .f32⟩
  | 40 => ⟨S1x8x1280, .f32⟩
  | 41 => ⟨S1x8x1280, .f32⟩
  | 42 => ⟨S1x8x1280, .f32⟩
  | 43 => ⟨S1x4x1280, .f32⟩
  | 44 => ⟨S1x4x1280, .f32⟩
  | 45 => ⟨S1x4x1280, .f32⟩
  | 46 => ⟨S1x4x1280, .f32⟩
  | 47 => ⟨S1x4x1280, .f32⟩
  | 48 => ⟨S1x4x1280, .f32⟩
  | 49 => ⟨S1x4x1280, .f32⟩
  | 50 => ⟨S1x2x1280, .f32⟩
  | 51 => ⟨S1x2x1280, .f32⟩
  | 52 => ⟨S1x2x1280, .f32⟩
  | 53 => ⟨S1x2x1280, .f32⟩
  | 54 => ⟨S1x2x1280, .f32⟩
  | 55 => ⟨S1x2x1280, .f32⟩
  | 56 => ⟨S1x2x1280, .f32⟩
  | 57 => ⟨S1x1x1280, .f32⟩
  | 58 => ⟨S1x1x1280, .f32⟩
  | 59 => ⟨S1x1x1280, .f32⟩
  | 60 => ⟨S1x1x1280, .f32⟩
  | 61 => ⟨S1x1x1280, .f32⟩
  | 62 => ⟨S1x1x1280, .f32⟩
  | 63 => ⟨S1x1x1280, .f32⟩
  | 64 => ⟨S1x0x1280, .f32⟩
  | 65 => ⟨S1x0x1280, .f32⟩
  | 66 => ⟨S1x0x1280, .f32⟩
  | 67 => ⟨S1x0x1280, .f32⟩
  | 68 => ⟨S1x0x1280, .f32⟩
  | 69 => ⟨S1x0x1280, .f32⟩
  | 70 => ⟨S1x0x1280, .f32⟩
  | 71 => ⟨S1x1x1280, .f32⟩
  | 72 => ⟨S1x1x1280, .f32⟩
  | 73 => ⟨S1x1x1280, .f32⟩
  | 74 => ⟨S1x1x1280, .f32⟩
  | 75 => ⟨S_, .f32⟩
  | 76 => ⟨S1x2x1280, .f32⟩
  | 77 => ⟨S_, .f32⟩
  | 78 => ⟨S1x2x1280, .f32⟩
  | 79 => ⟨S1x2x1280, .f32⟩
  | 80 => ⟨S_, .f32⟩
  | 81 => ⟨S1x2x1280, .f32⟩
  | 82 => ⟨S_, .f32⟩
  | 83 => ⟨S1x2x1280, .f32⟩
  | 84 => ⟨S1x2x1280, .f32⟩
  | 85 => ⟨S1x1x1280, .f32⟩
  | 86 => ⟨S1x1x1280, .f32⟩
  | 87 => ⟨S1x1x1280, .f32⟩
  | 88 => ⟨S1x1x1280, .f32⟩
  | 89 => ⟨S1x1x1280, .f32⟩
  | 90 => ⟨S1x1x1280, .f32⟩
  | 91 => ⟨S1x1x1280, .f32⟩
  | 92 => ⟨S1x1x1280, .f32⟩
  | 93 => ⟨S1x2x1280, .f32⟩
  | 94 => ⟨S1x1x1280, .f32⟩
  | 95 => ⟨S1x2x1280, .f32⟩
  | 96 => ⟨S_, .f32⟩
  | 97 => ⟨S1x4x1280, .f32⟩
  | 98 => ⟨S_, .f32⟩
  | 99 => ⟨S1x4x1280, .f32⟩
  | 100 => ⟨S1x4x1280, .f32⟩
  | 101 => ⟨S_, .f32⟩
  | 102 => ⟨S1x4x1280, .f32⟩
  | 103 => ⟨S_, .f32⟩
  | 104 => ⟨S1x4x1280, .f32⟩
  | 105 => ⟨S1x4x1280, .f32⟩
  | 106 => ⟨S1x3x1280, .f32⟩
  | 107 => ⟨S1x3x1280, .f32⟩
  | 108 => ⟨S1x3x1280, .f32⟩
  | 109 => ⟨S1x3x1280, .f32⟩
  | 110 => ⟨S1x3x1280, .f32⟩
  | 111 => ⟨S1x3x1280, .f32⟩
  | 112 => ⟨S1x3x1280, .f32⟩
  | 113 => ⟨S1x1x1280, .f32⟩
  | 114 => ⟨S1x4x1280, .f32⟩
  | 115 => ⟨S1x1x1280, .f32⟩
  | 116 => ⟨S1x4x1280, .f32⟩
  | 117 => ⟨S_, .f32⟩
  | 118 => ⟨S1x8x1280, .f32⟩
  | 119 => ⟨S_, .f32⟩
  | 120 => ⟨S1x8x1280, .f32⟩
  | 121 => ⟨S1x8x1280, .f32⟩
  | 122 => ⟨S_, .f32⟩
  | 123 => ⟨S1x8x1280, .f32⟩
  | 124 => ⟨S_, .f32⟩
  | 125 => ⟨S1x8x1280, .f32⟩
  | 126 => ⟨S1x8x1280, .f32⟩
  | 127 => ⟨S1x7x1280, .f32⟩
  | _ => ⟨S4096x6656, .bf16⟩

abbrev hbmTy0_2 (i : Nat) : BufTy := match i % 128 with
  | 0 => ⟨S1x7x1280, .f32⟩
  | 1 => ⟨S1x7x1280, .f32⟩
  | 2 => ⟨S1x7x1280, .f32⟩
  | 3 => ⟨S1x7x1280, .f32⟩
  | 4 => ⟨S1x7x1280, .f32⟩
  | 5 => ⟨S1x7x1280, .f32⟩
  | 6 => ⟨S1x1x1280, .f32⟩
  | 7 => ⟨S1x8x1280, .f32⟩
  | 8 => ⟨S1x1x1280, .f32⟩
  | 9 => ⟨S1x8x1280, .f32⟩
  | 10 => ⟨S_, .f32⟩
  | 11 => ⟨S1x16x1280, .f32⟩
  | 12 => ⟨S_, .f32⟩
  | 13 => ⟨S1x16x1280, .f32⟩
  | 14 => ⟨S1x16x1280, .f32⟩
  | 15 => ⟨S_, .f32⟩
  | 16 => ⟨S1x16x1280, .f32⟩
  | 17 => ⟨S_, .f32⟩
  | 18 => ⟨S1x16x1280, .f32⟩
  | 19 => ⟨S1x16x1280, .f32⟩
  | 20 => ⟨S1x15x1280, .f32⟩
  | 21 => ⟨S1x15x1280, .f32⟩
  | 22 => ⟨S1x15x1280, .f32⟩
  | 23 => ⟨S1x15x1280, .f32⟩
  | 24 => ⟨S1x15x1280, .f32⟩
  | 25 => ⟨S1x15x1280, .f32⟩
  | 26 => ⟨S1x15x1280, .f32⟩
  | 27 => ⟨S1x1x1280, .f32⟩
  | 28 => ⟨S1x16x1280, .f32⟩
  | 29 => ⟨S1x1x1280, .f32⟩
  | 30 => ⟨S1x16x1280, .f32⟩
  | 31 => ⟨S_, .f32⟩
  | 32 => ⟨S1x32x1280, .f32⟩
  | 33 => ⟨S_, .f32⟩
  | 34 => ⟨S1x32x1280, .f32⟩
  | 35 => ⟨S1x32x1280, .f32⟩
  | 36 => ⟨S_, .f32⟩
  | 37 => ⟨S1x32x1280, .f32⟩
  | 38 => ⟨S_, .f32⟩
  | 39 => ⟨S1x32x1280, .f32⟩
  | 40 => ⟨S1x32x1280, .f32⟩
  | 41 => ⟨S1x31x1280, .f32⟩
  | 42 => ⟨S1x31x1280, .f32⟩
  | 43 => ⟨S1x31x1280, .f32⟩
  | 44 => ⟨S1x31x1280, .f32⟩
  | 45 => ⟨S1x31x1280, .f32⟩
  | 46 => ⟨S1x31x1280, .f32⟩
  | 47 => ⟨S1x31x1280, .f32⟩
  | 48 => ⟨S1x1x1280, .f32⟩
  | 49 => ⟨S1x32x1280, .f32⟩
  | 50 => ⟨S1x1x1280, .f32⟩
  | 51 => ⟨S1x32x1280, .f32⟩
  | 52 => ⟨S_, .f32⟩
  | 53 => ⟨S1x64x1280, .f32⟩
  | 54 => ⟨S_, .f32⟩
  | 55 => ⟨S1x64x1280, .f32⟩
  | 56 => ⟨S1x64x1280, .f32⟩
  | 57 => ⟨S_, .f32⟩
  | 58 => ⟨S1x64x1280, .f32⟩
  | 59 => ⟨S_, .f32⟩
  | 60 => ⟨S1x64x1280, .f32⟩
  | 61 => ⟨S1x64x1280, .f32⟩
  | 62 => ⟨S1x63x1280, .f32⟩
  | 63 => ⟨S1x63x1280, .f32⟩
  | 64 => ⟨S1x63x1280, .f32⟩
  | 65 => ⟨S1x63x1280, .f32⟩
  | 66 => ⟨S1x63x1280, .f32⟩
  | 67 => ⟨S1x63x1280, .f32⟩
  | 68 => ⟨S1x63x1280, .f32⟩
  | 69 => ⟨S1x1x1280, .f32⟩
  | 70 => ⟨S1x64x1280, .f32⟩
  | 71 => ⟨S1x1x1280, .f32⟩
  | 72 => ⟨S1x64x1280, .f32⟩
  | 73 => ⟨S_, .f32⟩
  | 74 => ⟨S1x128x1280, .f32⟩
  | 75 => ⟨S_, .f32⟩
  | 76 => ⟨S1x128x1280, .f32⟩
  | 77 => ⟨S1x128x1280, .f32⟩
  | 78 => ⟨S_, .f32⟩
  | 79 => ⟨S1x128x1280, .f32⟩
  | 80 => ⟨S_, .f32⟩
  | 81 => ⟨S1x128x1280, .f32⟩
  | 82 => ⟨S1x128x1280, .f32⟩
  | 83 => ⟨S1x127x1280, .f32⟩
  | 84 => ⟨S1x127x1280, .f32⟩
  | 85 => ⟨S1x127x1280, .f32⟩
  | 86 => ⟨S1x127x1280, .f32⟩
  | 87 => ⟨S1x127x1280, .f32⟩
  | 88 => ⟨S1x127x1280, .f32⟩
  | 89 => ⟨S1x127x1280, .f32⟩
  | 90 => ⟨S1x1x1280, .f32⟩
  | 91 => ⟨S1x128x1280, .f32⟩
  | 92 => ⟨S1x1x1280, .f32⟩
  | 93 => ⟨S1x128x1280, .f32⟩
  | 94 => ⟨S_, .f32⟩
  | 95 => ⟨S1x256x1280, .f32⟩
  | 96 => ⟨S_, .f32⟩
  | 97 => ⟨S1x256x1280, .f32⟩
  | 98 => ⟨S1x256x1280, .f32⟩
  | 99 => ⟨S_, .f32⟩
  | 100 => ⟨S1x256x1280, .f32⟩
  | 101 => ⟨S_, .f32⟩
  | 102 => ⟨S1x256x1280, .f32⟩
  | 103 => ⟨S1x256x1280, .f32⟩
  | 104 => ⟨S1x255x1280, .f32⟩
  | 105 => ⟨S1x255x1280, .f32⟩
  | 106 => ⟨S1x255x1280, .f32⟩
  | 107 => ⟨S1x255x1280, .f32⟩
  | 108 => ⟨S1x255x1280, .f32⟩
  | 109 => ⟨S1x255x1280, .f32⟩
  | 110 => ⟨S1x255x1280, .f32⟩
  | 111 => ⟨S1x1x1280, .f32⟩
  | 112 => ⟨S1x256x1280, .f32⟩
  | 113 => ⟨S1x1x1280, .f32⟩
  | 114 => ⟨S1x256x1280, .f32⟩
  | 115 => ⟨S_, .f32⟩
  | 116 => ⟨S1x512x1280, .f32⟩
  | 117 => ⟨S_, .f32⟩
  | 118 => ⟨S1x512x1280, .f32⟩
  | 119 => ⟨S1x512x1280, .f32⟩
  | 120 => ⟨S_, .f32⟩
  | 121 => ⟨S1x512x1280, .f32⟩
  | 122 => ⟨S_, .f32⟩
  | 123 => ⟨S1x512x1280, .f32⟩
  | 124 => ⟨S1x512x1280, .f32⟩
  | 125 => ⟨S1x511x1280, .f32⟩
  | 126 => ⟨S1x511x1280, .f32⟩
  | 127 => ⟨S1x511x1280, .f32⟩
  | _ => ⟨S4096x6656, .bf16⟩

abbrev hbmTy0_3 (i : Nat) : BufTy := match i % 128 with
  | 0 => ⟨S1x511x1280, .f32⟩
  | 1 => ⟨S1x511x1280, .f32⟩
  | 2 => ⟨S1x511x1280, .f32⟩
  | 3 => ⟨S1x511x1280, .f32⟩
  | 4 => ⟨S1x1x1280, .f32⟩
  | 5 => ⟨S1x512x1280, .f32⟩
  | 6 => ⟨S1x1x1280, .f32⟩
  | 7 => ⟨S1x512x1280, .f32⟩
  | 8 => ⟨S_, .f32⟩
  | 9 => ⟨S1x1024x1280, .f32⟩
  | 10 => ⟨S_, .f32⟩
  | 11 => ⟨S1x1024x1280, .f32⟩
  | 12 => ⟨S1x1024x1280, .f32⟩
  | 13 => ⟨S_, .f32⟩
  | 14 => ⟨S1x1024x1280, .f32⟩
  | 15 => ⟨S_, .f32⟩
  | 16 => ⟨S1x1024x1280, .f32⟩
  | 17 => ⟨S1x1024x1280, .f32⟩
  | 18 => ⟨S1x1023x1280, .f32⟩
  | 19 => ⟨S1x1023x1280, .f32⟩
  | 20 => ⟨S1x1023x1280, .f32⟩
  | 21 => ⟨S1x1023x1280, .f32⟩
  | 22 => ⟨S1x1023x1280, .f32⟩
  | 23 => ⟨S1x1023x1280, .f32⟩
  | 24 => ⟨S1x1023x1280, .f32⟩
  | 25 => ⟨S1x1x1280, .f32⟩
  | 26 => ⟨S1x1024x1280, .f32⟩
  | 27 => ⟨S1x1x1280, .f32⟩
  | 28 => ⟨S1x1024x1280, .f32⟩
  | 29 => ⟨S_, .f32⟩
  | 30 => ⟨S1x2048x1280, .f32⟩
  | 31 => ⟨S_, .f32⟩
  | 32 => ⟨S1x2048x1280, .f32⟩
  | 33 => ⟨S1x2048x1280, .f32⟩
  | 34 => ⟨S_, .f32⟩
  | 35 => ⟨S1x2048x1280, .f32⟩
  | 36 => ⟨S_, .f32⟩
  | 37 => ⟨S1x2048x1280, .f32⟩
  | 38 => ⟨S1x2048x1280, .f32⟩
  | 39 => ⟨S1x2047x1280, .f32⟩
  | 40 => ⟨S1x2047x1280, .f32⟩
  | 41 => ⟨S1x2047x1280, .f32⟩
  | 42 => ⟨S1x2047x1280, .f32⟩
  | 43 => ⟨S1x2047x1280, .f32⟩
  | 44 => ⟨S1x2047x1280, .f32⟩
  | 45 => ⟨S1x2047x1280, .f32⟩
  | 46 => ⟨S1x1x1280, .f32⟩
  | 47 => ⟨S1x2048x1280, .f32⟩
  | 48 => ⟨S1x1x1280, .f32⟩
  | 49 => ⟨S1x2048x1280, .f32⟩
  | 50 => ⟨S_, .f32⟩
  | 51 => ⟨S1x4096x1280, .f32⟩
  | 52 => ⟨S_, .f32⟩
  | 53 => ⟨S1x4096x1280, .f32⟩
  | 54 => ⟨S1x4096x1280, .f32⟩
  | 55 => ⟨S_, .f32⟩
  | 56 => ⟨S1x4096x1280, .f32⟩
  | 57 => ⟨S_, .f32⟩
  | 58 => ⟨S1x4096x1280, .f32⟩
  | 59 => ⟨S1x4096x1280, .f32⟩
  | 60 => ⟨S4096x1280, .f32⟩
  | 61 => ⟨S_, .f32⟩
  | 62 => ⟨S_, .f32⟩
  | 63 => ⟨S_, .f32⟩
  | 64 => ⟨S1x4096x1280, .f32⟩
  | 65 => ⟨S1x4096x1280, .f32⟩
  | 66 => ⟨S1x4096x1280, .f32⟩
  | 67 => ⟨S1x4096x1280, .f32⟩
  | 68 => ⟨S1x4096x1280, .f32⟩
  | 69 => ⟨S_, .f32⟩
  | 70 => ⟨S1x4096x1280, .f32⟩
  | 71 => ⟨S1x4096x1280, .f32⟩
  | 72 => ⟨S1x4096x1280, .f32⟩
  | 73 => ⟨S_, .f32⟩
  | 74 => ⟨S1x4096x1280, .f32⟩
  | 75 => ⟨S1x4096x1280, .f32⟩
  | 76 => ⟨S_, .f32⟩
  | 77 => ⟨S1x4096x1280, .f32⟩
  | 78 => ⟨S1x4096x1280, .f32⟩
  | 79 => ⟨S1x4096x1280, .f32⟩
  | 80 => ⟨S1x4096x1280, .f32⟩
  | 81 => ⟨S4096x1280, .f32⟩
  | 82 => ⟨S4096x1280, .bf16⟩
  | _ => ⟨S4096x6656, .bf16⟩

abbrev hbmTy (i : Nat) : BufTy := match i / 128 with
  | 0 => hbmTy0_0 i
  | 1 => hbmTy0_1 i
  | 2 => hbmTy0_2 i
  | 3 => hbmTy0_3 i
  | _ => ⟨S4096x6656, .bf16⟩

abbrev bufTy : (tb : Table) → Fin (tcTables nBuf tb) → BufTy
  | .hbm, ⟨i, _⟩ => hbmTy i
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_cst_5 : Ref sig .tc := ⟨.hbm, 203, rfl⟩
abbrev main_v174 : Ref sig .tc := ⟨.hbm, 204, rfl⟩
abbrev main_cst_6 : Ref sig .tc := ⟨.hbm, 205, rfl⟩
abbrev main_v175 : Ref sig .tc := ⟨.hbm, 206, rfl⟩
abbrev main_v176 : Ref sig .tc := ⟨.hbm, 207, rfl⟩
abbrev main_cst_7 : Ref sig .tc := ⟨.hbm, 208, rfl⟩
abbrev main_v177 : Ref sig .tc := ⟨.hbm, 209, rfl⟩
abbrev main_cst_8 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_cst_9 : Ref sig .tc := ⟨.hbm, 224, rfl⟩
abbrev main_v191 : Ref sig .tc := ⟨.hbm, 225, rfl⟩
abbrev main_cst_10 : Ref sig .tc := ⟨.hbm, 226, rfl⟩
abbrev main_v192 : Ref sig .tc := ⟨.hbm, 227, rfl⟩
abbrev main_v193 : Ref sig .tc := ⟨.hbm, 228, rfl⟩
abbrev main_cst_11 : Ref sig .tc := ⟨.hbm, 229, rfl⟩
abbrev main_v194 : Ref sig .tc := ⟨.hbm, 230, rfl⟩
abbrev main_cst_12 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_cst_13 : Ref sig .tc := ⟨.hbm, 245, rfl⟩
abbrev main_v208 : Ref sig .tc := ⟨.hbm, 246, rfl⟩
abbrev main_cst_14 : Ref sig .tc := ⟨.hbm, 247, rfl⟩
abbrev main_v209 : Ref sig .tc := ⟨.hbm, 248, rfl⟩
abbrev main_v210 : Ref sig .tc := ⟨.hbm, 249, rfl⟩
abbrev main_cst_15 : Ref sig .tc := ⟨.hbm, 250, rfl⟩
abbrev main_v211 : Ref sig .tc := ⟨.hbm, 251, rfl⟩
abbrev main_cst_16 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_cst_17 : Ref sig .tc := ⟨.hbm, 266, rfl⟩
abbrev main_v225 : Ref sig .tc := ⟨.hbm, 267, rfl⟩
abbrev main_cst_18 : Ref sig .tc := ⟨.hbm, 268, rfl⟩
abbrev main_v226 : Ref sig .tc := ⟨.hbm, 269, rfl⟩
abbrev main_v227 : Ref sig .tc := ⟨.hbm, 270, rfl⟩
abbrev main_cst_19 : Ref sig .tc := ⟨.hbm, 271, rfl⟩
abbrev main_v228 : Ref sig .tc := ⟨.hbm, 272, rfl⟩
abbrev main_cst_20 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_cst_21 : Ref sig .tc := ⟨.hbm, 287, rfl⟩
abbrev main_v242 : Ref sig .tc := ⟨.hbm, 288, rfl⟩
abbrev main_cst_22 : Ref sig .tc := ⟨.hbm, 289, rfl⟩
abbrev main_v243 : Ref sig .tc := ⟨.hbm, 290, rfl⟩
abbrev main_v244 : Ref sig .tc := ⟨.hbm, 291, rfl⟩
abbrev main_cst_23 : Ref sig .tc := ⟨.hbm, 292, rfl⟩
abbrev main_v245 : Ref sig .tc := ⟨.hbm, 293, rfl⟩
abbrev main_cst_24 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_cst_25 : Ref sig .tc := ⟨.hbm, 308, rfl⟩
abbrev main_v259 : Ref sig .tc := ⟨.hbm, 309, rfl⟩
abbrev main_cst_26 : Ref sig .tc := ⟨.hbm, 310, rfl⟩
abbrev main_v260 : Ref sig .tc := ⟨.hbm, 311, rfl⟩
abbrev main_v261 : Ref sig .tc := ⟨.hbm, 312, rfl⟩
abbrev main_cst_27 : Ref sig .tc := ⟨.hbm, 313, rfl⟩
abbrev main_v262 : Ref sig .tc := ⟨.hbm, 314, rfl⟩
abbrev main_cst_28 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_cst_29 : Ref sig .tc := ⟨.hbm, 329, rfl⟩
abbrev main_v276 : Ref sig .tc := ⟨.hbm, 330, rfl⟩
abbrev main_cst_30 : Ref sig .tc := ⟨.hbm, 331, rfl⟩
abbrev main_v277 : Ref sig .tc := ⟨.hbm, 332, rfl⟩
abbrev main_v278 : Ref sig .tc := ⟨.hbm, 333, rfl⟩
abbrev main_cst_31 : Ref sig .tc := ⟨.hbm, 334, rfl⟩
abbrev main_v279 : Ref sig .tc := ⟨.hbm, 335, rfl⟩
abbrev main_cst_32 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_cst_33 : Ref sig .tc := ⟨.hbm, 350, rfl⟩
abbrev main_v293 : Ref sig .tc := ⟨.hbm, 351, rfl⟩
abbrev main_cst_34 : Ref sig .tc := ⟨.hbm, 352, rfl⟩
abbrev main_v294 : Ref sig .tc := ⟨.hbm, 353, rfl⟩
abbrev main_v295 : Ref sig .tc := ⟨.hbm, 354, rfl⟩
abbrev main_cst_35 : Ref sig .tc := ⟨.hbm, 355, rfl⟩
abbrev main_v296 : Ref sig .tc := ⟨.hbm, 356, rfl⟩
abbrev main_cst_36 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_cst_37 : Ref sig .tc := ⟨.hbm, 371, rfl⟩
abbrev main_v310 : Ref sig .tc := ⟨.hbm, 372, rfl⟩
abbrev main_cst_38 : Ref sig .tc := ⟨.hbm, 373, rfl⟩
abbrev main_v311 : Ref sig .tc := ⟨.hbm, 374, rfl⟩
abbrev main_v312 : Ref sig .tc := ⟨.hbm, 375, rfl⟩
abbrev main_cst_39 : Ref sig .tc := ⟨.hbm, 376, rfl⟩
abbrev main_v313 : Ref sig .tc := ⟨.hbm, 377, rfl⟩
abbrev main_cst_40 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_cst_41 : Ref sig .tc := ⟨.hbm, 392, rfl⟩
abbrev main_v327 : Ref sig .tc := ⟨.hbm, 393, rfl⟩
abbrev main_cst_42 : Ref sig .tc := ⟨.hbm, 394, rfl⟩
abbrev main_v328 : Ref sig .tc := ⟨.hbm, 395, rfl⟩
abbrev main_v329 : Ref sig .tc := ⟨.hbm, 396, rfl⟩
abbrev main_cst_43 : Ref sig .tc := ⟨.hbm, 397, rfl⟩
abbrev main_v330 : Ref sig .tc := ⟨.hbm, 398, rfl⟩
abbrev main_cst_44 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_cst_45 : Ref sig .tc := ⟨.hbm, 413, rfl⟩
abbrev main_v344 : Ref sig .tc := ⟨.hbm, 414, rfl⟩
abbrev main_cst_46 : Ref sig .tc := ⟨.hbm, 415, rfl⟩
abbrev main_v345 : Ref sig .tc := ⟨.hbm, 416, rfl⟩
abbrev main_v346 : Ref sig .tc := ⟨.hbm, 417, rfl⟩
abbrev main_cst_47 : Ref sig .tc := ⟨.hbm, 418, rfl⟩
abbrev main_v347 : Ref sig .tc := ⟨.hbm, 419, rfl⟩
abbrev main_cst_48 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_cst_49 : Ref sig .tc := ⟨.hbm, 434, rfl⟩
abbrev main_v361 : Ref sig .tc := ⟨.hbm, 435, rfl⟩
abbrev main_cst_50 : Ref sig .tc := ⟨.hbm, 436, rfl⟩
abbrev main_v362 : Ref sig .tc := ⟨.hbm, 437, rfl⟩
abbrev main_v363 : Ref sig .tc := ⟨.hbm, 438, rfl⟩
abbrev main_cst_51 : Ref sig .tc := ⟨.hbm, 439, rfl⟩
abbrev main_v364 : Ref sig .tc := ⟨.hbm, 440, rfl⟩
abbrev main_cst_52 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_cst_53 : Ref sig .tc := ⟨.hbm, 445, rfl⟩
abbrev main_cst_54 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_cst_55 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_cst_56 : Ref sig .tc := ⟨.hbm, 457, rfl⟩
abbrev main_v377 : Ref sig .tc := ⟨.hbm, 458, rfl⟩
abbrev main_v378 : Ref sig .tc := ⟨.hbm, 459, rfl⟩
abbrev main_cst_57 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩

abbrev nD : Nat := 1
abbrev τ : Topo := Topo.v7x

variable {F : FTy → Type} [FloatOps F]
-- ==== UpW.lean ====
abbrev S4096x4096 : Shape := ⟨2, ![4096, 4096]⟩
abbrev S4096x1024 : Shape := ⟨2, ![4096, 1024]⟩
abbrev S1024x4096 : Shape := ⟨2, ![1024, 4096]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1024x4096, .bf16⟩
  | .hbm, ⟨3, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpWRefIdeal.lean ====
abbrev S4096x4096 : Shape := ⟨2, ![4096, 4096]⟩
abbrev S4096x1024 : Shape := ⟨2, ![4096, 1024]⟩
abbrev S1024x4096 : Shape := ⟨2, ![1024, 4096]⟩
abbrev S1x4096x1024 : Shape := ⟨3, ![1, 4096, 1024]⟩
abbrev S1x4096x4096 : Shape := ⟨3, ![1, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1024x4096, .bf16⟩
  | .hbm, ⟨3, _⟩ => ⟨S1024x4096, .f32⟩
  | .hbm, ⟨4, _⟩ => ⟨S4096x1024, .f32⟩
  | .hbm, ⟨5, _⟩ => ⟨S1x4096x1024, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== StepUp.lean ====
abbrev S2x1024x512 : Shape := ⟨3, ![2, 1024, 512]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUpRefIdeal.lean ====
abbrev S2x1024x512 : Shape := ⟨3, ![2, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S1x1024x512, .f32⟩
  | .hbm, ⟨6, _⟩ => ⟨S1x1024x512, .f32⟩
  | .hbm, ⟨7, _⟩ => ⟨S2x1024x512, .f32⟩
  | .hbm, ⟨8, _⟩ => ⟨S_, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Grads.lean ====
abbrev S4096x1024 : Shape := ⟨2, ![4096, 1024]⟩
abbrev S4096x1280 : Shape := ⟨2, ![4096, 1280]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1280, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .bf16⟩
  | .hbm, ⟨7, _⟩ => ⟨S1280x1024, .bf16⟩
  | .hbm, ⟨8, _⟩ => ⟨S1024x1024, .bf16⟩
  | .hbm, ⟨9, _⟩ => ⟨S1024x1024, .bf16⟩
  | .hbm, ⟨10, _⟩ => ⟨S1280x1024, .bf16⟩
  | .hbm, ⟨11, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1280x1024, .bf16⟩
  | .local _ .vmem, ⟨14, _⟩ => ⟨S1024x1024, .bf16⟩
  | .local _ .vmem, ⟨15, _⟩ => ⟨S1024x1024, .f32⟩
  | .local _ .vmem, ⟨16, _⟩ => ⟨S1280x1024, .f32⟩
  | .local _ .vmem, ⟨17, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond7 (i : grid0.Coords) : BitVec 1 :=
  let arg0 : BitVec 32 := BitVec.ofNat 32 (i 0).val
  let c3_i32 : BitVec 32 := 3#32
  let v27 : BitVec 1 := Scalar.cmpi .eq arg0 c3_i32
  let v28 : BitVec 32 := Scalar.extui v27
  let c0_i32_24 : BitVec 32 := 0#32
  let v29 : BitVec 1 := Scalar.cmpi .ne v28 c0_i32_24
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GradsRefIdeal.lean ====
abbrev S4096x1024 : Shape := ⟨2, ![4096, 1024]⟩
abbrev S4096x1280 : Shape := ⟨2, ![4096, 1280]⟩
abbrev S1024x1024 : Shape := ⟨2, ![1024, 1024]⟩
abbrev S1280x1024 : Shape := ⟨2, ![1280, 1024]⟩
abbrev S1x4096x1280 : Shape := ⟨3, ![1, 4096, 1280]⟩
abbrev S1x4096x1024 : Shape := ⟨3, ![1, 4096, 1024]⟩
abbrev S1024x1280 : Shape := ⟨2, ![1024, 1280]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1280, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .bf16⟩
  | .hbm, ⟨7, _⟩ => ⟨S1280x1024, .bf16⟩
  | .hbm, ⟨8, _⟩ => ⟨S1024x1024, .bf16⟩
  | .hbm, ⟨9, _⟩ => ⟨S1024x1024, .f32⟩
  | .hbm, ⟨10, _⟩ => ⟨S1280x1024, .f32⟩
  | .hbm, ⟨11, _⟩ => ⟨S1024x1024, .f32⟩
  | .hbm, ⟨12, _⟩ => ⟨S4096x1280, .f32⟩
  | .hbm, ⟨13, _⟩ => ⟨S1x4096x1280, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S1x4096x1024, .f32⟩
  | .hbm, ⟨21, _⟩ => ⟨S4096x1024, .f32⟩
  | .hbm, ⟨22, _⟩ => ⟨S1x4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S1x4096x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1280, .f32⟩
  | .hbm, ⟨32, _⟩ => ⟨S1280x1024, .f32⟩
  | .hbm, ⟨33, _⟩ => ⟨S1024x1024, .bf16⟩
  | .hbm, ⟨34, _⟩ => ⟨S1280x1024, .bf16⟩
  | .hbm, ⟨35, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Relu.lean ====
/- The gradient of the squared ReLU fused with the product that feeds it: the kernel's result array is the reference's. -/
module

public import proofs.«01_k».proof.Proof.Gen.ReluIdeal.Value
public import proofs.«01_k».proof.Proof.Gen.ReluRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReluIdeal.Value

open Cert.ReluIdeal Cert.ReluIdeal.Gen

variable (m : (ℓ : Loc nD τ sig) → Buf (Elt Ideal) ℓ)

/-- Every window's block index at point `t` of the grid of four by two. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

/-- The squared ReLU's derivative times a cotangent: where the input is not positive, both spellings are zero. -/
theorem relu_deriv (w p d : EReal) : (if 0 < p then d * (w * max p 0) else 0) = d * (w * max p 0) := by
  split_ifs with h
  · rfl
  · rw [max_eq_right (not_lt.mp h), mul_zero, mul_zero]

/-- What the body stores at index `y` of point `t`'s block is the reference's value there. -/
theorem point (c : Dev nD) (t : Fin cfg0.N) (y : S1024x2048.Idx) :
    k0_pay1 (iblk m c 0 t) (iblk m c 1 t) (iblk m c 2 t) y
      = Cert.ReluRefIdeal.Read.val_main_v18 (F := Ideal) (m ((c : Thread nD τ).loc main_arg0)) (m ((c : Thread nD τ).loc main_arg1))
          (m ((c : Thread nD τ).loc main_arg2)) (((cfg0.win 3).blk t).view.emb y) := by
  open Cert.ReluRefIdeal.Read in
  pointwise [k0_pay1, val_main_v18, val_main_v17, val_main_v16, val_main_v15, val_main_cst_2, val_main_v14, val_main_v13, val_main_v12, val_main_v11, val_main_v9, val_main_v8, val_main_v7, val_main_cst_1, val_main_v4, val_main_v3, val_main_v2, val_main_call0_v0, val_main_call0_cst, val_main_v1, val_main_v0, val_main_cst]
  rw [relu_deriv]
  blk_point [iblk, V, idx t]

theorem final (c : Dev nD) : (dats m 0 c).arrAt 3 cfg0.N
    = Cert.ReluRefIdeal.Read.val_main_v18 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

end Cert.ReluIdeal.Value
-- ==== Proof.Sigmoid.lean ====
/- The logistic function written with a hyperbolic tangent: one function of the extended reals, its infinities included. -/
module

public import Idealize.ShloMosaic.Lib.Pointwise
public import Mathlib.Analysis.SpecialFunctions.Trigonometric.DerivHyp

@[expose] public section

noncomputable section

open Idealize.ShloMosaic

namespace Cert.Gates

/-- The binary32 pattern of one half. -/
theorem ofBits_half : Ideal.ofBits .f32 0x3F000000#32 = ((1 / 2 : ℝ) : EReal) := by
  simp [Ideal.ofBits, Ideal.ieee, -EReal.coe_mul]; norm_num

/-- The binary32 pattern of two. -/
theorem ofBits_two : Ideal.ofBits .f32 0x40000000#32 = ((2 : ℝ) : EReal) := by
  simp [Ideal.ofBits, Ideal.ieee, -EReal.coe_mul]; norm_num

/-- The hyperbolic tangent of half the argument, in exponentials. -/
theorem tanh_half (x : ℝ) : 1 / 2 + 1 / 2 * Real.tanh (1 / 2 * x) = (1 + Real.exp (-x))⁻¹ := by
  have hx : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  have hp := Real.exp_pos (1 / 2 * x)
  have hn := Real.exp_pos (-(1 / 2 * x))
  rw [Real.tanh_eq_sinh_div_cosh, Real.sinh_eq, Real.cosh_eq, hx]
  generalize Real.exp (1 / 2 * x) = p at *
  generalize Real.exp (-(1 / 2 * x)) = n at *
  have : 0 < p + n := by positivity
  have : 0 < 1 + n * n := by positivity
  field_simp
  linear_combination (2 * n) * h1

/-- The two spellings of the logistic function agree at every extended real. -/
theorem sigmoid_eq (x : EReal) :
    Ideal.ofBits .f32 0x3F000000#32 + Ideal.ofBits .f32 0x3F000000#32 * Ideal.tanh (Ideal.ofBits .f32 0x3F000000#32 * x)
      = Ideal.div 1 (1 + Ideal.exp (-x)) := by
  rw [ofBits_half]
  change _ = Ideal.logistic x
  induction x with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, tanh_half]

end Cert.Gates

end
-- ==== Proof.MergeBlocks.lean ====
/- The gradient of the gated merge: what one grid point's body computes from its blocks, set beside the reference's intermediate arrays. -/
module

public import proofs.«01_k».proof.Proof.Gen.MergeIdeal.Value
public import proofs.«01_k».proof.Proof.Gen.MergeRefIdeal.Read
public import proofs.«01_k».proof.Proof.Sigmoid
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- Row `r` of point `t`'s block in the whole array. -/
abbrev row (t : Fin cfg0.N) (r : Fin 512) : Fin 4096 := ⟨t.val * 512 + r.val, by have := t.isLt; have : cfg0.N = 8 := rfl; omega⟩

/-- Every window's block index at point `t`. -/
theorem idx : ∀ t : Fin cfg0.N, win0_0.index t = ![t.val, 0] ∧ win0_1.index t = ![t.val, 0] ∧ win0_2.index t = ![t.val, 0]
    ∧ win0_3.index t = ![t.val, 9] ∧ win0_4.index t = ![t.val, 10] ∧ win0_5.index t = ![t.val, 11] ∧ win0_6.index t = ![t.val, 12]
    ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

open Cert.MergeRefIdeal.Read

/-- The cotangent of the merged activation. -/
theorem dm_point (c : Dev nD) (t : Fin cfg0.N) (r : Fin 512) (d : Fin 1024) :
    k0_pay13 (iblk m c 0 t) (iblk m c 1 t) (iblk m c 2 t) (iblk m c 3 t) (iblk m c 4 t) (iblk m c 5 t) (iblk m c 6 t) (iblk m c 7 t) (iblk m c 8 t) (iblk m c 9 t) (ix2 r d)
      = val_main_v41 (F := Ideal) (m ((c : Thread nD τ).loc main_arg0)) (m ((c : Thread nD τ).loc main_arg6)) (ix3 0 (row t r) d) := by
  pointwise [k0_pay13, k0_pay7, val_main_v41, val_main_v37, val_main_v40, val_main_v39]
  blk_point [iblk, V, idx t]

/-- The first gate. -/
theorem sa_point (c : Dev nD) (t : Fin cfg0.N) (r : Fin 512) (d : Fin 1024) :
    k0_pay14 (iblk m c 0 t) (iblk m c 1 t) (iblk m c 2 t) (iblk m c 3 t) (iblk m c 4 t) (iblk m c 5 t) (iblk m c 6 t) (iblk m c 7 t) (iblk m c 8 t) (iblk m c 9 t) (ix2 r d)
      = val_main_v21 (F := Ideal) (m ((c : Thread nD τ).loc main_arg3)) (ix3 0 (row t r) d) := by
  pointwise [k0_pay14, k0_pay10, val_main_v21, val_main_v19, val_main_v17, val_main_v16, val_main_v6, val_main_v1, val_main_v0, val_main_v18, val_main_cst, val_main_v20, val_main_cst_0]
  rw [Gates.sigmoid_eq]
  refine congrArg (fun x => Ideal.div 1 (1 + Ideal.exp (-x))) ?_
  split_ifs <;> first | contradiction | blk_ext [iblk, V, idx t]

/-- The second gate. -/
theorem sb_point (c : Dev nD) (t : Fin cfg0.N) (r : Fin 512) (d : Fin 1024) :
    k0_pay15 (iblk m c 0 t) (iblk m c 1 t) (iblk m c 2 t) (iblk m c 3 t) (iblk m c 4 t) (iblk m c 5 t) (iblk m c 6 t) (iblk m c 7 t) (iblk m c 8 t) (iblk m c 9 t) (ix2 r d)
      = val_main_v31 (F := Ideal) (m ((c : Thread nD τ).loc main_arg3)) (ix3 0 (row t r) d) := by
  pointwise [k0_pay15, k0_pay11, val_main_v31, val_main_v29, val_main_v27, val_main_v26, val_main_v7, val_main_v1, val_main_v0, val_main_v28, val_main_cst_2, val_main_v30, val_main_cst_3]
  rw [Gates.sigmoid_eq]
  refine congrArg (fun x => Ideal.div 1 (1 + Ideal.exp (-x))) ?_
  split_ifs <;> first | contradiction | blk_ext [iblk, V, idx t]

/-- The first branch's activation. -/
theorem ya_point (c : Dev nD) (t : Fin cfg0.N) (r : Fin 512) (d : Fin 1024) :
    k0_pay8 (iblk m c 1 t) (ix2 r d)
      = val_main_v13 (F := Ideal) (m ((c : Thread nD τ).loc main_arg1)) (m ((c : Thread nD τ).loc main_arg4)) (ix3 0 (row t r) d) := by
  pointwise [k0_pay8, val_main_v13, val_main_v12, val_main_v9, val_main_v8]
  rw [show iblk m c 1 t (ix2 r d) = V m c main_v1 (ix2 (row t r) d) by blk_ext [iblk, idx t]]
  entry_read
  pointwise

/-- The second branch's activation. -/
theorem yb_point (c : Dev nD) (t : Fin cfg0.N) (r : Fin 512) (d : Fin 1024) :
    k0_pay9 (iblk m c 2 t) (ix2 r d)
      = val_main_v15 (F := Ideal) (m ((c : Thread nD τ).loc main_arg2)) (m ((c : Thread nD τ).loc main_arg5)) (ix3 0 (row t r) d) := by
  pointwise [k0_pay9, val_main_v15, val_main_v11, val_main_v10, val_main_v14]
  rw [show iblk m c 2 t (ix2 r d) = V m c main_v3 (ix2 (row t r) d) by blk_ext [iblk, idx t]]
  entry_read
  pointwise

/-- The two gates again, as the body's first store reads them. -/
theorem sa_point' (c : Dev nD) (t : Fin cfg0.N) (r : Fin 512) (d : Fin 1024) :
    k0_pay10 (iblk m c 3 t) (iblk m c 4 t) (ix2 r d)
      = val_main_v21 (F := Ideal) (m ((c : Thread nD τ).loc main_arg3)) (ix3 0 (row t r) d) := by
  rw [← sa_point]; pointwise [k0_pay14, k0_pay10]

theorem sb_point' (c : Dev nD) (t : Fin cfg0.N) (r : Fin 512) (d : Fin 1024) :
    k0_pay11 (iblk m c 5 t) (iblk m c 6 t) (ix2 r d)
      = val_main_v31 (F := Ideal) (m ((c : Thread nD τ).loc main_arg3)) (ix3 0 (row t r) d) := by
  rw [← sb_point]; pointwise [k0_pay15, k0_pay11]

end Cert.MergeIdeal.Value
-- ==== Proof.Merge.lean ====
/- The gradient of the gated merge: each of the kernel's seven result arrays is the reference's. -/
module

public import proofs.«01_k».proof.Proof.MergeBlocks

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.MergeRefIdeal.Read

variable (m : (ℓ : Loc nD τ sig) → Buf (Elt Ideal) ℓ)

theorem emb10 (t : Fin cfg0.N) (r : Fin 512) (d : Fin 1024) : ((cfg0.win 10).blk t).view.emb (ix2 r d) = ix2 (row t r) d := by
  blk_ext [idx t]

/-- The merged activation. -/
theorem final10 (c : Dev nD) : (dats m 0 c).arrAt 10 cfg0.N
    = val_main_v51 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]; frame_out
  obtain ⟨r, d, rfl⟩ : ∃ (r : Fin 512) (d : Fin 1024), y = ix2 r d := ⟨y 0, y 1, eq_ix2 y⟩
  refine Eq.trans ?_ (congrArg _ (emb10 t r d).symm)
  pointwise [k0_pay12, val_main_v51, val_main_v50, val_main_v36, val_main_v25, val_main_v35, dm_point, sa_point, sb_point, ya_point, yb_point, sa_point', sb_point']

theorem emb11 (t : Fin cfg0.N) (r : Fin 512) (d : Fin 1024) : ((cfg0.win 11).blk t).view.emb (ix2 r d) = ix2 (row t r) d := by
  blk_ext [idx t]

/-- The first branch's cotangent. -/
theorem final11 (c : Dev nD) : (dats m 0 c).arrAt 11 cfg0.N
    = val_main_v53 (F := Ideal) (m ((c : Thread nD τ).loc main_arg0)) (m ((c : Thread nD τ).loc main_arg3)) (m ((c : Thread nD τ).loc main_arg6)) := by
  refine (dats m 0 c).arrAt_eq_of_covers 11 _ (by decide +kernel) fun t _ y => ?_
  blk_simp
  rw [after0_11]; frame_out
  obtain ⟨r, d, rfl⟩ : ∃ (r : Fin 512) (d : Fin 1024), y = ix2 r d := ⟨y 0, y 1, eq_ix2 y⟩
  refine Eq.trans ?_ (congrArg _ (emb11 t r d).symm)
  pointwise [k0_pay1, val_main_v53, val_main_v52, val_main_v45, dm_point, sa_point, sb_point, ya_point, yb_point, sa_point', sb_point']
  show @Eq EReal _ _
  exact mul_comm _ _

theorem emb12 (t : Fin cfg0.N) (r : Fin 512) (d : Fin 1024) : ((cfg0.win 12).blk t).view.emb (ix2 r d) = ix2 (row t r) d := by
  blk_ext [idx t]

/-- The second branch's cotangent. -/
theorem final12 (c : Dev nD) : (dats m 0 c).arrAt 12 cfg0.N
    = val_main_v55 (F := Ideal) (m ((c : Thread nD τ).loc main_arg0)) (m ((c : Thread nD τ).loc main_arg3)) (m ((c : Thread nD τ).loc main_arg6)) := by
  refine (dats m 0 c).arrAt_eq_of_covers 12 _ (by decide +kernel) fun t _ y => ?_
  blk_simp
  rw [after0_12]; frame_out
  obtain ⟨r, d, rfl⟩ : ∃ (r : Fin 512) (d : Fin 1024), y = ix2 r d := ⟨y 0, y 1, eq_ix2 y⟩
  refine Eq.trans ?_ (congrArg _ (emb12 t r d).symm)
  pointwise [k0_pay2, val_main_v55, val_main_v54, val_main_v42, dm_point, sa_point, sb_point, ya_point, yb_point, sa_point', sb_point']
  show @Eq EReal _ _
  exact mul_comm _ _

theorem emb13 (t : Fin cfg0.N) (r : Fin 512) (d : Fin 1024) : ((cfg0.win 13).blk t).view.emb (ix2 r d) = ix2 (row t r) d := by
  blk_ext [idx t]

/-- The first gate's cotangent. -/
theorem final13 (c : Dev nD) : (dats m 0 c).arrAt 13 cfg0.N
    = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg6)) := by
  refine (dats m 0 c).arrAt_eq_of_covers 13 _ (by decide +kernel) fun t _ y => ?_
  blk_simp
  rw [after0_13]; frame_out
  obtain ⟨r, d, rfl⟩ : ∃ (r : Fin 512) (d : Fin 1024), y = ix2 r d := ⟨y 0, y 1, eq_ix2 y⟩
  refine Eq.trans ?_ (congrArg _ (emb13 t r d).symm)
  pointwise [k0_pay3, val_main_v57, val_main_v56, val_main_v47, val_main_v24, val_main_v23, val_main_v22, val_main_cst_1, val_main_v46, dm_point, sa_point, sb_point, ya_point, yb_point, sa_point', sb_point']
  show @Eq EReal _ _
  exact mul_assoc _ _ _

theorem emb14 (t : Fin cfg0.N) (r : Fin 512) (d : Fin 1024) : ((cfg0.win 14).blk t).view.emb (ix2 r d) = ix2 (row t r) d := by
  blk_ext [idx t]

/-- The second gate's cotangent. -/
theorem final14 (c : Dev nD) : (dats m 0 c).arrAt 14 cfg0.N
    = val_main_v59 (F := Ideal) (m ((c : Thread nD τ).loc main_arg0)) (m ((c : Thread nD τ).loc main_arg2)) (m ((c : Thread nD τ).loc main_arg3)) (m ((c : Thread nD τ).loc main_arg5)) (m ((c : Thread nD τ).loc main_arg6)) := by
  refine (dats m 0 c).arrAt_eq_of_covers 14 _ (by decide +kernel) fun t _ y => ?_
  blk_simp
  rw [after0_14]; frame_out
  obtain ⟨r, d, rfl⟩ : ∃ (r : Fin 512) (d : Fin 1024), y = ix2 r d := ⟨y 0, y 1, eq_ix2 y⟩
  refine Eq.trans ?_ (congrArg _ (emb14 t r d).symm)
  pointwise [k0_pay4, val_main_v59, val_main_v58, val_main_v44, val_main_v34, val_main_v33, val_main_v32, val_main_cst_4, val_main_v43, dm_point, sa_point, sb_point, ya_point, yb_point, sa_point', sb_point']
  show @Eq EReal _ _
  exact mul_assoc _ _ _

theorem emb15 (t : Fin cfg0.N) (r : Fin 512) (d : Fin 1280) : ((cfg0.win 15).blk t).view.emb (ix2 r d) = ix2 (row t r) d := by
  blk_ext [idx t]

/-- The cotangent of the first branch before its product. -/
theorem final15 (c : Dev nD) : (dats m 0 c).arrAt 15 cfg0.N
    = val_main_v61 (F := Ideal) (m ((c : Thread nD τ).loc main_arg0)) (m ((c : Thread nD τ).loc main_arg3)) (m ((c : Thread nD τ).loc main_arg4)) (m ((c : Thread nD τ).loc main_arg6)) := by
  refine (dats m 0 c).arrAt_eq_of_covers 15 _ (by decide +kernel) fun t _ y => ?_
  blk_simp
  rw [after0_15]; frame_out
  obtain ⟨r, d, rfl⟩ : ∃ (r : Fin 512) (d : Fin 1280), y = ix2 r d := ⟨y 0, y 1, eq_ix2 y⟩
  refine Eq.trans ?_ (congrArg _ (emb15 t r d).symm)
  pointwise [k0_pay5, k0_pay1, val_main_v61, val_main_v60, val_main_v49, val_main_v12, val_main_v45, dm_point, sa_point, sb_point, ya_point, yb_point, sa_point', sb_point']
  show @Eq EReal _ _
  refine Finset.sum_congr rfl fun x _ => congrArg₂ (· * ·) (mul_comm _ _) ?_
  blk_ext [iblk, V, idx t]

theorem emb16 (t : Fin cfg0.N) (r : Fin 512) (d : Fin 1024) : ((cfg0.win 16).blk t).view.emb (ix2 r d) = ix2 (row t r) d := by
  blk_ext [idx t]

/-- The cotangent of the second branch before its product. -/
theorem final16 (c : Dev nD) : (dats m 0 c).arrAt 16 cfg0.N
    = val_main_v63 (F := Ideal) (m ((c : Thread nD τ).loc main_arg0)) (m ((c : Thread nD τ).loc main_arg3)) (m ((c : Thread nD τ).loc main_arg5)) (m ((c : Thread nD τ).loc main_arg6)) := by
  refine (dats m 0 c).arrAt_eq_of_covers 16 _ (by decide +kernel) fun t _ y => ?_
  blk_simp
  rw [after0_16]; frame_out
  obtain ⟨r, d, rfl⟩ : ∃ (r : Fin 512) (d : Fin 1024), y = ix2 r d := ⟨y 0, y 1, eq_ix2 y⟩
  refine Eq.trans ?_ (congrArg _ (emb16 t r d).symm)
  pointwise [k0_pay6, k0_pay2, val_main_v63, val_main_v62, val_main_v48, val_main_v14, val_main_v42, dm_point, sa_point, sb_point, ya_point, yb_point, sa_point', sb_point']
  show @Eq EReal _ _
  refine Finset.sum_congr rfl fun x _ => congrArg₂ (· * ·) (mul_comm _ _) ?_
  blk_ext [iblk, V, idx t]

end Cert.MergeIdeal.Value
-- ==== Proof.Reals.lean ====
/- Real numbers inside the extended reals: what stays real under the operations of the kernels, the constants they use, and the two
   identities of real numbers that a derivative written two ways comes down to. -/
module

public import Idealize.ShloMosaic.Lib.Pointwise

@[expose] public section

noncomputable section

open Idealize.ShloMosaic

namespace Cert.Reals

/-- The extended real is a real number. -/
def IsReal (x : EReal) : Prop := ∃ r : ℝ, x = (r : EReal)

theorem isReal_coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

/-- A finite sum of reals, taken among the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The mean of 1024 reals is real. -/
theorem isReal_mean (f : Fin 1024 → EReal) (h : ∀ i, IsReal (f i)) : IsReal (Ideal.div (∑ i, f i) ((1024 : ℝ) : EReal)) := by
  obtain ⟨r, hr⟩ := isReal_sum Finset.univ f h
  rw [hr, Ideal.div_coe (by norm_num), ← EReal.coe_mul]
  exact isReal_coe _

theorem isReal_of_abs_lt {x : EReal} (h : max x (-x) < ⊤) : IsReal x := by
  induction x with
  | bot => simp at h
  | top => simp at h
  | coe r => exact isReal_coe r

/-! The binary32 patterns of the constants. -/

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul, -EReal.coe_neg]; norm_num

theorem ofBits_one : Ideal.ofBits .f32 0x3F800000#32 = ((1 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The norms' small constant. -/
def eps : ℝ := 8796093 / 2 ^ 43

theorem eps_pos : 0 < eps := by unfold eps; norm_num

theorem ofBits_eps : Ideal.ofBits .f32 0x358637BD#32 = (eps : EReal) := by
  unfold eps; simp [Ideal.ofBits, Ideal.ieee, -EReal.coe_mul]; norm_num

/-- The square root of two over pi, rounded. -/
def geluC : ℝ := 6693141 / 2 ^ 23

/-- The coefficient of the cube. -/
def geluK : ℝ := 44715 / 10 ^ 6

theorem ofBits_geluC : Ideal.ofBits .f32 0x3F4C422A#32 = (geluC : EReal) := by
  unfold geluC; simp [Ideal.ofBits, Ideal.ieee, -EReal.coe_mul]; norm_num

theorem div_geluK : Ideal.div (Ideal.ofBits .f32 0x472EAB00#32) (Ideal.ofBits .f32 0x49742400#32) = (geluK : EReal) := by
  have h1 : Ideal.ofBits .f32 0x472EAB00#32 = ((44715 : ℝ) : EReal) := by simp [Ideal.ofBits, Ideal.ieee, -EReal.coe_mul]; norm_num
  have h2 : Ideal.ofBits .f32 0x49742400#32 = ((1000000 : ℝ) : EReal) := by simp [Ideal.ofBits, Ideal.ieee, -EReal.coe_mul]; norm_num
  rw [h1, h2, Ideal.div_coe (by norm_num), ← EReal.coe_mul]
  unfold geluK; norm_num

/-! The derivative of the Gaussian error linear unit. -/

/-- The hyperbolic tangent inside the unit. -/
def geluT (x : EReal) : EReal := Ideal.tanh ((geluC : EReal) * (x + (geluK : EReal) * x * x * x))

theorem isReal_geluT {x : EReal} (h : IsReal x) : IsReal (geluT x) := by
  obtain ⟨r, rfl⟩ := h
  unfold geluT
  simp only [← EReal.coe_mul, ← EReal.coe_add, Ideal.tanh_coe]
  exact isReal_coe _

/-- A cotangent times the derivative as one factor is the sum that differentiating the unit's formula term by term gives. -/
theorem gelu_grad {x a t : EReal} (hx : IsReal x) (ha : IsReal a) (ht : IsReal t) :
    a * (((1 / 2 : ℝ) : EReal) * (1 + t)
        + ((1 / 2 : ℝ) : EReal) * x * (1 - t * t) * (geluC : EReal) * (1 + ((3 * geluK : ℝ) : EReal) * x * x))
      = a * (((1 / 2 : ℝ) : EReal) * (1 + t))
        + (geluC : EReal) * (((1 / 2 : ℝ) : EReal) * (x * a) * ((1 + t) * (1 - t)))
        + (geluK : EReal) * ((geluC : EReal) * (((1 / 2 : ℝ) : EReal) * (x * a) * ((1 + t) * (1 - t))))
          * (((3 : ℝ) : EReal) * (x * x)) := by
  obtain ⟨x, rfl⟩ := hx
  obtain ⟨a, rfl⟩ := ha
  obtain ⟨t, rfl⟩ := ht
  simp only [← EReal.coe_one, ← EReal.coe_mul, ← EReal.coe_add, ← EReal.coe_sub]
  congr 1
  ring

/-! The derivative of a normalised row. -/

/-- A row of 1024 numbers less their mean sums to zero. -/
theorem sum_centred (a : Fin 1024 → ℝ) : ∑ j, (a j - (∑ i, a i) * (1 / 1024)) = 0 := by
  rw [Finset.sum_sub_distrib, Finset.sum_const, Finset.card_univ, Fintype.card_fin]
  simp only [nsmul_eq_mul]; push_cast; ring

/-- The centred row's gradient, with its two means taken at once, is the one that differentiates the mean, the square mean and the root in turn. -/
theorem norm_grad_real (x e : Fin 1024 → ℝ) (s r : ℝ) (hx : ∑ j, x j = 0) (hs : s ≠ 0) (hr : r * r * s = 1) (i : Fin 1024) :
    r * (e i - (∑ j, e j) * (1 / 1024) - x i * r * ((∑ j, e j * (x j * r)) * (1 / 1024)))
      = (e i * r + x i * ((∑ j, x j * e j) * (-1 / 2 * (r * (1 / s))) * (1 / 1024)) + ((∑ j, x j * e j) * (-1 / 2 * (r * (1 / s))) * (1 / 1024)) * x i)
        + (∑ k, -(e k * r + x k * ((∑ j, x j * e j) * (-1 / 2 * (r * (1 / s))) * (1 / 1024))
            + ((∑ j, x j * e j) * (-1 / 2 * (r * (1 / s))) * (1 / 1024)) * x k)) * (1 / 1024) := by
  have hq : ∀ q : ℝ, ∑ k, -(e k * r + x k * q + q * x k) = -((∑ j, e j) * r) := by
    intro q
    rw [Finset.sum_neg_distrib, Finset.sum_add_distrib, Finset.sum_add_distrib, ← Finset.sum_mul, ← Finset.sum_mul, ← Finset.mul_sum, hx]
    ring
  rw [hq]
  have hd : ∑ j, e j * (x j * r) = (∑ j, x j * e j) * r := by
    rw [Finset.sum_mul]; exact Finset.sum_congr rfl fun j _ => by ring
  have hs' : 1 / s = r * r := by field_simp; linarith
  rw [hd, hs']
  ring

/-- The same among the extended reals. -/
theorem norm_grad {x e : Fin 1024 → EReal} {s r : EReal} (hxr : ∀ j, IsReal (x j)) (her : ∀ j, IsReal (e j)) (hx : ∑ j, x j = 0)
    (hs : ∃ v : ℝ, 0 < v ∧ s = (v : EReal)) (hr : r = Ideal.rsqrt s) (i : Fin 1024) :
    r * (e i - Ideal.div (∑ j, e j) ((1024 : ℝ) : EReal) - x i * r * Ideal.div (∑ j, e j * (x j * r)) ((1024 : ℝ) : EReal))
      = (e i * r + x i * Ideal.div ((∑ j, x j * e j) * (((-1 / 2 : ℝ) : EReal) * Ideal.div r s)) ((1024 : ℝ) : EReal)
          + Ideal.div ((∑ j, x j * e j) * (((-1 / 2 : ℝ) : EReal) * Ideal.div r s)) ((1024 : ℝ) : EReal) * x i)
        + Ideal.div (∑ k, -(e k * r + x k * Ideal.div ((∑ j, x j * e j) * (((-1 / 2 : ℝ) : EReal) * Ideal.div r s)) ((1024 : ℝ) : EReal)
            + Ideal.div ((∑ j, x j * e j) * (((-1 / 2 : ℝ) : EReal) * Ideal.div r s)) ((1024 : ℝ) : EReal) * x k)) ((1024 : ℝ) : EReal) := by
  obtain ⟨v, hv, rfl⟩ := hs
  choose x' hx' using hxr
  choose e' he' using her
  obtain rfl : x = fun j => (x' j : EReal) := funext hx'
  obtain rfl : e = fun j => (e' j : EReal) := funext he'
  have hsum : ∑ j, x' j = 0 := by
    have := hx; dsimp only at this; rw [← coe_sum] at this; exact_mod_cast this
  have hroot : Ideal.rsqrt (v : EReal) = (((Real.sqrt v)⁻¹ : ℝ) : EReal) := by
    rw [Ideal.rsqrt_coe, if_neg (not_lt.mpr hv.le), if_neg hv.ne']
  have hrr : (Real.sqrt v)⁻¹ * (Real.sqrt v)⁻¹ * v = 1 := by
    have := Real.mul_self_sqrt hv.le
    have h0 : Real.sqrt v ≠ 0 := (Real.sqrt_pos.mpr hv).ne'
    field_simp; nlinarith
  subst hr
  rw [hroot]
  simp only [Ideal.div_coe hv.ne', Ideal.div_coe (show (1024 : ℝ) ≠ 0 by norm_num), ← EReal.coe_mul, ← EReal.coe_add, ← EReal.coe_sub, ← EReal.coe_neg, ← coe_sum]
  exact congrArg _ (norm_grad_real x' e' v _ hsum hv.ne' hrr i)

end Cert.Reals

end
-- ==== Proof.SguPre.lean ====
/- What the precondition says of the spatial gate's arguments: every element is a real number. -/
module

public import proofs.«01_k».proof.Proof.Gen.Pre_sgu_finite
public import proofs.«01_k».proof.Proof.Reals
public import Idealize.ShloMosaic.Lib.ReduceAll

@[expose] public section

set_option maxRecDepth 16384

noncomputable section

open Idealize.ShloMosaic Idealize.ShloMosaic.TcCoe Idealize.SL.Sem

namespace Cert.Reals

/-- Where every element's magnitude is below infinity every element is real. -/
theorem isReal_of_all {s u : Shape} {axes : List (Fin s.rank)} (x : FVec Ideal s .f32) (hb : (⟨0, ![]⟩ : Shape).BroadcastsInDim s (![] : Fin 0 → Fin s.rank))
    (init : u.Idx → BitVec 1) (hr : s.ReducesTo axes ⟨0, ![]⟩) (hu : 0 < u.numel) (j : (⟨0, ![]⟩ : Shape).Idx)
    (e : Host.reduce IntOp.andi (cmpf .olt (Host.absf x) (broadcastInDim s ![] hb (constant ⟨0, ![]⟩ .f32 0x7F800000#32))) init hr hu j = 1#1) (i : s.Idx) : IsReal (x i) := by
  have : Subsingleton (⟨0, ![]⟩ : Shape).Idx := ⟨fun a b => funext fun k => k.elim0⟩
  have h := Host.reduce_andi_all _ _ _ _ _ e i
  pointwise at h
  have htop : Ideal.ofBits .f32 0x7F800000#32 = ⊤ := by simp [Ideal.ofBits, Ideal.ieee]
  have hlt : max (x i) (-(x i)) < (⊤ : EReal) := by
    by_contra hn
    have hf : decide (FloatOps.absf (x i) < Ideal.ofBits .f32 0x7F800000#32) = false := decide_eq_false (by rw [htop]; exact hn)
    rw [hf] at h
    exact absurd h (by decide)
  exact isReal_of_abs_lt hlt

end Cert.Reals

namespace Cert.Pre_sgu_finite

open Cert.Reals

theorem real (a0 : FVec Ideal S4096x1024 .bf16) (a1 : FVec Ideal S4096x6656 .bf16) (a2 a3 : FVec Ideal S1024 .f32) (a4 : FVec Ideal S8x128x128 .f32) (a5 : FVec Ideal S8x128 .f32)
    (h : fn (F := Ideal) a0 a1 a2 a3 a4 a5 = fun _ => 1#1) :
    (∀ q, IsReal (a0 q)) ∧ (∀ q, IsReal (a1 q)) ∧ (∀ q, IsReal (a2 q)) ∧ (∀ q, IsReal (a3 q)) ∧ (∀ q, IsReal (a4 q)) ∧ (∀ q, IsReal (a5 q)) := by
  have e := congrFun h (fun a => a.elim0)
  simp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  exact ⟨isReal_of_all _ _ _ _ _ _ e0, isReal_of_all _ _ _ _ _ _ e1, isReal_of_all _ _ _ _ _ _ e2, isReal_of_all _ _ _ _ _ _ e3,
    isReal_of_all _ _ _ _ _ _ e4, isReal_of_all _ _ _ _ _ _ e5⟩

end Cert.Pre_sgu_finite

end
-- ==== Proof.SguRef.lean ====
/- The gradient of the spatial gate: the functions of the arguments that both programs compute, and the reference's intermediate arrays read as them. -/
module

public import proofs.«01_k».proof.Proof.Gen.SguRefIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem

namespace Cert.SguFun

open Cert.SguRefIdeal Cert.SguRefIdeal.Read Cert.Reals

variable (a0 : FVec Ideal S4096x1024 .bf16) (a1 : FVec Ideal S4096x6656 .bf16) (a2 a3 : FVec Ideal S1024 .f32) (a4 : FVec Ideal S8x128x128 .f32) (a5 : FVec Ideal S8x128 .f32)

/-- The gated half of the projection. -/
def u (i : Fin 4096) (d : Fin 1024) : EReal := a1 (ix2 i ⟨2560 + d.val, by omega⟩)

/-- The normalised half of the projection. -/
def v (i : Fin 4096) (d : Fin 1024) : EReal := a1 (ix2 i ⟨3584 + d.val, by omega⟩)

/-- The unit itself. -/
def gelu (x : EReal) : EReal := ((1 / 2 : ℝ) : EReal) * x * (1 + geluT x)

/-- The normalised half less its row's mean. -/
def cen (i : Fin 4096) (d : Fin 1024) : EReal := gelu (v a1 i d) - Ideal.div (∑ j, gelu (v a1 i j)) ((1024 : ℝ) : EReal)

/-- A row's variance with the small constant. -/
def var (i : Fin 4096) : EReal := Ideal.div (∑ j, cen a1 i j * cen a1 i j) ((1024 : ℝ) : EReal) + (eps : EReal)

/-- A row's scale. -/
def rs (i : Fin 4096) : EReal := Ideal.rsqrt (var a1 i)

/-- The normalised row. -/
def xhat (i : Fin 4096) (d : Fin 1024) : EReal := cen a1 i d * rs a1 i

/-- The normalised row, scaled and shifted. -/
def vn (i : Fin 4096) (d : Fin 1024) : EReal := xhat a1 i d * a2 (ix1 d) + a3 (ix1 d)

/-- Row `s` of the block of 128 rows that holds row `i`. -/
def nb (i : Fin 4096) (s : Fin 128) : Fin 4096 := ⟨i.val / 128 * 128 + s.val, by omega⟩

/-- A row's place in its block. -/
def lo (i : Fin 4096) : Fin 128 := ⟨i.val % 128, by omega⟩

/-- The group of 128 lanes that holds lane `d`. -/
def gr (d : Fin 1024) : Fin 8 := ⟨d.val / 128, by omega⟩

/-- Which rows of a block see which. -/
def mk (i j : Fin 128) : EReal := val_main_v85 (F := Ideal) (ix2 i j)

/-- The mixing weights, masked. -/
def wm (g : Fin 8) (i j : Fin 128) : EReal := a4 (ix3 g i j) * mk i j

/-- The rows of a block mixed. -/
def mixed (i : Fin 4096) (d : Fin 1024) : EReal :=
  ∑ s, vn a1 a2 a3 (nb i s) d * wm a4 (gr d) (lo i) s + a5 (ix2 (gr d) (lo i))

/-- The mixed rows' cotangent. -/
def dmix (i : Fin 4096) (d : Fin 1024) : EReal := gelu (u a1 i d) * a0 (ix2 i d)

/-- The normalised rows' cotangent. -/
def dvn (i : Fin 4096) (d : Fin 1024) : EReal := ∑ s, dmix a0 a1 (nb i s) d * wm a4 (gr d) s (lo i)

theorem u_read (i : Fin 4096) (d : Fin 1024) : val_main_v4 (F := Ideal) a1 (ix3 0 i d) = u a1 i d := by
  pointwise [val_main_v4, val_main_v1, val_main_v0, u]

theorem v_read (i : Fin 4096) (d : Fin 1024) : val_main_v5 (F := Ideal) a1 (ix3 0 i d) = v a1 i d := by
  pointwise [val_main_v5, val_main_v1, val_main_v0, v]

theorem tu_read (i : Fin 4096) (d : Fin 1024) : val_main_v19 (F := Ideal) a1 (ix3 0 i d) = geluT (u a1 i d) := by
  pointwise [val_main_v19, val_main_v18, val_main_v17, val_main_cst_2, val_main_v16, val_main_v15, val_main_v14, val_main_v10, val_main_v9, val_main_v8, val_main_cst, val_main_cst_0, u_read]
  rw [div_geluK, ofBits_geluC, geluT, mul_assoc (geluK : EReal), mul_assoc (geluK : EReal)]

theorem tv_read (i : Fin 4096) (d : Fin 1024) : val_main_v41 (F := Ideal) a1 (ix3 0 i d) = geluT (v a1 i d) := by
  pointwise [val_main_v41, val_main_v40, val_main_v39, val_main_cst_10, val_main_v38, val_main_v37, val_main_v36, val_main_v32, val_main_v31, val_main_v30, val_main_cst_7, val_main_cst_8, v_read]
  rw [div_geluK, ofBits_geluC, geluT, mul_assoc (geluK : EReal), mul_assoc (geluK : EReal)]

theorem gelu_eq (x : EReal) : x * (((1 / 2 : ℝ) : EReal) * (1 + geluT x)) = gelu x := by
  rw [gelu, mul_left_comm, mul_assoc]

theorem gu_read (i : Fin 4096) (d : Fin 1024) : val_main_v29 (F := Ideal) a1 (ix3 0 i d) = gelu (u a1 i d) := by
  pointwise [val_main_v29, val_main_v28, val_main_v27, val_main_cst_6, val_main_v26, val_main_v25, val_main_cst_5, u_read, tu_read]
  rw [ofBits_half, gelu_eq]

theorem gv_read (i : Fin 4096) (d : Fin 1024) : val_main_v51 (F := Ideal) a1 (ix3 0 i d) = gelu (v a1 i d) := by
  pointwise [val_main_v51, val_main_v50, val_main_v49, val_main_cst_14, val_main_v48, val_main_v47, val_main_cst_13, v_read, tv_read]
  rw [ofBits_half, gelu_eq]

theorem cen_read (i : Fin 4096) (d : Fin 1024) : val_main_v57 (F := Ideal) a1 (ix3 0 i d) = cen a1 i d := by
  pointwise [val_main_v57, val_main_v56, val_main_v55, val_main_v54, val_main_cst_16, val_main_v53, val_main_v52, val_main_cst_15, gv_read, cen]
  rw [ofBits_1024]

theorem var_read (i : Fin 4096) : val_main_v64 (F := Ideal) a1 (ix3 0 i 0) = var a1 i := by
  pointwise [val_main_v64, val_main_v63, val_main_cst_19, val_main_v62, val_main_v61, val_main_cst_18, val_main_v60, val_main_v59, val_main_cst_17, val_main_v58, cen_read, var]
  rw [ofBits_1024, ofBits_eps]

theorem rs_read (i : Fin 4096) : val_main_v65 (F := Ideal) a1 (ix3 0 i 0) = rs a1 i := by
  pointwise [val_main_v65, var_read, rs]

theorem xhat_read (i : Fin 4096) (d : Fin 1024) : val_main_v70 (F := Ideal) a1 (ix3 0 i d) = xhat a1 i d := by
  pointwise [val_main_v70, val_main_v69, cen_read, rs_read, xhat]

theorem vn_read (i : Fin 4096) (d : Fin 1024) : val_main_v76 (F := Ideal) a1 a2 a3 (ix3 0 i d) = vn a1 a2 a3 i d := by
  pointwise [val_main_v76, val_main_v75, val_main_v74, val_main_v73, val_main_v72, val_main_v71, xhat_read, vn]

theorem mk_cases (i j : Fin 128) : mk i j = 0 ∨ mk i j = 1 := by
  unfold mk
  pointwise [val_main_v85]
  have h : ∀ b : BitVec 1, (FloatOps.uitofp .f32 b : Ideal .f32) = (0 : EReal) ∨ (FloatOps.uitofp .f32 b : Ideal .f32) = (1 : EReal) := by
    intro b
    obtain rfl | rfl : b = 0#1 ∨ b = 1#1 := by revert b; decide
    · left; show (((0#1).toNat : ℝ) : EReal) = 0; norm_num
    · right; show (((1#1).toNat : ℝ) : EReal) = 1; norm_num
  exact h _

theorem mixed_read (i : Fin 4096) (d : Fin 1024) : val_main_v95 (F := Ideal) a1 a2 a3 a4 a5 (ix3 0 i d) = mixed a1 a2 a3 a4 a5 i d := by
  pointwise [val_main_v95, val_main_v94, val_main_v93, val_main_v92, val_main_v91, val_main_v90, val_main_v89, val_main_v88, val_main_v87, val_main_v86, val_main_v77, vn_read]
  rfl

theorem dy_read (i : Fin 4096) (d : Fin 1024) : val_main_v98 (F := Ideal) a0 (ix3 0 i d) = a0 (ix2 i d) := by
  pointwise [val_main_v98, val_main_v97]

theorem dmix_read (i : Fin 4096) (d : Fin 1024) : val_main_v99 (F := Ideal) a0 a1 (ix3 0 i d) = dmix a0 a1 i d := by
  pointwise [val_main_v99, gu_read, dy_read, dmix]

theorem dvn_read (i : Fin 4096) (d : Fin 1024) : val_main_v112 (F := Ideal) a0 a1 a4 (ix3 0 i d) = dvn a0 a1 a4 i d := by
  pointwise [val_main_v112, val_main_v109, val_main_v108, val_main_v106, val_main_v101, val_main_v88, val_main_v87, val_main_v86, dmix_read]
  rfl

/-- Row `i` of block `n`. -/
def at' (n : Fin 32) (i : Fin 128) : Fin 4096 := ⟨n.val * 128 + i.val, by omega⟩

/-- Lane `c` of group `g`. -/
def ln (g : Fin 8) (c : Fin 128) : Fin 1024 := ⟨g.val * 128 + c.val, by omega⟩

/-- An index of the contraction over one batch, 32 blocks and 128 lanes is the pair of its block and its lane. -/
def contr3 : dot_S8x1x32x128x128_S1x32x128x8x128_S8x128x128_123_014_4_2_0_3.contr.Idx ≃ Fin 32 × Fin 128 where
  toFun q := (q (1 : Fin 3), q (2 : Fin 3))
  invFun p := fun a => match a with
    | ⟨0, _⟩ => (0 : Fin 1)
    | ⟨1, _⟩ => p.1
    | ⟨2, _⟩ => p.2
  left_inv q := by
    funext a
    match a with
    | ⟨0, _⟩ => exact Subsingleton.elim (α := Fin 1) _ _
    | ⟨1, _⟩ => rfl
    | ⟨2, _⟩ => rfl
  right_inv p := rfl

/-- The mixing weights' cotangent. -/
theorem dws_read (g : Fin 8) (i j : Fin 128) : val_main_v111 (F := Ideal) a0 a1 a2 a3 (ix3 g i j)
    = (∑ n : Fin 32, ∑ c : Fin 128, dmix a0 a1 (at' n i) (ln g c) * vn a1 a2 a3 (at' n j) (ln g c)) * mk i j := by
  have hdot : ∀ (x : FVec Ideal S8x1x32x128x128 .f32) (y : FVec Ideal S1x32x128x8x128 .f32),
      Ideal.matmul dot_S8x1x32x128x128_S1x32x128x8x128_S8x128x128_123_014_4_2_0_3 x y (fun _ => 0) (ix3 g i j)
        = ∑ n : Fin 32, ∑ c : Fin 128, x (ix5 g 0 n c i) * y (ix5 0 n j g c) := by
    intro x y
    refine (zero_add _).trans ?_
    refine (Fintype.sum_equiv contr3 _ (fun p : Fin 32 × Fin 128 => x (ix5 g 0 p.1 p.2 i) * y (ix5 0 p.1 j g p.2)) ?_).trans (Fintype.sum_prod_type _)
    intro k
    refine congrArg₂ (· * ·) (congrArg x ?_) (congrArg y ?_) <;>
      (funext a; fin_cases a <;> first | rfl | exact Subsingleton.elim (α := Fin 1) _ _)
  pointwise [val_main_v111, val_main_v110, val_main_v107, val_main_v86]
  rw [hdot]
  pointwise [val_main_v106, val_main_v101, val_main_v77, dmix_read, vn_read]
  rfl

/-- The bias's cotangent. -/
theorem dbs_read (g : Fin 8) (i j : Fin 128) : val_main_v175 (F := Ideal) a0 a1 (ix3 g i j)
    = ∑ n : Fin 32, ∑ c : Fin 128, dmix a0 a1 (at' n i) (ln g c) := by
  have h1 : ∀ (x : FVec Ideal S1x1x128x8x1 .f32), Ideal.hostReduceAdd Gen.reducesTo_S1x1x128x8x1_S128x8_d0_1_4 x 0 (ix2 i g) = x (ix5 0 0 i g 0) := by
    intro x
    refine (zero_add _).trans ((Finset.sum_filter_eq_sum_of_fiber _ (fun _ : Unit => ix5 0 0 i g 0) (fun _ _ _ => rfl) ?_ x).trans (Fintype.sum_unique _))
    intro q
    constructor
    · intro e
      refine ⟨(), ?_⟩
      funext a; apply Fin.ext
      have e0 := (congrArg Fin.val (congrFun e 0)).symm
      have e1 := (congrArg Fin.val (congrFun e 1)).symm
      match a with
      | ⟨0, _⟩ => exact (Nat.lt_one_iff.mp (q 0).isLt).symm
      | ⟨1, _⟩ => exact (Nat.lt_one_iff.mp (q 1).isLt).symm
      | ⟨2, _⟩ => exact e0
      | ⟨3, _⟩ => exact e1
      | ⟨4, _⟩ => exact (Nat.lt_one_iff.mp (q 4).isLt).symm
    · rintro ⟨_, rfl⟩
      funext b; apply Fin.ext
      match b with
      | ⟨0, _⟩ => rfl
      | ⟨1, _⟩ => rfl
  have h2 : ∀ (x : FVec Ideal S1x32x128x8x128 .f32), Ideal.hostReduceAdd Gen.reducesTo_S1x32x128x8x128_S1x128x8_d1_4 x 0 (ix3 0 i g) = ∑ n : Fin 32, ∑ c : Fin 128, x (ix5 0 n i g c) := by
    intro x
    refine (zero_add _).trans ((Finset.sum_filter_eq_sum_of_fiber _ (fun k : Fin 32 × Fin 128 => ix5 0 k.1 i g k.2)
      (fun _ _ e => Prod.ext (congrFun e (1 : Fin 5)) (congrFun e (4 : Fin 5))) ?_ x).trans (Fintype.sum_prod_type _))
    intro q
    constructor
    · intro e
      refine ⟨(q 1, q 4), ?_⟩
      funext a; apply Fin.ext
      have e0 := (congrArg Fin.val (congrFun e 1)).symm
      have e1 := (congrArg Fin.val (congrFun e 2)).symm
      match a with
      | ⟨0, _⟩ => exact (Nat.lt_one_iff.mp (q 0).isLt).symm
      | ⟨1, _⟩ => rfl
      | ⟨2, _⟩ => exact e0
      | ⟨3, _⟩ => exact e1
      | ⟨4, _⟩ => rfl
    · rintro ⟨_, rfl⟩
      funext b; apply Fin.ext
      match b with
      | ⟨0, _⟩ => rfl
      | ⟨1, _⟩ => rfl
      | ⟨2, _⟩ => rfl
  pointwise [val_main_v175, val_main_v174, val_main_v105, val_main_v104, val_main_cst_22]
  rw [h1]
  pointwise [val_main_v103, val_main_v102, val_main_cst_21]
  rw [h2]
  pointwise [val_main_v101, dmix_read]
  rfl

/-- A sum over two axes of extent one is the one element. -/
theorem red01 (x : FVec Ideal S1x1x1024 .f32) (d : Fin 1024) : Ideal.hostReduceAdd Gen.reducesTo_S1x1x1024_S1024_d0_1 x 0 (ix1 d) = x (ix3 0 0 d) := by
  refine (zero_add _).trans ((Finset.sum_filter_eq_sum_of_fiber _ (fun _ : Unit => ix3 0 0 d) (fun _ _ _ => rfl) ?_ x).trans (Fintype.sum_unique _))
  intro q
  constructor
  · intro e
    refine ⟨(), ?_⟩
    funext a; apply Fin.ext
    have e0 := (congrArg Fin.val (congrFun e 0)).symm
    match a with
    | ⟨0, _⟩ => exact (Nat.lt_one_iff.mp (q 0).isLt).symm
    | ⟨1, _⟩ => exact (Nat.lt_one_iff.mp (q 1).isLt).symm
    | ⟨2, _⟩ => exact e0
  · rintro ⟨_, rfl⟩
    funext b; apply Fin.ext
    match b with
    | ⟨0, _⟩ => rfl

/-- The two affine parameters' cotangents. -/
theorem dlng_read (d : Fin 1024) : val_main_v176 (F := Ideal) a0 a1 a4 (ix2 0 d) = ∑ i, xhat a1 i d * dvn a0 a1 a4 i d := by
  pointwise [val_main_v176, val_main_v121, val_main_cst_26]
  rw [red01]
  pointwise [val_main_v118, val_main_v117, val_main_cst_25, val_main_v116, xhat_read, dvn_read]

theorem dlnb_read (d : Fin 1024) : val_main_v177 (F := Ideal) a0 a1 a4 (ix2 0 d) = ∑ i, dvn a0 a1 a4 i d := by
  pointwise [val_main_v177, val_main_v115, val_main_cst_24]
  rw [red01]
  pointwise [val_main_v114, val_main_v113, val_main_cst_23, dvn_read]

/-- The cotangent of the normalised row before its scale and shift. -/
def dxh (i : Fin 4096) (d : Fin 1024) : EReal := dvn a0 a1 a4 i d * a2 (ix1 d)

theorem dxh_read (i : Fin 4096) (d : Fin 1024) : val_main_v120 (F := Ideal) a0 a1 a2 a4 (ix3 0 i d) = dxh a0 a1 a2 a4 i d := by
  pointwise [val_main_v120, val_main_v119, val_main_v71, dvn_read, dxh]

/-- A sum over two axes of extent one is the one element. -/
theorem red02 (x : FVec Ideal S1x4096x1 .f32) (i : Fin 4096) : Ideal.hostReduceAdd Gen.reducesTo_S1x4096x1_S4096_d0_2 x 0 (ix1 i) = x (ix3 0 i 0) := by
  refine (zero_add _).trans ((Finset.sum_filter_eq_sum_of_fiber _ (fun _ : Unit => ix3 0 i 0) (fun _ _ _ => rfl) ?_ x).trans (Fintype.sum_unique _))
  intro q
  constructor
  · intro e
    refine ⟨(), ?_⟩
    funext a; apply Fin.ext
    have e0 := (congrArg Fin.val (congrFun e 0)).symm
    match a with
    | ⟨0, _⟩ => exact (Nat.lt_one_iff.mp (q 0).isLt).symm
    | ⟨1, _⟩ => exact e0
    | ⟨2, _⟩ => exact (Nat.lt_one_iff.mp (q 2).isLt).symm
  · rintro ⟨_, rfl⟩
    funext b; apply Fin.ext
    match b with
    | ⟨0, _⟩ => rfl

/-- The variance's share of a row's gradient, per element. -/
def rowq (i : Fin 4096) : EReal :=
  Ideal.div ((∑ j, cen a1 i j * dxh a0 a1 a2 a4 i j) * (((-1 / 2 : ℝ) : EReal) * Ideal.div (rs a1 i) (var a1 i))) ((1024 : ℝ) : EReal)

theorem rowq_read (i : Fin 4096) : val_main_v130 (F := Ideal) a0 a1 a2 a4 (ix1 i) = rowq a0 a1 a2 a4 i := by
  pointwise [val_main_v130, val_main_cst_29]
  rw [red02]
  pointwise [val_main_v129, val_main_v128, val_main_cst_28, val_main_v127, val_main_v124, val_main_v123, val_main_cst_27, val_main_v122, val_main_v68, val_main_v67, val_main_cst_20, val_main_v66, rs_read, var_read, cen_read, dxh_read, rowq]
  rw [ofBits_neg_half, ofBits_1024]

/-- A row's gradient before the mean's share. -/
def rowp (i : Fin 4096) (d : Fin 1024) : EReal :=
  dxh a0 a1 a2 a4 i d * rs a1 i + cen a1 i d * rowq a0 a1 a2 a4 i + rowq a0 a1 a2 a4 i * cen a1 i d

theorem rowp_read (i : Fin 4096) (d : Fin 1024) : val_main_v136 (F := Ideal) a0 a1 a2 a4 (ix3 0 i d) = rowp a0 a1 a2 a4 i d := by
  pointwise [val_main_v136, val_main_v135, val_main_v134, val_main_v133, val_main_v132, val_main_v131, val_main_v126, val_main_v125, rowq_read, rs_read, cen_read, dxh_read, rowp]

theorem dn_read (i : Fin 4096) (d : Fin 1024) : val_main_v145 (F := Ideal) a0 a1 a2 a4 (ix3 0 i d)
    = rowp a0 a1 a2 a4 i d + Ideal.div (∑ j, -rowp a0 a1 a2 a4 i j) ((1024 : ℝ) : EReal) := by
  pointwise [val_main_v145, val_main_v144, val_main_v143, val_main_v142, val_main_cst_32, rowp_read]
  rw [red02]
  pointwise [val_main_v141, val_main_v140, val_main_cst_31, val_main_v139, val_main_v138, val_main_cst_30, val_main_v137, rowp_read]
  rw [ofBits_1024]

/-- The unit's derivative. -/
def gg (x : EReal) : EReal :=
  ((1 / 2 : ℝ) : EReal) * (1 + geluT x) + ((1 / 2 : ℝ) : EReal) * x * (1 - geluT x * geluT x) * (geluC : EReal) * (1 + ((3 * geluK : ℝ) : EReal) * x * x)

/-- The gated half's cotangent. -/
theorem du_read (i : Fin 4096) (d : Fin 1024) (hx : IsReal (u a1 i d)) (ha : IsReal (a0 (ix2 i d) * mixed a1 a2 a3 a4 a5 i d)) : val_main_v171 (F := Ideal) a0 a1 a2 a3 a4 a5 (ix2 i d)
    = a0 (ix2 i d) * mixed a1 a2 a3 a4 a5 i d * gg (u a1 i d) := by
  refine Eq.trans ?_ (gelu_grad hx ha (isReal_geluT hx)).symm
  pointwise [val_main_v171, val_main_v170, val_main_v169, val_main_v168, val_main_v167, val_main_v166, val_main_v165, val_main_v164, val_main_v163, val_main_cst_36, val_main_v162, val_main_v161, val_main_v160, val_main_cst_35, val_main_v159, val_main_v158, val_main_v100, val_main_v28, val_main_v27, val_main_cst_6, val_main_v26, val_main_v25, val_main_cst_5, val_main_v24, val_main_v23, val_main_v22, val_main_cst_4, val_main_v21, val_main_v20, val_main_cst_3, val_main_v13, val_main_v12, val_main_cst_1, val_main_v11, val_main_v8, val_main_cst, val_main_cst_0, dy_read, mixed_read, tu_read, u_read]
  rw [ofBits_half, ofBits_geluC, div_geluK, ofBits_three]

/-- The gradient of the normalised row, its two means taken at once. -/
def dcen (i : Fin 4096) (d : Fin 1024) : EReal :=
  rs a1 i * (dxh a0 a1 a2 a4 i d - Ideal.div (∑ j, dxh a0 a1 a2 a4 i j) ((1024 : ℝ) : EReal)
    - xhat a1 i d * Ideal.div (∑ j, dxh a0 a1 a2 a4 i j * xhat a1 i j) ((1024 : ℝ) : EReal))

/-- The other half's cotangent. -/
theorem dv_read (i : Fin 4096) (d : Fin 1024) (hx : IsReal (v a1 i d))
    (he : rowp a0 a1 a2 a4 i d + Ideal.div (∑ j, -rowp a0 a1 a2 a4 i j) ((1024 : ℝ) : EReal) = dcen a0 a1 a2 a4 i d) (ha : IsReal (dcen a0 a1 a2 a4 i d)) : val_main_v173 (F := Ideal) a0 a1 a2 a4 (ix2 i d)
    = dcen a0 a1 a2 a4 i d * gg (v a1 i d) := by
  refine Eq.trans ?_ (gelu_grad hx ha (isReal_geluT hx)).symm
  pointwise [val_main_v173, val_main_v172, val_main_v157, val_main_v156, val_main_v155, val_main_v154, val_main_v153, val_main_v152, val_main_v151, val_main_cst_34, val_main_v150, val_main_v149, val_main_v148, val_main_cst_33, val_main_v147, val_main_v146, val_main_v50, val_main_v49, val_main_cst_14, val_main_v48, val_main_v47, val_main_cst_13, val_main_v46, val_main_v45, val_main_v44, val_main_cst_12, val_main_v43, val_main_v42, val_main_cst_11, val_main_v35, val_main_v34, val_main_cst_9, val_main_v33, val_main_v30, val_main_cst_7, val_main_cst_8, tv_read, v_read, dn_read, he]
  rw [ofBits_half, ofBits_geluC, div_geluK, ofBits_three]

/-! For real arguments every array of the computation is real. -/

section Real

variable (h0 : ∀ q, IsReal (a0 q)) (h1 : ∀ q, IsReal (a1 q)) (h2 : ∀ q, IsReal (a2 q)) (h3 : ∀ q, IsReal (a3 q)) (h4 : ∀ q, IsReal (a4 q)) (h5 : ∀ q, IsReal (a5 q))

theorem isReal_gelu {x : EReal} (h : IsReal x) : IsReal (gelu x) :=
  ((isReal_coe _).mul h).mul ((isReal_coe 1).add (isReal_geluT h))

theorem isReal_wm (g : Fin 8) (i j : Fin 128) (h4 : ∀ q, IsReal (a4 q)) : IsReal (wm a4 g i j) := by
  refine (h4 _).mul ?_
  obtain h | h := mk_cases i j
  · rw [h]; exact isReal_coe 0
  · rw [h]; exact isReal_coe 1

include h1

theorem isReal_cen (i : Fin 4096) (d : Fin 1024) : IsReal (cen a1 i d) :=
  (isReal_gelu (h1 _)).sub (isReal_mean _ fun _ => isReal_gelu (h1 _))

/-- A centred row sums to zero. -/
theorem sum_cen (i : Fin 4096) : ∑ d, cen a1 i d = 0 := by
  have hg : ∀ d, IsReal (gelu (v a1 i d)) := fun d => isReal_gelu (h1 _)
  choose f hf using hg
  have e : ∀ d, cen a1 i d = ((f d - (∑ j, f j) * (1 / 1024) : ℝ) : EReal) := by
    intro d
    unfold cen
    simp only [hf]
    rw [← coe_sum, Ideal.div_coe (by norm_num), ← EReal.coe_mul, ← EReal.coe_sub]
  simp only [e]
  rw [← coe_sum, sum_centred, EReal.coe_zero]

theorem var_pos (i : Fin 4096) : ∃ w : ℝ, 0 < w ∧ var a1 i = (w : EReal) := by
  choose f hf using isReal_cen a1 h1 i
  refine ⟨(∑ j, f j * f j) * (1 / 1024) + eps, ?_, ?_⟩
  · have : 0 ≤ ∑ j, f j * f j := Finset.sum_nonneg fun j _ => mul_self_nonneg _
    have := eps_pos
    positivity
  · unfold var
    simp only [hf, ← EReal.coe_mul]
    rw [← coe_sum, Ideal.div_coe (by norm_num), ← EReal.coe_mul, ← EReal.coe_add]

theorem isReal_rs (i : Fin 4096) : IsReal (rs a1 i) := by
  obtain ⟨w, hw, e⟩ := var_pos a1 h1 i
  rw [rs, e, Ideal.rsqrt_coe, if_neg (not_lt.mpr hw.le), if_neg hw.ne']
  exact isReal_coe _

theorem isReal_xhat (i : Fin 4096) (d : Fin 1024) : IsReal (xhat a1 i d) := (isReal_cen a1 h1 i d).mul (isReal_rs a1 h1 i)

include h0 in
theorem isReal_dmix (i : Fin 4096) (d : Fin 1024) : IsReal (dmix a0 a1 i d) := (isReal_gelu (h1 _)).mul (h0 _)

include h4 in
include h0 in
theorem isReal_dvn (i : Fin 4096) (d : Fin 1024) : IsReal (dvn a0 a1 a4 i d) :=
  isReal_sum _ _ fun _ => (isReal_dmix a0 a1 h0 h1 _ _).mul (isReal_wm a4 _ _ _ h4)

include h2 in
include h3 in
include h4 in
include h5 in
theorem isReal_mixed (i : Fin 4096) (d : Fin 1024) : IsReal (mixed a1 a2 a3 a4 a5 i d) :=
  (isReal_sum _ _ fun _ => (((isReal_xhat a1 h1 _ _).mul (h2 _)).add (h3 _)).mul (isReal_wm a4 _ _ _ h4)).add (h5 _)

include h0 in
include h2 in
include h4 in
theorem isReal_dxh (i : Fin 4096) (d : Fin 1024) : IsReal (dxh a0 a1 a2 a4 i d) := (isReal_dvn a0 a1 a4 h0 h1 h4 i d).mul (h2 _)

include h0 in
include h2 in
include h4 in
theorem isReal_dcen (i : Fin 4096) (d : Fin 1024) : IsReal (dcen a0 a1 a2 a4 i d) :=
  (isReal_rs a1 h1 i).mul (((isReal_dxh a0 a1 a2 a4 h0 h1 h2 h4 i d).sub (isReal_mean _ fun j => isReal_dxh a0 a1 a2 a4 h0 h1 h2 h4 i j)).sub
    ((isReal_xhat a1 h1 i d).mul (isReal_mean _ fun j => (isReal_dxh a0 a1 a2 a4 h0 h1 h2 h4 i j).mul (isReal_xhat a1 h1 i j))))

include h0 in
include h2 in
include h3 in
include h4 in
include h5 in
/-- The gated half's cotangent at real arguments. -/
theorem du_real (i : Fin 4096) (d : Fin 1024) : val_main_v171 (F := Ideal) a0 a1 a2 a3 a4 a5 (ix2 i d)
    = a0 (ix2 i d) * mixed a1 a2 a3 a4 a5 i d * gg (u a1 i d) :=
  du_read a0 a1 a2 a3 a4 a5 i d (h1 _) ((h0 _).mul (isReal_mixed a1 a2 a3 a4 a5 h1 h2 h3 h4 h5 i d))

include h0 in
include h2 in
include h4 in
/-- The other half's cotangent at real arguments. -/
theorem dv_real (i : Fin 4096) (d : Fin 1024) : val_main_v173 (F := Ideal) a0 a1 a2 a4 (ix2 i d) = dcen a0 a1 a2 a4 i d * gg (v a1 i d) :=
  dv_read a0 a1 a2 a4 i d (h1 _)
    (norm_grad (isReal_cen a1 h1 i) (isReal_dxh a0 a1 a2 a4 h0 h1 h2 h4 i) (sum_cen a1 h1 i) (var_pos a1 h1 i) rfl d).symm
    (isReal_dcen a0 a1 a2 a4 h0 h1 h2 h4 i d)

end Real

end Cert.SguFun
-- ==== Proof.SguPay.lean ====
/- The gradient of the spatial gate: what one grid point's body computes from blocks that hold given rows, as the functions of the arguments
   that the reference computes. -/
module

public import proofs.«01_k».proof.Proof.Gen.SguIdeal.Skeleton
public import proofs.«01_k».proof.Proof.SguRef

@[expose] public section

set_option maxRecDepth 16384

noncomputable section

open Idealize.ShloMosaic Idealize.ShloMosaic.TcCoe Idealize.SL.Sem

namespace Cert.SguPay

open Cert.SguIdeal Cert.SguIdeal.Gen Cert.SguFun Cert.Reals

/-- The cube's coefficient, as the kernel names it. -/
theorem named_k : Named.named (F := Ideal) Cert.SguIdeal.κ "gelu_k" (φ := .f32) 0x3D372713#32 = (geluK : EReal) := by
  refine (IdealRules.named_const.ideal_named_scalar _ _ _ _ rfl).trans ?_
  unfold geluK; norm_num

/-- Three times it. -/
theorem named_3k : Named.named (F := Ideal) Cert.SguIdeal.κ "gelu_3k" (φ := .f32) 0x3E095D4F#32 = ((3 * geluK : ℝ) : EReal) := by
  refine (IdealRules.named_const.ideal_named_scalar _ _ _ _ rfl).trans ?_
  unfold geluK; norm_num

section Unit

variable (p q : Vec Ideal S512x512 .bf16) (f : Fin 512 → Fin 1024 → EReal) (h : ∀ r d, k0_pay15 (F := Ideal) p q (ix2 r d) = f r d)

include h

theorem tu_pay (r : Fin 512) (d : Fin 1024) : k0_pay17 (F := Ideal) p q (ix2 r d) = geluT (f r d) := by
  pointwise [k0_pay17, h]
  rw [named_k, ofBits_geluC]; rfl

theorem gu_pay (r : Fin 512) (d : Fin 1024) : k0_pay18 (F := Ideal) p q (ix2 r d) = gelu (f r d) := by
  pointwise [k0_pay18, tu_pay p q f h, h]
  rw [ofBits_half]; rfl

theorem ggu_pay (r : Fin 512) (d : Fin 1024) :
    k0_pay22 (F := Ideal) (k0_pay15 p q) (k0_pay19 p q) (k0_pay20 p q) (k0_pay21 p q) (ix2 r d) = gg (f r d) := by
  pointwise [k0_pay22, k0_pay19, k0_pay20, k0_pay21, tu_pay p q f h, h]
  rw [named_3k, ofBits_half, ofBits_geluC]; rfl

end Unit

section Norm

variable (x : FVec Ideal S512x1024 .f32) (a1 : FVec Ideal Cert.SguRefIdeal.S4096x6656 .bf16) (a2 a3 : FVec Ideal Cert.SguRefIdeal.S1024 .f32) (ro : Fin 512 → Fin 4096)
  (h : ∀ r d, x (ix2 r d) = v a1 (ro r) d)

include h

theorem tv_pay (r : Fin 512) (d : Fin 1024) : k0_pay23 (F := Ideal) x (ix2 r d) = geluT (v a1 (ro r) d) := by
  pointwise [k0_pay23, h]
  rw [named_k, ofBits_geluC]; rfl

theorem ggv_pay (r : Fin 512) (d : Fin 1024) : k0_pay24 (F := Ideal) x (ix2 r d) = gg (v a1 (ro r) d) := by
  pointwise [k0_pay24, tv_pay x a1 ro h, h]
  rw [named_3k, ofBits_half, ofBits_geluC]; rfl

theorem cen_pay (r : Fin 512) (d : Fin 1024) : k0_pay25 (F := Ideal) x (ix2 r d) = cen a1 (ro r) d := by
  pointwise [k0_pay25, tv_pay x a1 ro h, h]
  rw [ofBits_half, ofBits_1024]; rfl

theorem sq_pay (r : Fin 512) : k0_pay26 (F := Ideal) x (ix1 r) = ∑ j, cen a1 (ro r) j * cen a1 (ro r) j := by
  pointwise [k0_pay26, cen_pay x a1 ro h]

theorem rs_pay (r : Fin 512) : k0_pay27 (F := Ideal) (k0_pay26 x) (ix2 r 0) = rs a1 (ro r) := by
  pointwise [k0_pay27, sq_pay x a1 ro h]
  rw [ofBits_1024, ofBits_eps]; rfl

theorem xhat_pay (r : Fin 512) (d : Fin 1024) : k0_pay28 (F := Ideal) (k0_pay25 x) (k0_pay26 x) (ix2 r d) = xhat a1 (ro r) d := by
  pointwise [k0_pay28, cen_pay x a1 ro h, rs_pay x a1 ro h]
  rfl

theorem vn_pay (g b : Vec Ideal S1x1024 .f32) (hg : ∀ d, g (ix2 0 d) = a2 (ix1 d)) (hb : ∀ d, b (ix2 0 d) = a3 (ix1 d)) (r : Fin 512) (d : Fin 1024) :
    k0_pay29 (F := Ideal) (k0_pay25 x) (k0_pay26 x) g b (ix2 r d) = vn a1 a2 a3 (ro r) d := by
  pointwise [k0_pay29, xhat_pay x a1 ro h, hg, hb]
  rfl

variable (a0 : FVec Ideal Cert.SguRefIdeal.S4096x1024 .bf16) (a4 : FVec Ideal Cert.SguRefIdeal.S8x128x128 .f32)

theorem dv_pay (g : Vec Ideal S1x1024 .f32) (hg : ∀ d, g (ix2 0 d) = a2 (ix1 d)) (y : Vec Ideal S512x1024 .f32)
    (hy : ∀ r d, y (ix2 r d) = dvn a0 a1 a4 (ro r) d) (r : Fin 512) (d : Fin 1024) :
    k0_pay1 (F := Ideal) (k0_pay24 x) (k0_pay27 (k0_pay26 x)) (k0_pay28 (k0_pay25 x) (k0_pay26 x)) y g (ix2 r d)
      = dcen a0 a1 a2 a4 (ro r) d * gg (v a1 (ro r) d) := by
  pointwise [k0_pay1, ggv_pay x a1 ro h, rs_pay x a1 ro h, xhat_pay x a1 ro h, hg, hy]
  rw [ofBits_1024]; rfl

end Norm

end Cert.SguPay

end
-- ==== Proof.SguBlocks.lean ====
/- The gradient of the spatial gate: the rows each grid point's blocks hold. -/
module

public import proofs.«01_k».proof.Proof.SguPay
public import proofs.«01_k».proof.Proof.Gen.SguIdeal.Value
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen Cert.SguFun

variable (m : (ℓ : Loc nD τ sig) → Buf (Elt Ideal) ℓ)

/-- Row `r` of point `t`'s block in the whole array. -/
abbrev row (t : Fin cfg0.N) (r : Fin 512) : Fin 4096 := ⟨t.val * 512 + r.val, by have := t.isLt; have : cfg0.N = 8 := rfl; omega⟩

/-- Every window's block index at point `t`. -/
theorem idx : ∀ t : Fin cfg0.N, win0_0.index t = ![t.val, 0] ∧ win0_1.index t = ![t.val, 5] ∧ win0_2.index t = ![t.val, 6]
    ∧ win0_3.index t = ![t.val, 7] ∧ win0_4.index t = ![t.val, 8] ∧ win0_5.index t = ![0, 0] ∧ win0_6.index t = ![0, 0]
    ∧ win0_7.index t = ![0, 0, 0] ∧ win0_8.index t = ![0, 0, 0] ∧ win0_9.index t = ![0, 0, 0] ∧ win0_10.index t = ![0, 0]
    ∧ win0_11.index t = ![t.val, 0] ∧ win0_12.index t = ![t.val, 0] ∧ win0_13.index t = ![0, 0, 0] ∧ win0_14.index t = ![0, 0, 0]
    ∧ win0_15.index t = ![0, 0] ∧ win0_16.index t = ![0, 0] :=
  (by decide +kernel : ∀ t : Fin grid0.N, _)

variable (c : Dev nD) (t : Fin cfg0.N)

/-- The arguments, by name. -/
abbrev A0 : FVec Ideal Cert.SguRefIdeal.S4096x1024 .bf16 := m ((c : Thread nD τ).loc main_arg0)
abbrev A1 : FVec Ideal Cert.SguRefIdeal.S4096x6656 .bf16 := m ((c : Thread nD τ).loc main_arg1)
abbrev A2 : FVec Ideal Cert.SguRefIdeal.S1024 .f32 := m ((c : Thread nD τ).loc main_arg2)
abbrev A3 : FVec Ideal Cert.SguRefIdeal.S1024 .f32 := m ((c : Thread nD τ).loc main_arg3)
abbrev A4 : FVec Ideal Cert.SguRefIdeal.S8x128x128 .f32 := m ((c : Thread nD τ).loc main_arg4)
abbrev A5 : FVec Ideal Cert.SguRefIdeal.S8x128 .f32 := m ((c : Thread nD τ).loc main_arg5)

theorem dy_blk (r : Fin 512) (d : Fin 1024) : iblk m c 0 t (ix2 r d) = A0 m c (ix2 (row t r) d) := by
  blk_ext [iblk, V, idx t]

theorem u_blk (r : Fin 512) (d : Fin 1024) : k0_pay15 (F := Ideal) (iblk m c 1 t) (iblk m c 2 t) (ix2 r d) = u (A1 m c) (row t r) d := by
  pointwise [k0_pay15, u]
  split_ifs <;> first | contradiction | blk_ext [iblk, V, idx t]

theorem v_blk (r : Fin 512) (d : Fin 1024) : k0_pay16 (F := Ideal) (iblk m c 3 t) (iblk m c 4 t) (ix2 r d) = v (A1 m c) (row t r) d := by
  pointwise [k0_pay16, v]
  split_ifs <;> first | contradiction | blk_ext [iblk, V, idx t]

theorem lng_blk (d : Fin 1024) : iblk m c 5 t (ix2 0 d) = A2 m c (ix1 d) := by
  rw [show iblk m c 5 t (ix2 0 d) = V m c main_v13 (ix2 0 d) by blk_ext [iblk, idx t]]
  simp only [V, List.flatten_cons, List.flatten_nil, List.append_nil, List.cons_append, List.nil_append]
  after_results
  pointwise

theorem lnb_blk (d : Fin 1024) : iblk m c 6 t (ix2 0 d) = A3 m c (ix1 d) := by
  rw [show iblk m c 6 t (ix2 0 d) = V m c main_v14 (ix2 0 d) by blk_ext [iblk, idx t]]
  simp only [V, List.flatten_cons, List.flatten_nil, List.append_nil, List.cons_append, List.nil_append]
  after_results
  pointwise

theorem wm_blk (g : Fin 8) (i j : Fin 128) : iblk m c 7 t (ix3 g i j) = wm (A4 m c) g i j := by
  rw [show iblk m c 7 t (ix3 g i j) = V m c main_v15 (ix3 g i j) by blk_ext [iblk, idx t]]
  simp only [V, List.flatten_cons, List.flatten_nil, List.append_nil, List.cons_append, List.nil_append]
  after_results
  rfl

theorem wmt_blk (g : Fin 8) (i j : Fin 128) : iblk m c 8 t (ix3 g i j) = wm (A4 m c) g j i := by
  rw [show iblk m c 8 t (ix3 g i j) = V m c main_v17 (ix3 g i j) by blk_ext [iblk, idx t]]
  simp only [V, List.flatten_cons, List.flatten_nil, List.append_nil, List.cons_append, List.nil_append]
  after_results
  pointwise
  rfl

theorem bias_blk (g : Fin 8) (i j : Fin 128) : iblk m c 9 t (ix3 g i j) = A5 m c (ix2 g i) := by
  rw [show iblk m c 9 t (ix3 g i j) = V m c main_v12 (ix3 g i j) by blk_ext [iblk, idx t]]
  simp only [V, List.flatten_cons, List.flatten_nil, List.append_nil, List.cons_append, List.nil_append]
  after_results
  pointwise

theorem mask_blk (i j : Fin 128) : iblk m c 10 t (ix2 i j) = mk i j := by
  rw [show iblk m c 10 t (ix2 i j) = V m c main_v7 (ix2 i j) by blk_ext [iblk, idx t]]
  simp only [V, List.flatten_cons, List.flatten_nil, List.append_nil, List.cons_append, List.nil_append]
  after_results
  rfl

end Cert.SguIdeal.Value
-- ==== Proof.SguTiles.lean ====
/- The gradient of the spatial gate: one grid point's tiles, each a 128 by 128 block of a group, as the functions of the arguments. -/
module
public import proofs.«01_k».proof.Proof.SguBlocks
@[expose] public section
set_option maxRecDepth 16384
noncomputable section
open Idealize.ShloMosaic Idealize.ShloMosaic.TcCoe Idealize.SL.Sem
open Idealize.ShloMosaic.Pipeline (Dat)
namespace Cert.SguIdeal.Value
open Cert.SguIdeal Cert.SguIdeal.Gen Cert.SguFun Cert.SguPay
variable (m : (ℓ : Loc nD τ sig) → Buf (Elt Ideal) ℓ)
set_option maxHeartbeats 400000

variable (c : Dev nD) (t : Fin cfg0.N)

theorem flat3 {φ : EltTy} (Y : Vec Ideal S1x128x128 φ) (hc) (i j : Fin 128) : shapeCast S128x128 Y hc (ix2 i j) = Y (ix3 0 i j) := by
  pointwise

theorem ld3 {φ : EltTy} (X : Vec Ideal S8x128x128 φ) (g : ℕ) (hg : g < 8) (hr) (hc) (i j : Fin 128) :
    shapeCast S128x128 (View.ld (Val := Elt Ideal) X (Rect.unit ![g, 0, 0] ![1, 128, 128] hr)) hc (ix2 i j) = X (ix3 ⟨g, hg⟩ i j) := by
  refine (flat3 (View.ld (Val := Elt Ideal) X (Rect.unit ![g, 0, 0] ![1, 128, 128] hr)) hc i j).trans (congrArg X ?_)
  funext a
  fin_cases a
  · exact Fin.ext (by show g + 1 * 0 = g; omega)
  · exact Fin.ext (by show 0 + 1 * i.val = i.val; omega)
  · exact Fin.ext (by show 0 + 1 * j.val = j.val; omega)

theorem slice_at {φ : EltTy} (X : Vec Ideal S512x1024 φ) (o p : ℕ) (ho : o + 128 ≤ 512) (hp : p + 128 ≤ 1024) (hs) (i j : Fin 128) :
    extractStridedSlice S128x128 ![o, p] X hs (ix2 i j) = X (ix2 ⟨o + i.val, by omega⟩ ⟨p + j.val, by omega⟩) := by
  pointwise

theorem nb_row (o : ℕ) (ho : o % 128 = 0) (ho' : o + 128 ≤ 512) (i s : Fin 128) :
    nb (row t ⟨o + i.val, by omega⟩) s = row t ⟨o + s.val, by omega⟩ :=
  Fin.ext (by show (t.val * 512 + (o + i.val)) / 128 * 128 + s.val = t.val * 512 + (o + s.val); omega)

theorem lo_row (o : ℕ) (ho : o % 128 = 0) (ho' : o + 128 ≤ 512) (i : Fin 128) : lo (row t ⟨o + i.val, by omega⟩) = i :=
  Fin.ext (by show (t.val * 512 + (o + i.val)) % 128 = i.val; omega)

theorem gr_lane (p : ℕ) (hp : p % 128 = 0) (hp' : p + 128 ≤ 1024) (j : Fin 128) : gr ⟨p + j.val, by omega⟩ = ⟨p / 128, by omega⟩ :=
  Fin.ext (by show (p + j.val) / 128 = p / 128; omega)

theorem du_tile (o p : ℕ) (ho : o % 128 = 0) (ho' : o + 128 ≤ 512) (hp : p % 128 = 0) (hp' : p + 128 ≤ 1024)
    {DY GG : FVec Ideal S512x1024 .f32} {VN : FVec Ideal S512x1024 .bf16} {W : FVec Ideal S128x128 .bf16} {B : FVec Ideal S128x128 .f32}
    (hDY : ∀ r d, DY (ix2 r d) = A0 m c (ix2 (row t r) d)) (hGG : ∀ r d, GG (ix2 r d) = gg (u (A1 m c) (row t r) d))
    (hVN : ∀ r d, VN (ix2 r d) = vn (A1 m c) (A2 m c) (A3 m c) (row t r) d) (hW : ∀ i j, W (ix2 i j) = wm (A4 m c) ⟨p / 128, by omega⟩ i j)
    (hB : ∀ i j, B (ix2 i j) = A5 m c (ix2 ⟨p / 128, by omega⟩ i)) (hs : S512x1024.Slices ![o, p] S128x128) (hb : FTy.bits .bf16 < FTy.bits .f32)
    (x : S128x128.Idx) (y : S512x1024.Idx) (h0 : (y 0).val = o + (x 0).val) (h1 : (y 1).val = p + (x 1).val) :
    truncf (F := Ideal) .bf16 (mulf (mulf (extractStridedSlice S128x128 ![o, p] DY hs)
      (addf (matmul (sl := S128x128) dot_S128x128_S128x128_S128x128_1_0_0_1_n_n none W
          (extractStridedSlice S128x128 ![o, p] VN hs) (constant S128x128 .f32 0#32)) B))
      (extractStridedSlice S128x128 ![o, p] GG hs)) hb x
    = A0 m c (ix2 (row t (y 0)) (y 1)) * mixed (A1 m c) (A2 m c) (A3 m c) (A4 m c) (A5 m c) (row t (y 0)) (y 1) * gg (u (A1 m c) (row t (y 0)) (y 1)) := by
  obtain ⟨i, j, rfl⟩ : ∃ (i j : Fin 128), x = ix2 i j := ⟨x 0, x 1, eq_ix2 x⟩
  have e0 : y 0 = (⟨o + i.val, by omega⟩ : Fin 512) := Fin.ext h0
  have e1 : y 1 = (⟨p + j.val, by omega⟩ : Fin 1024) := Fin.ext h1
  pointwise [hDY, hGG, hVN, hW, hB]
  rw [e0, e1]
  unfold mixed
  rw [gr_lane p hp hp' j, lo_row t o ho ho' i]
  simp only [nb_row t o ho ho' i]
  refine congrArg (fun z => _ * z * _) (congrArg (· + _) (Finset.sum_congr rfl fun s _ => ?_))
  show @Eq EReal _ _
  exact mul_comm _ _

theorem dvn_tile (o p : ℕ) (ho : o % 128 = 0) (ho' : o + 128 ≤ 512) (hp : p % 128 = 0) (hp' : p + 128 ≤ 1024)
    {DY GU : FVec Ideal S512x1024 .f32} {W : FVec Ideal S128x128 .bf16}
    (hDY : ∀ r d, DY (ix2 r d) = A0 m c (ix2 (row t r) d)) (hGU : ∀ r d, GU (ix2 r d) = gelu (u (A1 m c) (row t r) d))
    (hW : ∀ i j, W (ix2 i j) = wm (A4 m c) ⟨p / 128, by omega⟩ j i) (hs : S512x1024.Slices ![o, p] S128x128) (hb : FTy.bits .bf16 < FTy.bits .f32) (hc)
    (x : S128x128.Idx) (y : S512x1024.Idx) (h0 : (y 0).val = o + (x 0).val) (h1 : (y 1).val = p + (x 1).val) :
    shapeCast (s := S128x128) S128x128 (matmul (F := Ideal) (sl := S128x128) dot_S128x128_S128x128_S128x128_1_0_0_1_n_n none W
      (truncf .bf16 (mulf (extractStridedSlice S128x128 ![o, p] DY hs) (extractStridedSlice S128x128 ![o, p] GU hs)) hb)
      (constant S128x128 .f32 0#32)) hc x
    = dvn (A0 m c) (A1 m c) (A4 m c) (row t (y 0)) (y 1) := by
  obtain ⟨i, j, rfl⟩ : ∃ (i j : Fin 128), x = ix2 i j := ⟨x 0, x 1, eq_ix2 x⟩
  have e0 : y 0 = (⟨o + i.val, by omega⟩ : Fin 512) := Fin.ext h0
  have e1 : y 1 = (⟨p + j.val, by omega⟩ : Fin 1024) := Fin.ext h1
  pointwise [hDY, hGU, hW]
  rw [e0, e1]
  unfold dvn
  rw [gr_lane p hp hp' j, lo_row t o ho ho' i]
  simp only [nb_row t o ho ho' i]
  refine Finset.sum_congr rfl fun s _ => ?_
  unfold dmix
  show @Eq EReal _ _
  rw [mul_comm, mul_comm (A0 m c _)]

theorem dy_ext (hb : FTy.bits .bf16 < FTy.bits .f32) (r : Fin 512) (d : Fin 1024) :
    extf (F := Ideal) .f32 (iblk m c 0 t : FVec Ideal S512x1024 .bf16) hb (ix2 r d) = A0 m c (ix2 (row t r) d) :=
  dy_blk m c t r d

theorem read_all {κ : Kind} {sp : Space} (w : View sig κ sp S512x1024 .f32) (L : List (View.Piece (Elt Ideal) S512x1024 .f32))
    (inb : ∀ a : Fin 2, (![0, 0] : Fin 2 → ℕ) a + (![512, 1024] : Fin 2 → ℕ) a ≤ S512x1024.size a) (f : Fin 512 → Fin 1024 → EReal)
    (h : ∀ q : S512x1024.Idx, View.canon L q = f (q 0) (q 1)) (r : Fin 512) (d : Fin 1024) :
    w.readCov (Val := Elt Ideal) L (Rect.unit (s := S512x1024) ![0, 0] ![512, 1024] inb).toLoadRect (by exact ix2 r d) = f r d := by
  rw [View.readCov_eq_canon']
  refine (h _).trans ?_
  refine congrArg₂ f (Fin.ext ?_) (Fin.ext ?_)
  · show 0 + 1 * r.val = r.val; omega
  · show 0 + 1 * d.val = d.val; omega

theorem dlng_step (y xh : FVec Ideal S512x1024 .f32) (p : Vec Ideal S1x1024 .f32) (hc) (d : Fin 1024) :
    k0_pay320 (F := Ideal) (shapeCast (s := S1x1024) S1x1024 p hc) (mulf y xh) (ix2 0 d) = p (ix2 0 d) + ∑ r, xh (ix2 r d) * y (ix2 r d) := by
  pointwise [k0_pay320]
  refine congrArg (_ + ·) (Finset.sum_congr rfl fun r _ => ?_)
  show @Eq EReal _ _
  exact mul_comm _ _

theorem dlnb_step (y : Vec Ideal S512x1024 .f32) (p : Vec Ideal S1x1024 .f32) (d : Fin 1024) :
    k0_pay321 (F := Ideal) y p (ix2 0 d) = p (ix2 0 d) + ∑ r, y (ix2 r d) := by
  pointwise [k0_pay321]

theorem zero13 (d : Fin 1024) : k0_pay13 (F := Ideal) (ix2 0 d) = (0 : EReal) := by
  pointwise [k0_pay13]

theorem zero14 (d : Fin 1024) : k0_pay14 (F := Ideal) (ix2 0 d) = (0 : EReal) := by
  pointwise [k0_pay14]

/-- Block `b` of the point's four. -/
abbrev nblk (b : Fin 4) : Fin 32 := ⟨t.val * 4 + b.val, by have := t.isLt; have : cfg0.N = 8 := rfl; omega⟩

/-- What block `n` adds to the weights' gradient. -/
def dwsTerm (n : Fin 32) (g : Fin 8) (i j : Fin 128) : EReal :=
  (∑ e, dmix (A0 m c) (A1 m c) (at' n i) (ln g e) * vn (A1 m c) (A2 m c) (A3 m c) (at' n j) (ln g e)) * mk i j

/-- What block `n` adds, lane by lane, to the biases' gradient. -/
def dbsTerm (n : Fin 32) (g : Fin 8) (i e : Fin 128) : EReal := dmix (A0 m c) (A1 m c) (at' n i) (ln g e)

theorem row_at (b : Fin 4) (o : ℕ) (ho : o = b.val * 128) (i : Fin 128) : row t ⟨o + i.val, by omega⟩ = at' (nblk t b) i :=
  Fin.ext (by show t.val * 512 + (o + i.val) = (t.val * 4 + b.val) * 128 + i.val; omega)

theorem lane_at (p : ℕ) (hp : p % 128 = 0) (hp' : p + 128 ≤ 1024) (j : Fin 128) : (⟨p + j.val, by omega⟩ : Fin 1024) = ln ⟨p / 128, by omega⟩ j :=
  Fin.ext (by show p + j.val = p / 128 * 128 + j.val; omega)

theorem add4 (a b d e f : EReal) : a + b + d + e + f = a + (b + d + e + f) := by simp only [add_assoc]

theorem dws_block (b : Fin 4) (p : ℕ) (hp : p % 128 = 0) (hp' : p + 128 ≤ 1024) (i j : Fin 128) {r r' : Fin 4096} (hr : r = at' (nblk t b) i)
    (hr' : r' = at' (nblk t b) j) :
    (∑ e : Fin 128, A0 m c (ix2 r ⟨p + e.val, by omega⟩) * gelu (u (A1 m c) r ⟨p + e.val, by omega⟩)
      * vn (A1 m c) (A2 m c) (A3 m c) r' ⟨p + e.val, by omega⟩) * mk i j = dwsTerm m c (nblk t b) ⟨p / 128, by omega⟩ i j := by
  subst hr hr'
  unfold dwsTerm dmix
  refine congrArg (· * _) (Finset.sum_congr rfl fun e _ => ?_)
  rw [lane_at p hp hp' e]
  show @Eq EReal _ _
  rw [mul_comm (A0 m c _)]

theorem dbs_block (b : Fin 4) (p : ℕ) (hp : p % 128 = 0) (hp' : p + 128 ≤ 1024) (i e : Fin 128) {r : Fin 4096} (hr : r = at' (nblk t b) i) :
    A0 m c (ix2 r ⟨p + e.val, by omega⟩) * gelu (u (A1 m c) r ⟨p + e.val, by omega⟩) = dbsTerm m c (nblk t b) ⟨p / 128, by omega⟩ i e := by
  subst hr
  unfold dbsTerm dmix
  rw [lane_at p hp hp' e]
  show @Eq EReal _ _
  exact mul_comm _ _

theorem dws_piece (p : ℕ) (hp : p % 128 = 0) (hp' : p + 128 ≤ 1024) (g : ℕ) (e : p / 128 = g) (X : Vec Ideal S8x128x128 .f32)
    {DY GU : FVec Ideal S512x1024 .f32} {VN : FVec Ideal S512x1024 .bf16} {MK : FVec Ideal S128x128 .f32}
    (hMK : ∀ i j, MK (ix2 i j) = mk i j)
    (hDY : ∀ r d, DY (ix2 r d) = A0 m c (ix2 (row t r) d)) (hGU : ∀ r d, GU (ix2 r d) = gelu (u (A1 m c) (row t r) d))
    (hVN : ∀ r d, VN (ix2 r d) = vn (A1 m c) (A2 m c) (A3 m c) (row t r) d)
    {hr} {hc} (s0 : S512x1024.Slices ![0, p] S128x128) (s1 : S512x1024.Slices ![128, p] S128x128) (s2 : S512x1024.Slices ![256, p] S128x128)
    (s3 : S512x1024.Slices ![384, p] S128x128) (hb : FTy.bits .bf16 < FTy.bits .f32) (up : S128x128.ShapeCasts S1x128x128) (dn : S1x128x128.ShapeCasts S128x128)
    (x : S1x128x128.Idx) (y : S8x128x128.Idx) (h0 : (y 0).val = p / 128) (h1 : (y 1).val = (x 1).val) (h2 : (y 2).val = (x 2).val) :
    shapeCast S1x128x128 (addf (F := Ideal) (shapeCast S128x128 (shapeCast S1x128x128 (addf (shapeCast S128x128 (shapeCast S1x128x128 (addf (shapeCast S128x128 (shapeCast S1x128x128 (addf (shapeCast S128x128 (View.ld (Val := Elt Ideal) X (Rect.unit ![g, 0, 0] ![1, 128, 128] hr)) hc)
      (mulf (matmul (sl := S128x128) dot_S128x128_S128x128_S128x128_1_1_0_0_n_n none (truncf .bf16 (mulf (extractStridedSlice S128x128 ![0, p] DY s0) (extractStridedSlice S128x128 ![0, p] GU s0)) hb)
        (extractStridedSlice S128x128 ![0, p] VN s0) (constant S128x128 .f32 0#32)) MK)) up) dn)
      (mulf (matmul (sl := S128x128) dot_S128x128_S128x128_S128x128_1_1_0_0_n_n none (truncf .bf16 (mulf (extractStridedSlice S128x128 ![128, p] DY s1) (extractStridedSlice S128x128 ![128, p] GU s1)) hb)
        (extractStridedSlice S128x128 ![128, p] VN s1) (constant S128x128 .f32 0#32)) MK)) up) dn)
      (mulf (matmul (sl := S128x128) dot_S128x128_S128x128_S128x128_1_1_0_0_n_n none (truncf .bf16 (mulf (extractStridedSlice S128x128 ![256, p] DY s2) (extractStridedSlice S128x128 ![256, p] GU s2)) hb)
        (extractStridedSlice S128x128 ![256, p] VN s2) (constant S128x128 .f32 0#32)) MK)) up) dn)
      (mulf (matmul (sl := S128x128) dot_S128x128_S128x128_S128x128_1_1_0_0_n_n none (truncf .bf16 (mulf (extractStridedSlice S128x128 ![384, p] DY s3) (extractStridedSlice S128x128 ![384, p] GU s3)) hb)
        (extractStridedSlice S128x128 ![384, p] VN s3) (constant S128x128 .f32 0#32)) MK)) up x
    = X y + ∑ b, dwsTerm m c (nblk t b) (y 0) (y 1) (y 2) := by
  obtain ⟨z, i, j, rfl⟩ : ∃ (z : Fin 1) (i j : Fin 128), x = ix3 z i j := ⟨x 0, x 1, x 2, eq_ix3 x⟩
  have hg : p / 128 < 8 := by clear h0 h1 h2; omega
  have e0 : y 0 = (⟨p / 128, hg⟩ : Fin 8) := Fin.ext h0
  have e1 : y 1 = i := Fin.ext h1
  have e2 : y 2 = j := Fin.ext h2
  have ey : y = ix3 (⟨p / 128, hg⟩ : Fin 8) i j := (eq_ix3 y).trans (by rw [e0, e1, e2])
  subst e
  have hP := ld3 X (p / 128) hg hr hc
  generalize shapeCast S128x128 (View.ld (Val := Elt Ideal) X (Rect.unit ![p / 128, 0, 0] ![1, 128, 128] hr)) hc = P at hP ⊢
  rw [ey]
  rw [Fin.sum_univ_four]
  pointwise [hP, hMK, hDY, hGU, hVN]
  refine (add4 _ _ _ _ _).trans (congrArg (_ + ·) (congrArg₂ (· + ·) (congrArg₂ (· + ·) (congrArg₂ (· + ·) ?_ ?_) ?_) ?_))
  · exact dws_block m c t 0 p hp hp' i j (Fin.ext (by show t.val * 512 + i.val = (t.val * 4 + 0) * 128 + i.val; omega)) (Fin.ext (by show t.val * 512 + j.val = (t.val * 4 + 0) * 128 + j.val; omega))
  · exact dws_block m c t 1 p hp hp' i j (row_at t 1 128 rfl i) (row_at t 1 128 rfl j)
  · exact dws_block m c t 2 p hp hp' i j (row_at t 2 256 rfl i) (row_at t 2 256 rfl j)
  · exact dws_block m c t 3 p hp hp' i j (row_at t 3 384 rfl i) (row_at t 3 384 rfl j)
theorem dbs_piece (p : ℕ) (hp : p % 128 = 0) (hp' : p + 128 ≤ 1024) (g : ℕ) (e : p / 128 = g) (X : Vec Ideal S8x128x128 .f32)
    {DY GU : FVec Ideal S512x1024 .f32}
    (hDY : ∀ r d, DY (ix2 r d) = A0 m c (ix2 (row t r) d)) (hGU : ∀ r d, GU (ix2 r d) = gelu (u (A1 m c) (row t r) d))
    {hr} {hc} (s0 : S512x1024.Slices ![0, p] S128x128) (s1 : S512x1024.Slices ![128, p] S128x128) (s2 : S512x1024.Slices ![256, p] S128x128)
    (s3 : S512x1024.Slices ![384, p] S128x128) (up : S128x128.ShapeCasts S1x128x128) (dn : S1x128x128.ShapeCasts S128x128)
    (x : S1x128x128.Idx) (y : S8x128x128.Idx) (h0 : (y 0).val = p / 128) (h1 : (y 1).val = (x 1).val) (h2 : (y 2).val = (x 2).val) :
    shapeCast S1x128x128 (addf (F := Ideal) (shapeCast S128x128 (shapeCast S1x128x128 (addf (shapeCast S128x128 (shapeCast S1x128x128 (addf (shapeCast S128x128 (shapeCast S1x128x128 (addf (shapeCast S128x128 (View.ld (Val := Elt Ideal) X (Rect.unit ![g, 0, 0] ![1, 128, 128] hr)) hc)
      (mulf (extractStridedSlice S128x128 ![0, p] DY s0) (extractStridedSlice S128x128 ![0, p] GU s0))) up) dn)
      (mulf (extractStridedSlice S128x128 ![128, p] DY s1) (extractStridedSlice S128x128 ![128, p] GU s1))) up) dn)
      (mulf (extractStridedSlice S128x128 ![256, p] DY s2) (extractStridedSlice S128x128 ![256, p] GU s2))) up) dn)
      (mulf (extractStridedSlice S128x128 ![384, p] DY s3) (extractStridedSlice S128x128 ![384, p] GU s3))) up x
    = X y + ∑ b, dbsTerm m c (nblk t b) (y 0) (y 1) (y 2) := by
  obtain ⟨z, i, j, rfl⟩ : ∃ (z : Fin 1) (i j : Fin 128), x = ix3 z i j := ⟨x 0, x 1, x 2, eq_ix3 x⟩
  have hg : p / 128 < 8 := by clear h0 h1 h2; omega
  have e0 : y 0 = (⟨p / 128, hg⟩ : Fin 8) := Fin.ext h0
  have e1 : y 1 = i := Fin.ext h1
  have e2 : y 2 = j := Fin.ext h2
  have ey : y = ix3 (⟨p / 128, hg⟩ : Fin 8) i j := (eq_ix3 y).trans (by rw [e0, e1, e2])
  subst e
  have hP := ld3 X (p / 128) hg hr hc
  generalize shapeCast S128x128 (View.ld (Val := Elt Ideal) X (Rect.unit ![p / 128, 0, 0] ![1, 128, 128] hr)) hc = P at hP ⊢
  rw [ey]
  rw [Fin.sum_univ_four]
  pointwise [hP, hDY, hGU]
  refine (add4 _ _ _ _ _).trans (congrArg (_ + ·) (congrArg₂ (· + ·) (congrArg₂ (· + ·) (congrArg₂ (· + ·) ?_ ?_) ?_) ?_))
  · exact dbs_block m c t 0 p hp hp' i j (Fin.ext (by show t.val * 512 + i.val = (t.val * 4 + 0) * 128 + i.val; omega))
  · exact dbs_block m c t 1 p hp hp' i j (row_at t 1 128 rfl i)
  · exact dbs_block m c t 2 p hp hp' i j (row_at t 2 256 rfl i)
  · exact dbs_block m c t 3 p hp hp' i j (row_at t 3 384 rfl i)
end Cert.SguIdeal.Value
-- ==== Proof.SguPoint.lean ====
/- The gradient of the spatial gate: what each grid point leaves of the two halves' cotangents and of the norm's sums. -/
module
public import proofs.«01_k».proof.Proof.SguTiles
@[expose] public section
set_option maxRecDepth 16384
noncomputable section
open Idealize.ShloMosaic Idealize.ShloMosaic.TcCoe Idealize.SL.Sem
open Idealize.ShloMosaic.Pipeline (Dat)
namespace Cert.SguIdeal.Value

open Cert.SguIdeal Cert.SguIdeal.Gen Cert.SguFun Cert.SguPay

variable (m : (ℓ : Loc nD τ sig) → Buf (Elt Ideal) ℓ) (c : Dev nD) (t : Fin cfg0.N)

set_option maxHeartbeats 2000000

theorem du_point (y : S512x1024.Idx) :
    (outsAt0 m c t.val t.isLt).1 y = A0 m c (ix2 (row t (y 0)) (y 1)) * mixed (A1 m c) (A2 m c) (A3 m c) (A4 m c) (A5 m c) (row t (y 0)) (y 1) * gg (u (A1 m c) (row t (y 0)) (y 1)) := by
  by_cases h0 : t.val % 8 = 0
  on_goal 1 => rw [outsAt0_A m c t h0 (by omega)]
  on_goal 2 => by_cases h1 : t.val % 8 = 7
  on_goal 2 => rw [outsAt0_C m c t h0 h1]
  on_goal 3 => rw [outsAt0_B m c t h0 h1]
  all_goals
    frame_out
    canon_tiles x h
    all_goals
      refine du_tile m c t _ _ (by decide) (by decide) (by decide) (by decide) ?_ ?_ ?_ ?_ ?_ _ _ x y (by omega) (by omega)
      · exact dy_ext m c t _
      · exact ggu_pay _ _ _ (u_blk m c t)
      · exact vn_pay _ _ _ _ _ (v_blk m c t) _ _ (lng_blk m c t) (lnb_blk m c t)
      · exact fun i j => (ld3 _ _ (by decide) _ _ i j).trans (wm_blk m c t _ i j)
      · exact fun i j => (ld3 _ _ (by decide) _ _ i j).trans (bias_blk m c t _ i j)

theorem dv_A (h0 : t.val % 8 = 0) (h1 : ¬ t.val % 8 = 7) :
    (∀ r d, (outsAt0 m c t.val t.isLt).2.1 (ix2 r d) = dcen (A0 m c) (A1 m c) (A2 m c) (A4 m c) (row t r) d * gg (v (A1 m c) (row t r) d))
    ∧ (∀ d, (outsAt0 m c t.val t.isLt).2.2.2.2.1 (ix2 0 d) = k0_pay13 (F := Ideal) (ix2 0 d) + ∑ r, xhat (A1 m c) (row t r) d * dvn (A0 m c) (A1 m c) (A4 m c) (row t r) d)
    ∧ (∀ d, (outsAt0 m c t.val t.isLt).2.2.2.2.2.1 (ix2 0 d) = k0_pay14 (F := Ideal) (ix2 0 d) + ∑ r, dvn (A0 m c) (A1 m c) (A4 m c) (row t r) d) := by
  rw [outsAt0_A m c t h0 h1]
  frame_open
  simp (disch := decide) only [↓ View.readCov_skip, ↓ View.readCov_cons_toLoadRect, ↓ View.readCov_fill]
  frame_out
  generalize hY : View.readCov (Val := Elt Ideal) (s := S512x1024) _ _ _ = Y
  have hy : ∀ r d, Y (ix2 r d) = dvn (A0 m c) (A1 m c) (A4 m c) (row t r) d := by
    intro r d
    rw [← hY]
    refine read_all _ _ _ (fun r d => dvn (A0 m c) (A1 m c) (A4 m c) (row t r) d) (fun q => ?_) r d
    canon_tiles x h
    all_goals
      refine dvn_tile m c t _ _ (by decide) (by decide) (by decide) (by decide) ?_ ?_ ?_ _ _ _ x q (by omega) (by omega)
      · exact dy_ext m c t _
      · exact gu_pay _ _ _ (u_blk m c t)
      · exact fun i j => (ld3 _ _ (by decide) _ _ i j).trans (wmt_blk m c t _ i j)
  refine ⟨?_, fun d => ?_, fun d => ?_⟩
  · exact dv_pay _ (A1 m c) (A2 m c) (row t) (v_blk m c t) (A0 m c) (A4 m c) (iblk m c 5 t) (lng_blk m c t) _ hy
  · refine (dlng_step _ _ _ _ d).trans (congrArg (_ + ·) (Finset.sum_congr rfl fun r _ => congrArg₂ (· * ·) ?_ (hy r d)))
    exact xhat_pay _ _ (row t) (v_blk m c t) r d
  · exact (dlnb_step _ _ d).trans (congrArg (_ + ·) (Finset.sum_congr rfl fun r _ => hy r d))

theorem dv_pos (h0 : ¬ t.val % 8 = 0) :
    (∀ r d, (outsAt0 m c t.val t.isLt).2.1 (ix2 r d) = dcen (A0 m c) (A1 m c) (A2 m c) (A4 m c) (row t r) d * gg (v (A1 m c) (row t r) d))
    ∧ (∀ d, (outsAt0 m c t.val t.isLt).2.2.2.2.1 (ix2 0 d) = (outsAt0 m c (t.val - 1) (Nat.lt_of_le_of_lt (Nat.sub_le _ _) t.isLt)).2.2.2.2.1 (ix2 0 d) + ∑ r, xhat (A1 m c) (row t r) d * dvn (A0 m c) (A1 m c) (A4 m c) (row t r) d)
    ∧ (∀ d, (outsAt0 m c t.val t.isLt).2.2.2.2.2.1 (ix2 0 d) = (outsAt0 m c (t.val - 1) (Nat.lt_of_le_of_lt (Nat.sub_le _ _) t.isLt)).2.2.2.2.2.1 (ix2 0 d) + ∑ r, dvn (A0 m c) (A1 m c) (A4 m c) (row t r) d) := by
  by_cases h1 : t.val % 8 = 7
  on_goal 1 => rw [outsAt0_C m c t h0 h1]
  on_goal 2 => rw [outsAt0_B m c t h0 h1]
  all_goals
    frame_open
    simp (disch := decide) only [↓ View.readCov_skip, ↓ View.readCov_cons_toLoadRect, ↓ View.readCov_fill]
    frame_out
    generalize hY : View.readCov (Val := Elt Ideal) (s := S512x1024) _ _ _ = Y
    have hy : ∀ r d, Y (ix2 r d) = dvn (A0 m c) (A1 m c) (A4 m c) (row t r) d := by
      intro r d
      rw [← hY]
      refine read_all _ _ _ (fun r d => dvn (A0 m c) (A1 m c) (A4 m c) (row t r) d) (fun q => ?_) r d
      canon_tiles x h
      all_goals
        refine dvn_tile m c t _ _ (by decide) (by decide) (by decide) (by decide) ?_ ?_ ?_ _ _ _ x q (by omega) (by omega)
        · exact dy_ext m c t _
        · exact gu_pay _ _ _ (u_blk m c t)
        · exact fun i j => (ld3 _ _ (by decide) _ _ i j).trans (wmt_blk m c t _ i j)
    refine ⟨?_, fun d => ?_, fun d => ?_⟩
    · exact dv_pay _ (A1 m c) (A2 m c) (row t) (v_blk m c t) (A0 m c) (A4 m c) (iblk m c 5 t) (lng_blk m c t) _ hy
    · refine (dlng_step _ _ _ _ d).trans (congrArg (_ + ·) (Finset.sum_congr rfl fun r _ => congrArg₂ (· * ·) ?_ (hy r d)))
      exact xhat_pay _ _ (row t) (v_blk m c t) r d
    · exact (dlnb_step _ _ d).trans (congrArg (_ + ·) (Finset.sum_congr rfl fun r _ => hy r d))

end Cert.SguIdeal.Value
-- ==== Proof.SguAcc.lean ====
/- The gradient of the spatial gate: what each grid point adds to the spatial weight's and bias's sums, stored group by group over earlier stores. -/
module
public import proofs.«01_k».proof.Proof.SguPoint
@[expose] public section
set_option maxRecDepth 16384
noncomputable section
open Idealize.ShloMosaic Idealize.ShloMosaic.TcCoe Idealize.SL.Sem
open Idealize.ShloMosaic.Pipeline (Dat)
namespace Cert.SguIdeal.Value

open Cert.SguIdeal Cert.SguIdeal.Gen Cert.SguFun Cert.SguPay

variable (m : (ℓ : Loc nD τ sig) → Buf (Elt Ideal) ℓ) (c : Dev nD) (t : Fin cfg0.N)

set_option maxHeartbeats 4000000

/-- Stores over earlier ones, where the later ones alone cover the index: the earlier ones do not count. -/
theorem canon_latest {S : Shape} {e : EltTy} (L L' : List (View.Piece (Elt Ideal) S e)) (y : S.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans ((ih ?_).trans (View.canon_cons_of_not_mem p L hm).symm)
      obtain ⟨q, hq, hyq⟩ := hc
      rcases List.mem_cons.mp hq with rfl | hq'
      · exact absurd hyq hm
      · exact ⟨q, hq', hyq⟩

theorem mask_flat (hc : S128x128.ShapeCasts S128x128) (i j : Fin 128) : shapeCast (s := S128x128) S128x128 (iblk m c 10 t) hc (ix2 i j) = mk i j := by
  pointwise [mask_blk]

theorem dws_A (h0 : t.val % 8 = 0) (h1 : ¬ t.val % 8 = 7) (y : S8x128x128.Idx) : (outsAt0 m c t.val t.isLt).2.2.1 y = k0_pay12 (F := Ideal) y + ∑ b, dwsTerm m c (nblk t b) (y 0) (y 1) (y 2) := by
  rw [outsAt0_A m c t h0 h1]
  frame_open
  simp (disch := decide) only [↓ View.readCov_skip, ↓ View.readCov_cons_toLoadRect, ↓ View.readCov_fill]
  frame_out
  try simp only [read_unread_whole]
  refine (canon_latest [_, _, _, _, _, _, _, _] _ y (View.cover_of_tiled_head _ _ _ rfl y)).trans ?_
  canon_tiles x h
  all_goals
    refine dws_piece m c t _ (by decide) (by decide) _ (by decide) (k0_pay12 (F := Ideal)) ?_ ?_ ?_ ?_ _ _ _ _ _ _ _ x y (by have := (x 0).isLt; omega) (by omega) (by omega)
    · exact mask_flat m c t _
    · exact dy_ext m c t _
    · exact gu_pay _ _ _ (u_blk m c t)
    · exact vn_pay _ _ _ _ _ (v_blk m c t) _ _ (lng_blk m c t) (lnb_blk m c t)

theorem scr_A (h0 : t.val % 8 = 0) (h1 : ¬ t.val % 8 = 7) (y : S8x128x128.Idx) : (outsAt0 m c t.val t.isLt).2.2.2.2.2.2 y = k0_pay11 (F := Ideal) y + ∑ b, dbsTerm m c (nblk t b) (y 0) (y 1) (y 2) := by
  rw [outsAt0_A m c t h0 h1]
  frame_open
  simp (disch := decide) only [↓ View.readCov_skip, ↓ View.readCov_cons_toLoadRect, ↓ View.readCov_fill]
  frame_out
  try simp only [read_unread_whole]
  refine (canon_latest [_, _, _, _, _, _, _, _] _ y (View.cover_of_tiled_head _ _ _ rfl y)).trans ?_
  canon_tiles x h
  all_goals
    refine dbs_piece m c t _ (by decide) (by decide) _ (by decide) (k0_pay11 (F := Ideal)) ?_ ?_ _ _ _ _ _ _ x y (by have := (x 0).isLt; omega) (by omega) (by omega)
    · exact dy_ext m c t _
    · exact gu_pay _ _ _ (u_blk m c t)

theorem dws_pos (h0 : ¬ t.val % 8 = 0) (y : S8x128x128.Idx) : (outsAt0 m c t.val t.isLt).2.2.1 y = (outsAt0 m c (t.val - 1) (Nat.lt_of_le_of_lt (Nat.sub_le _ _) t.isLt)).2.2.1 y + ∑ b, dwsTerm m c (nblk t b) (y 0) (y 1) (y 2) := by
  by_cases h1 : t.val % 8 = 7
  on_goal 1 => rw [outsAt0_C m c t h0 h1]
  on_goal 2 => rw [outsAt0_B m c t h0 h1]
  all_goals
    frame_open
    simp (disch := decide) only [↓ View.readCov_skip, ↓ View.readCov_cons_toLoadRect, ↓ View.readCov_fill]
    frame_out
    try simp only [read_unread_whole]
    refine (canon_latest [_, _, _, _, _, _, _, _] _ y (View.cover_of_tiled_head _ _ _ rfl y)).trans ?_
    canon_tiles x h
    all_goals
      refine dws_piece m c t _ (by decide) (by decide) _ (by decide) ((outsAt0 m c (t.val - 1) (Nat.lt_of_le_of_lt (Nat.sub_le _ _) t.isLt)).2.2.1) ?_ ?_ ?_ ?_ _ _ _ _ _ _ _ x y (by have := (x 0).isLt; omega) (by omega) (by omega)
      · exact mask_flat m c t _
      · exact dy_ext m c t _
      · exact gu_pay _ _ _ (u_blk m c t)
      · exact vn_pay _ _ _ _ _ (v_blk m c t) _ _ (lng_blk m c t) (lnb_blk m c t)

theorem scr_pos (h0 : ¬ t.val % 8 = 0) (y : S8x128x128.Idx) : (outsAt0 m c t.val t.isLt).2.2.2.2.2.2 y = (outsAt0 m c (t.val - 1) (Nat.lt_of_le_of_lt (Nat.sub_le _ _) t.isLt)).2.2.2.2.2.2 y + ∑ b, dbsTerm m c (nblk t b) (y 0) (y 1) (y 2) := by
  by_cases h1 : t.val % 8 = 7
  on_goal 1 => rw [outsAt0_C m c t h0 h1]
  on_goal 2 => rw [outsAt0_B m c t h0 h1]
  all_goals
    frame_open
    simp (disch := decide) only [↓ View.readCov_skip, ↓ View.readCov_cons_toLoadRect, ↓ View.readCov_fill]
    frame_out
    try simp only [read_unread_whole]
    refine (canon_latest [_, _, _, _, _, _, _, _] _ y (View.cover_of_tiled_head _ _ _ rfl y)).trans ?_
    canon_tiles x h
    all_goals
      refine dbs_piece m c t _ (by decide) (by decide) _ (by decide) ((outsAt0 m c (t.val - 1) (Nat.lt_of_le_of_lt (Nat.sub_le _ _) t.isLt)).2.2.2.2.2.2) ?_ ?_ _ _ _ _ _ _ x y (by have := (x 0).isLt; omega) (by omega) (by omega)
      · exact dy_ext m c t _
      · exact gu_pay _ _ _ (u_blk m c t)

/-- The row sums, laid along every lane. -/
theorem lane_tile (V : FVec Ideal S1x128x128 .f32) (dn : S1x128x128.ShapeCasts S128x128) (hr : S128x128.Reduces [1] S128) (col : S128.ShapeCasts S128x1) (same : S128x1.ShapeCasts S128x1)
    (hb : S128x1.Broadcasts S128x128) (up : S128x128.ShapeCasts S1x128x128) (x : S1x128x128.Idx) :
    shapeCast S1x128x128 (broadcastTo S128x128 (shapeCast S128x1 (shapeCast S128x1 (multiReduction (F := Ideal) .add [1] S128 (shapeCast S128x128 V dn) 0x00000000#32 hr (.inl rfl) rfl) col) same) hb) up x
      = ∑ e : Fin 128, V (ix3 0 (x 1) e) := by
  obtain ⟨z, i, j, rfl⟩ : ∃ (z : Fin 1) (i j : Fin 128), x = ix3 z i j := ⟨x 0, x 1, x 2, eq_ix3 x⟩
  pointwise

theorem dbs_C (h0 : ¬ t.val % 8 = 0) (h1 : t.val % 8 = 7) (y : S8x128x128.Idx) :
    (outsAt0 m c t.val t.isLt).2.2.2.1 y = ∑ e, ((outsAt0 m c (t.val - 1) (Nat.lt_of_le_of_lt (Nat.sub_le _ _) t.isLt)).2.2.2.2.2.2 (ix3 (y 0) (y 1) e)
      + ∑ b, dbsTerm m c (nblk t b) (y 0) (y 1) e) := by
  rw [outsAt0_C m c t h0 h1]
  frame_open
  simp (disch := decide) only [↓ View.readCov_skip, ↓ View.readCov_cons_toLoadRect, ↓ View.readCov_fill]
  frame_out
  try simp only [read_unread_whole]
  refine (canon_latest [_, _, _, _, _, _, _, _] _ y (View.cover_of_tiled_head _ _ _ rfl y)).trans ?_
  canon_tiles x h
  all_goals
    refine (lane_tile _ _ _ _ _ _ _ x).trans (Finset.sum_congr rfl fun e _ => ?_)
    refine dbs_piece m c t _ (by decide) (by decide) _ (by decide) ((outsAt0 m c (t.val - 1) (Nat.lt_of_le_of_lt (Nat.sub_le _ _) t.isLt)).2.2.2.2.2.2) ?_ ?_ _ _ _ _ _ _
      (ix3 0 (x 1) e) (ix3 (y 0) (y 1) e) (by have := (x 0).isLt; show (y 0).val = _; omega) (by show (y 1).val = (x 1).val; omega) rfl
    · exact dy_ext m c t _
    · exact gu_pay _ _ _ (u_blk m c t)

end Cert.SguIdeal.Value
-- ==== Proof.Sgu.lean ====
/- The gradient of the spatial gating unit: each of the kernel's six result arrays is the reference's, at real arguments. -/
module

public import proofs.«01_k».proof.Proof.SguAcc

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen Cert.SguFun Cert.SguPay Cert.SguRefIdeal.Read Cert.Reals

variable (m : (ℓ : Loc nD τ sig) → Buf (Elt Ideal) ℓ) (c : Dev nD)

set_option maxHeartbeats 1000000

theorem zero12 (y : S8x128x128.Idx) : k0_pay12 (F := Ideal) y = (0 : EReal) := by
  pointwise [k0_pay12]
theorem zero11 (y : S8x128x128.Idx) : k0_pay11 (F := Ideal) y = (0 : EReal) := by
  pointwise [k0_pay11]

/-- The last point of the grid. -/
abbrev tLast : Fin cfg0.N := ⟨7, by decide⟩

/-- The weight's cotangent, as the last point leaves it. -/
theorem dws_last (y : S8x128x128.Idx) : (outsAt0 m c tLast.val tLast.isLt).2.2.1 y = ∑ n, dwsTerm m c n (y 0) (y 1) (y 2) := by
  refine (Pipeline.eq_sum_fin_of_reset_step_apply_last (fun n h (y : S8x128x128.Idx) => ((outsAt0 m c n h).2.2.1 y : EReal)) 8 (k0_pay12 (F := Ideal))
    (fun t y => ∑ b, dwsTerm m c (nblk t b) (y 0) (y 1) (y 2)) (fun t h0 y => dws_A m c t h0 (by omega) y) (fun t h0 y => dws_pos m c t h0 y) (by decide) tLast rfl y).trans ?_
  rw [zero12]
  exact (zero_add _).trans (Fin.sum_mul_add_congr fun s k hl => rfl)

/-- The bias's accumulator, as the last point leaves it. -/
theorem scr_last (y : S8x128x128.Idx) : (outsAt0 m c tLast.val tLast.isLt).2.2.2.2.2.2 y = ∑ n, dbsTerm m c n (y 0) (y 1) (y 2) := by
  refine (Pipeline.eq_sum_fin_of_reset_step_apply_last (fun n h (y : S8x128x128.Idx) => ((outsAt0 m c n h).2.2.2.2.2.2 y : EReal)) 8 (k0_pay11 (F := Ideal))
    (fun t y => ∑ b, dbsTerm m c (nblk t b) (y 0) (y 1) (y 2)) (fun t h0 y => scr_A m c t h0 (by omega) y) (fun t h0 y => scr_pos m c t h0 y) (by decide) tLast rfl y).trans ?_
  rw [zero11]
  exact (zero_add _).trans (Fin.sum_mul_add_congr fun s k hl => rfl)

/-- The scale's cotangent, as the last point leaves it. -/
theorem dlng_last (d : Fin 1024) : (outsAt0 m c tLast.val tLast.isLt).2.2.2.2.1 (ix2 0 d) = ∑ i, xhat (A1 m c) i d * dvn (A0 m c) (A1 m c) (A4 m c) i d := by
  refine (Pipeline.eq_sum_fin_of_reset_step_apply_last (fun n h (d : Fin 1024) => ((outsAt0 m c n h).2.2.2.2.1 (ix2 0 d) : EReal)) 8 (fun d => k0_pay13 (F := Ideal) (ix2 0 d))
    (fun t d => ∑ r, xhat (A1 m c) (row t r) d * dvn (A0 m c) (A1 m c) (A4 m c) (row t r) d) (fun t h0 d => (dv_A m c t h0 (by omega)).2.1 d) (fun t h0 d => (dv_pos m c t h0).2.1 d)
    (by decide) tLast rfl d).trans ?_
  rw [zero13]
  exact (zero_add _).trans (Fin.sum_mul_add_congr fun s k hl => rfl)

/-- The shift's cotangent, as the last point leaves it. -/
theorem dlnb_last (d : Fin 1024) : (outsAt0 m c tLast.val tLast.isLt).2.2.2.2.2.1 (ix2 0 d) = ∑ i, dvn (A0 m c) (A1 m c) (A4 m c) i d := by
  refine (Pipeline.eq_sum_fin_of_reset_step_apply_last (fun n h (d : Fin 1024) => ((outsAt0 m c n h).2.2.2.2.2.1 (ix2 0 d) : EReal)) 8 (fun d => k0_pay14 (F := Ideal) (ix2 0 d))
    (fun t d => ∑ r, dvn (A0 m c) (A1 m c) (A4 m c) (row t r) d) (fun t h0 d => (dv_A m c t h0 (by omega)).2.2 d) (fun t h0 d => (dv_pos m c t h0).2.2 d)
    (by decide) tLast rfl d).trans ?_
  rw [zero14]
  exact (zero_add _).trans (Fin.sum_mul_add_congr fun s k hl => rfl)

theorem emb11 (t : Fin cfg0.N) (r : Fin 512) (d : Fin 1024) : ((cfg0.win 11).blk t).view.emb (ix2 r d) = ix2 (row t r) d := by
  blk_ext [idx t]

theorem emb12 (t : Fin cfg0.N) (r : Fin 512) (d : Fin 1024) : ((cfg0.win 12).blk t).view.emb (ix2 r d) = ix2 (row t r) d := by
  blk_ext [idx t]

/-- At every point the second result's block holds its rows. -/
theorem dv_point (t : Fin cfg0.N) (r : Fin 512) (d : Fin 1024) : (outsAt0 m c t.val t.isLt).2.1 (ix2 r d)
    = dcen (A0 m c) (A1 m c) (A2 m c) (A4 m c) (row t r) d * gg (v (A1 m c) (row t r) d) := by
  by_cases h0 : t.val % 8 = 0
  · exact (dv_A m c t h0 (by omega)).1 r d
  · exact (dv_pos m c t h0).1 r d

section Real

variable (r0 : ∀ q, IsReal (A0 m c q)) (r1 : ∀ q, IsReal (A1 m c q)) (r2 : ∀ q, IsReal (A2 m c q)) (r3 : ∀ q, IsReal (A3 m c q)) (r4 : ∀ q, IsReal (A4 m c q)) (r5 : ∀ q, IsReal (A5 m c q))

include r0 r1 r2 r3 r4 r5 in
/-- The cotangent of the gated half. -/
theorem whole11 : (dats m 0 c).arrAt 11 cfg0.N
    = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]
  obtain ⟨r, d, rfl⟩ : ∃ (r : Fin 512) (d : Fin 1024), y = ix2 r d := ⟨y 0, y 1, eq_ix2 y⟩
  refine Eq.trans ?_ (congrArg _ (emb11 t r d).symm)
  exact (du_point m c t (ix2 r d)).trans (du_real _ _ _ _ _ _ r0 r1 r2 r3 r4 r5 _ _).symm

include r0 r1 r2 r4 in
/-- The cotangent of the normalised half. -/
theorem whole12 : (dats m 0 c).arrAt 12 cfg0.N
    = val_main_v173 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 12 _ (by decide +kernel) fun t _ y => ?_
  blk_simp
  rw [after0_12]
  obtain ⟨r, d, rfl⟩ : ∃ (r : Fin 512) (d : Fin 1024), y = ix2 r d := ⟨y 0, y 1, eq_ix2 y⟩
  refine Eq.trans ?_ (congrArg _ (emb12 t r d).symm)
  exact (dv_point m c t r d).trans (dv_real _ _ _ _ r0 r1 r2 r4 _ _).symm

end Real

/-- The cotangent of the spatial weight. -/
theorem whole13 : (dats m 0 c).arrAt 13 cfg0.N
    = val_main_v111 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 13 tLast (by decide +kernel) _ fun j => ?_
  blk_simp
  rw [after0_13]
  obtain ⟨g, i, e, rfl⟩ : ∃ (g : Fin 8) (i e : Fin 128), j = ix3 g i e := ⟨j 0, j 1, j 2, eq_ix3 j⟩
  refine (dws_last m c (ix3 g i e)).trans (Eq.trans ?_ (dws_read _ _ _ _ g i e).symm)
  show ∑ n, (∑ c', _) * mk i e = _
  rcases mk_cases i e with h | h <;> rw [h]
  · simp only [mul_zero, Finset.sum_const_zero]
  · simp only [mul_one]; rfl

/-- The cotangent of the spatial bias. -/
theorem whole14 : (dats m 0 c).arrAt 14 cfg0.N
    = val_main_v175 (F := Ideal) (m ((c : Thread nD τ).loc main_arg0)) (m ((c : Thread nD τ).loc main_arg1)) := by
  refine (dats m 0 c).arrAt_eq_of_after_last 14 tLast (by decide +kernel) _ fun j => ?_
  blk_simp
  rw [after0_14]
  obtain ⟨g, i, e, rfl⟩ : ∃ (g : Fin 8) (i e : Fin 128), j = ix3 g i e := ⟨j 0, j 1, j 2, eq_ix3 j⟩
  refine (dbs_C m c tLast (by decide) (by decide) (ix3 g i e)).trans (Eq.trans ?_ (dbs_read _ _ g i e).symm)
  refine (Finset.sum_congr rfl fun k _ => ((scr_pos m c tLast (by decide) (ix3 g i k)).symm.trans (scr_last m c (ix3 g i k)))).trans Finset.sum_comm

/-- The cotangent of the norm's scale. -/
theorem whole15 : (dats m 0 c).arrAt 15 cfg0.N
    = val_main_v176 (F := Ideal) (m ((c : Thread nD τ).loc main_arg0)) (m ((c : Thread nD τ).loc main_arg1)) (m ((c : Thread nD τ).loc main_arg4)) := by
  refine (dats m 0 c).arrAt_eq_of_after_last 15 tLast (by decide +kernel) _ fun j => ?_
  blk_simp
  rw [after0_15]
  obtain ⟨d, rfl⟩ : ∃ d : Fin 1024, j = ix2 0 d := ⟨j 1, (eq_ix2 j).trans (congrArg (ix2 · (j 1)) (Subsingleton.elim (α := Fin 1) _ _))⟩
  exact (dlng_last m c d).trans (dlng_read _ _ _ d).symm

/-- The cotangent of the norm's shift. -/
theorem whole16 : (dats m 0 c).arrAt 16 cfg0.N
    = val_main_v177 (F := Ideal) (m ((c : Thread nD τ).loc main_arg0)) (m ((c : Thread nD τ).loc main_arg1)) (m ((c : Thread nD τ).loc main_arg4)) := by
  refine (dats m 0 c).arrAt_eq_of_after_last 16 tLast (by decide +kernel) _ fun j => ?_
  blk_simp
  rw [after0_16]
  obtain ⟨d, rfl⟩ : ∃ d : Fin 1024, j = ix2 0 d := ⟨j 1, (eq_ix2 j).trans (congrArg (ix2 · (j 1)) (Subsingleton.elim (α := Fin 1) _ _))⟩
  exact (dlnb_last m c d).trans (dlnb_read _ _ _ d).symm

end Cert.SguIdeal.Value

end
-- ==== Proof.SguFwdRef.lean ====
/- The spatial gate: the reference's result and what one grid point's body computes from blocks that hold given rows, both as the functions the
   gate's gradient is stated with. -/
module

public import proofs.«01_k».proof.Proof.Gen.SguFwdIdeal.Skeleton
public import proofs.«01_k».proof.Proof.Gen.SguFwdRefIdeal.Read
public import proofs.«01_k».proof.Proof.SguRef

@[expose] public section

set_option maxRecDepth 16384

noncomputable section

open Idealize.ShloMosaic Idealize.ShloMosaic.TcCoe Idealize.SL.Sem

namespace Cert.SguFwdFun

open Cert.SguFun Cert.Reals

section Reference

open Cert.SguFwdRefIdeal Cert.SguFwdRefIdeal.Read

variable (a1 : FVec Ideal S4096x6656 .bf16) (a2 a3 : FVec Ideal S1024 .f32) (a4 : FVec Ideal S8x128x128 .f32) (a5 : FVec Ideal S8x128 .f32)

theorem gu_read (i : Fin 4096) (d : Fin 1024) : val_main_v21 (F := Ideal) a1 (ix3 0 i d) = gelu (u a1 i d) := by
  pointwise [val_main_v21, val_main_v20, val_main_v19, val_main_cst_3, val_main_v18, val_main_v17, val_main_cst_2, val_main_v16, val_main_v15, val_main_v14, val_main_cst_1, val_main_v13, val_main_v12, val_main_v11, val_main_v10, val_main_v9, val_main_v8, val_main_cst, val_main_cst_0, val_main_v4, val_main_v1, val_main_v0, u]
  rw [div_geluK, ofBits_geluC, ofBits_half, ← gelu_eq, geluT, mul_assoc (geluK : EReal), mul_assoc (geluK : EReal)]

theorem gv_read (i : Fin 4096) (d : Fin 1024) : val_main_v35 (F := Ideal) a1 (ix3 0 i d) = gelu (v a1 i d) := by
  pointwise [val_main_v35, val_main_v34, val_main_v33, val_main_cst_8, val_main_v32, val_main_v31, val_main_cst_7, val_main_v30, val_main_v29, val_main_v28, val_main_cst_6, val_main_v27, val_main_v26, val_main_v25, val_main_v24, val_main_v23, val_main_v22, val_main_cst_4, val_main_cst_5, val_main_v5, val_main_v1, val_main_v0, v]
  rw [div_geluK, ofBits_geluC, ofBits_half, ← gelu_eq, geluT, mul_assoc (geluK : EReal), mul_assoc (geluK : EReal)]

theorem cen_read (i : Fin 4096) (d : Fin 1024) : val_main_v41 (F := Ideal) a1 (ix3 0 i d) = cen a1 i d := by
  pointwise [val_main_v41, val_main_v40, val_main_v39, val_main_v38, val_main_cst_10, val_main_v37, val_main_v36, val_main_cst_9, gv_read, cen]
  rw [ofBits_1024]

theorem vn_read (i : Fin 4096) (d : Fin 1024) : val_main_v57 (F := Ideal) a1 a2 a3 (ix3 0 i d) = vn a1 a2 a3 i d := by
  pointwise [val_main_v57, val_main_v56, val_main_v55, val_main_v54, val_main_v53, val_main_v52, val_main_v51, val_main_v50, val_main_v49, val_main_v48, val_main_v47, val_main_cst_13, val_main_v46, val_main_v45, val_main_cst_12, val_main_v44, val_main_v43, val_main_cst_11, val_main_v42, cen_read]
  rw [ofBits_1024, ofBits_eps]
  rfl

theorem mixed_read (i : Fin 4096) (d : Fin 1024) : val_main_v76 (F := Ideal) a1 a2 a3 a4 a5 (ix3 0 i d) = mixed a1 a2 a3 a4 a5 i d := by
  pointwise [val_main_v76, val_main_v75, val_main_v74, val_main_v73, val_main_v72, val_main_v71, val_main_v70, val_main_v69, val_main_v68, val_main_v67, val_main_v58, vn_read]
  rfl

/-- The reference's result. -/
theorem y_read (i : Fin 4096) (d : Fin 1024) : val_main_v79 (F := Ideal) a1 a2 a3 a4 a5 (ix2 i d) = gelu (u a1 i d) * mixed a1 a2 a3 a4 a5 i d := by
  pointwise [val_main_v79, val_main_v78, val_main_v77, gu_read, mixed_read]

end Reference

section Kernel

open Cert.SguFwdIdeal Cert.SguFwdIdeal.Gen

/-- The cube's coefficient, as the kernel names it. -/
theorem named_k : Named.named (F := Ideal) Cert.SguFwdIdeal.κ "gelu_k" (φ := .f32) 0x3D372713#32 = (geluK : EReal) := by
  refine (IdealRules.named_const.ideal_named_scalar _ _ _ _ rfl).trans ?_
  unfold geluK; norm_num

/-- Two half rows side by side. -/
abbrev halves (p q : Vec Ideal S256x512 .bf16) : FVec Ideal S256x1024 .f32 :=
  extf .f32 (concatenate S256x1024 1 [⟨S256x512, p⟩, ⟨S256x512, q⟩] concatenates_S256x512_S256x512_S256x1024_d1) bitsLt_bf16_f32

theorem gu_pay (p q : Vec Ideal S256x512 .bf16) (f : Fin 256 → Fin 1024 → EReal) (h : ∀ r d, halves p q (ix2 r d) = f r d) (r : Fin 256) (d : Fin 1024) :
    k0_pay1 (F := Ideal) p q (ix2 r d) = gelu (f r d) := by
  unfold k0_pay1
  show mulf (mulf _ (halves p q)) (addf _ (tanh (mulf _ (addf (halves p q) (mulf (mulf (mulf _ (halves p q)) (halves p q)) (halves p q)))))) (ix2 r d) = _
  generalize hx : halves p q = x at *
  pointwise [h]
  rw [named_k, ofBits_half, ofBits_geluC]; rfl

section Norm

variable (p q : Vec Ideal S256x512 .bf16) (a1 : FVec Ideal Cert.SguRefIdeal.S4096x6656 .bf16) (a2 a3 : FVec Ideal Cert.SguRefIdeal.S1024 .f32) (ro : Fin 256 → Fin 4096)
  (h : ∀ r d, halves p q (ix2 r d) = v a1 (ro r) d)

include h

theorem cen_pay (r : Fin 256) (d : Fin 1024) : k0_pay2 (F := Ideal) p q (ix2 r d) = cen a1 (ro r) d := by
  have e : k0_pay2 (F := Ideal) p q = subf (k0_pay1 p q) (broadcastTo S256x1024 (divf (shapeCast S256x1 (multiReduction .add [1] S256 (k0_pay1 p q) 0x00000000#32 reduces_S256x1024_S256 (.inl rfl) rfl) shapeCasts_S256_S256x1)
      (broadcast S256x1 (Scalar.ofBits .f32 0x44800000#32))) broadcasts_S256x1_S256x1024) := rfl
  rw [e]
  pointwise [gu_pay p q _ h]
  rw [ofBits_1024]; rfl

theorem vn_pay (g b : Vec Ideal S1x1024 .f32) (hg : ∀ d, g (ix2 0 d) = a2 (ix1 d)) (hb : ∀ d, b (ix2 0 d) = a3 (ix1 d)) (r : Fin 256) (d : Fin 1024) :
    k0_pay4 (F := Ideal) (k0_pay2 p q) (k0_pay3 p q) g b (ix2 r d) = vn a1 a2 a3 (ro r) d := by
  pointwise [k0_pay4, k0_pay3, cen_pay p q a1 ro h, hg, hb]
  rw [ofBits_1024, ofBits_eps]; rfl

end Norm

end Kernel

end Cert.SguFwdFun
-- ==== Proof.SguFwd.lean ====
/- The spatial gate: the kernel's result array is the reference's. -/
module

public import proofs.«01_k».proof.Proof.SguFwdRef
public import proofs.«01_k».proof.Proof.Gen.SguFwdIdeal.Value
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguFwdIdeal.Value

open Cert.SguFwdIdeal Cert.SguFwdIdeal.Gen Cert.SguFun Cert.SguFwdFun

variable (m : (ℓ : Loc nD τ sig) → Buf (Elt Ideal) ℓ)

/-- Row `r` of point `t`'s block in the whole array. -/
abbrev row (t : Fin cfg0.N) (r : Fin 256) : Fin 4096 := ⟨t.val * 256 + r.val, by have := t.isLt; have : cfg0.N = 16 := rfl; omega⟩

/-- Every window's block index at point `t`. -/
theorem idx : ∀ t : Fin cfg0.N, win0_0.index t = ![t.val, 5] ∧ win0_1.index t = ![t.val, 6] ∧ win0_2.index t = ![t.val, 7]
    ∧ win0_3.index t = ![t.val, 8] ∧ win0_4.index t = ![0, 0] ∧ win0_5.index t = ![0, 0] ∧ win0_6.index t = ![0, 0, 0]
    ∧ win0_7.index t = ![0, 0, 0] ∧ win0_8.index t = ![t.val, 0] :=
  (by decide +kernel : ∀ t : Fin grid0.N, _)

variable (c : Dev nD) (t : Fin cfg0.N)

/-- The arguments, by name. -/
abbrev A1 : FVec Ideal Cert.SguRefIdeal.S4096x6656 .bf16 := m ((c : Thread nD τ).loc main_arg0)
abbrev A2 : FVec Ideal Cert.SguRefIdeal.S1024 .f32 := m ((c : Thread nD τ).loc main_arg1)
abbrev A3 : FVec Ideal Cert.SguRefIdeal.S1024 .f32 := m ((c : Thread nD τ).loc main_arg2)
abbrev A4 : FVec Ideal Cert.SguRefIdeal.S8x128x128 .f32 := m ((c : Thread nD τ).loc main_arg3)
abbrev A5 : FVec Ideal Cert.SguRefIdeal.S8x128 .f32 := m ((c : Thread nD τ).loc main_arg4)

theorem u_blk (r : Fin 256) (d : Fin 1024) : halves (iblk m c 0 t) (iblk m c 1 t) (ix2 r d) = u (A1 m c) (row t r) d := by
  pointwise [halves, u]
  split_ifs <;> first | contradiction | blk_ext [iblk, V, idx t]

theorem v_blk (r : Fin 256) (d : Fin 1024) : halves (iblk m c 2 t) (iblk m c 3 t) (ix2 r d) = v (A1 m c) (row t r) d := by
  pointwise [halves, v]
  split_ifs <;> first | contradiction | blk_ext [iblk, V, idx t]

theorem lng_blk (d : Fin 1024) : iblk m c 4 t (ix2 0 d) = A2 m c (ix1 d) := by
  rw [show iblk m c 4 t (ix2 0 d) = V m c main_v10 (ix2 0 d) by blk_ext [iblk, idx t]]
  simp only [V, List.flatten_cons, List.flatten_nil, List.append_nil, List.cons_append, List.nil_append]
  after_results
  pointwise

theorem lnb_blk (d : Fin 1024) : iblk m c 5 t (ix2 0 d) = A3 m c (ix1 d) := by
  rw [show iblk m c 5 t (ix2 0 d) = V m c main_v11 (ix2 0 d) by blk_ext [iblk, idx t]]
  simp only [V, List.flatten_cons, List.flatten_nil, List.append_nil, List.cons_append, List.nil_append]
  after_results
  pointwise

theorem wm_blk (g : Fin 8) (i j : Fin 128) : iblk m c 6 t (ix3 g i j) = wm (A4 m c) g i j := by
  rw [show iblk m c 6 t (ix3 g i j) = V m c main_v15 (ix3 g i j) by blk_ext [iblk, idx t]]
  simp only [V, List.flatten_cons, List.flatten_nil, List.append_nil, List.cons_append, List.nil_append]
  after_results
  rfl

theorem bias_blk (g : Fin 8) (i j : Fin 128) : iblk m c 7 t (ix3 g i j) = A5 m c (ix2 g i) := by
  rw [show iblk m c 7 t (ix3 g i j) = V m c main_v9 (ix3 g i j) by blk_ext [iblk, idx t]]
  simp only [V, List.flatten_cons, List.flatten_nil, List.append_nil, List.cons_append, List.nil_append]
  after_results
  pointwise

/-- One group's 128 by 128 block, loaded. -/
theorem ld3 {φ : EltTy} (X : Vec Ideal S8x128x128 φ) (g : ℕ) (hg : g < 8) (hr) (hc) (i j : Fin 128) :
    shapeCast S128x128 (View.ld (Val := Elt Ideal) X (Rect.unit ![g, 0, 0] ![1, 128, 128] hr)) hc (ix2 i j) = X (ix3 ⟨g, hg⟩ i j) := by
  have flat : ∀ Y : Vec Ideal S1x128x128 φ, shapeCast S128x128 Y hc (ix2 i j) = Y (ix3 0 i j) := by
    intro Y
    pointwise
  refine (flat (View.ld (Val := Elt Ideal) X (Rect.unit ![g, 0, 0] ![1, 128, 128] hr))).trans (congrArg X ?_)
  funext a
  fin_cases a
  · exact Fin.ext (by show g + 1 * 0 = g; omega)
  · exact Fin.ext (by show 0 + 1 * i.val = i.val; omega)
  · exact Fin.ext (by show 0 + 1 * j.val = j.val; omega)

theorem nb_row (o : ℕ) (ho : o % 128 = 0) (ho' : o + 128 ≤ 256) (i s : Fin 128) :
    nb (row t ⟨o + i.val, by omega⟩) s = row t ⟨o + s.val, by omega⟩ :=
  Fin.ext (by show (t.val * 256 + (o + i.val)) / 128 * 128 + s.val = t.val * 256 + (o + s.val); omega)

theorem lo_row (o : ℕ) (ho : o % 128 = 0) (ho' : o + 128 ≤ 256) (i : Fin 128) : lo (row t ⟨o + i.val, by omega⟩) = i :=
  Fin.ext (by show (t.val * 256 + (o + i.val)) % 128 = i.val; omega)

theorem gr_lane (p : ℕ) (hp : p % 128 = 0) (hp' : p + 128 ≤ 1024) (j : Fin 128) : gr ⟨p + j.val, by omega⟩ = ⟨p / 128, by omega⟩ :=
  Fin.ext (by show (p + j.val) / 128 = p / 128; omega)

/-- One stored tile: the gated half times the mixed rows. -/
theorem y_tile (o p : ℕ) (ho : o % 128 = 0) (ho' : o + 128 ≤ 256) (hp : p % 128 = 0) (hp' : p + 128 ≤ 1024)
    {GU : FVec Ideal S256x1024 .f32} {VN : FVec Ideal S256x1024 .bf16} {W : FVec Ideal S128x128 .bf16} {B : FVec Ideal S128x128 .f32}
    (hGU : ∀ r d, GU (ix2 r d) = gelu (u (A1 m c) (row t r) d))
    (hVN : ∀ r d, VN (ix2 r d) = vn (A1 m c) (A2 m c) (A3 m c) (row t r) d) (hW : ∀ i j, W (ix2 i j) = wm (A4 m c) ⟨p / 128, by omega⟩ i j)
    (hB : ∀ i j, B (ix2 i j) = A5 m c (ix2 ⟨p / 128, by omega⟩ i)) (hs : S256x1024.Slices ![o, p] S128x128) (hb : FTy.bits .bf16 < FTy.bits .f32)
    (x : S128x128.Idx) (y : S256x1024.Idx) (h0 : (y 0).val = o + (x 0).val) (h1 : (y 1).val = p + (x 1).val) :
    truncf (F := Ideal) .bf16 (mulf (extractStridedSlice S128x128 ![o, p] GU hs)
      (addf (matmul (sl := S128x128) dot_S128x128_S128x128_S128x128_1_0_0_1_n_n none W
          (extractStridedSlice S128x128 ![o, p] VN hs) (constant S128x128 .f32 0#32)) B)) hb x
    = gelu (u (A1 m c) (row t (y 0)) (y 1)) * mixed (A1 m c) (A2 m c) (A3 m c) (A4 m c) (A5 m c) (row t (y 0)) (y 1) := by
  obtain ⟨i, j, rfl⟩ : ∃ (i j : Fin 128), x = ix2 i j := ⟨x 0, x 1, eq_ix2 x⟩
  have e0 : y 0 = (⟨o + i.val, by omega⟩ : Fin 256) := Fin.ext h0
  have e1 : y 1 = (⟨p + j.val, by omega⟩ : Fin 1024) := Fin.ext h1
  pointwise [hGU, hVN, hW, hB]
  rw [e0, e1]
  unfold mixed
  rw [gr_lane p hp hp' j, lo_row t o ho ho' i]
  simp only [nb_row t o ho ho' i]
  refine congrArg (_ * ·) (congrArg (· + _) (Finset.sum_congr rfl fun s _ => ?_))
  show @Eq EReal _ _
  exact mul_comm _ _

set_option maxHeartbeats 2000000

theorem y_point (y : S256x1024.Idx) :
    out0_8 (iblk m c 0 t) (iblk m c 1 t) (iblk m c 2 t) (iblk m c 3 t) (iblk m c 4 t) (iblk m c 5 t) (iblk m c 6 t) (iblk m c 7 t) y
      = gelu (u (A1 m c) (row t (y 0)) (y 1)) * mixed (A1 m c) (A2 m c) (A3 m c) (A4 m c) (A5 m c) (row t (y 0)) (y 1) := by
  have hz : ∀ {φ : EltTy} (x : Vec Ideal S256x512 φ), View.ld (Val := Elt Ideal) x r0_0 = x := fun x => View.ld_unit_zero (by decide) _ x
  have hw : ∀ {φ : EltTy} (x : Vec Ideal S1x1024 φ), View.ld (Val := Elt Ideal) x r0_1 = x := fun x => View.ld_unit_zero (by decide) _ x
  have hU : ∀ r d, k0_pay25 (iblk m c 0 t) (iblk m c 1 t) (iblk m c 2 t) (iblk m c 3 t) (iblk m c 4 t) (iblk m c 5 t) (iblk m c 6 t) (iblk m c 7 t) (ix2 r d) = gelu (u (A1 m c) (row t r) d) := by
    unfold k0_pay25
    rw [hz, hz]
    exact gu_pay _ _ _ (u_blk m c t)
  have hN : ∀ r d, k0_pay28 (iblk m c 0 t) (iblk m c 1 t) (iblk m c 2 t) (iblk m c 3 t) (iblk m c 4 t) (iblk m c 5 t) (iblk m c 6 t) (iblk m c 7 t) (ix2 r d) = vn (A1 m c) (A2 m c) (A3 m c) (row t r) d := by
    unfold k0_pay28 k0_pay27 k0_pay26
    rw [hz, hz, hw, hw]
    exact vn_pay _ _ _ _ _ (row t) (v_blk m c t) _ _ (lng_blk m c t) (lnb_blk m c t)
  unfold out0_8
  unfold k0_pay28 at hN ⊢
  generalize k0_pay25 (iblk m c 0 t) (iblk m c 1 t) (iblk m c 2 t) (iblk m c 3 t) (iblk m c 4 t) (iblk m c 5 t) (iblk m c 6 t) (iblk m c 7 t) = GU at hU ⊢
  generalize k0_pay26 (iblk m c 0 t) (iblk m c 1 t) (iblk m c 2 t) (iblk m c 3 t) (iblk m c 4 t) (iblk m c 5 t) (iblk m c 6 t) (iblk m c 7 t) = P at hN ⊢
  generalize k0_pay27 (iblk m c 0 t) (iblk m c 1 t) (iblk m c 2 t) (iblk m c 3 t) (iblk m c 4 t) (iblk m c 5 t) (iblk m c 6 t) (iblk m c 7 t) = Q at hN ⊢
  have hW := wm_blk m c t
  have hB := bias_blk m c t
  generalize iblk m c 6 t = W at hW ⊢
  generalize iblk m c 7 t = B at hB ⊢
  generalize View.ld (Val := Elt Ideal) (iblk m c 4 t) r0_1 = G at hN ⊢
  generalize View.ld (Val := Elt Ideal) (iblk m c 5 t) r0_1 = H at hN ⊢
  canon_tiles x h
  all_goals
    refine y_tile m c t _ _ (by decide) (by decide) (by decide) (by decide) hU hN ?_ ?_ _ _ x y (by omega) (by omega)
    · exact fun i j => (ld3 W _ (by decide) _ _ i j).trans (hW _ i j)
    · exact fun i j => (ld3 B _ (by decide) _ _ i j).trans (hB _ i j)

theorem emb8 (r : Fin 256) (d : Fin 1024) : ((cfg0.win 8).blk t).view.emb (ix2 r d) = ix2 (row t r) d := by
  blk_ext [idx t]

/-- The gated rows. -/
theorem whole8 : (dats m 0 c).arrAt 8 cfg0.N
    = Cert.SguFwdRefIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  obtain ⟨r, d, rfl⟩ : ∃ (r : Fin 256) (d : Fin 1024), y = ix2 r d := ⟨y 0, y 1, eq_ix2 y⟩
  refine Eq.trans ?_ (congrArg _ (emb8 t r d).symm)
  exact (y_point m c t (ix2 r d)).trans (y_read _ _ _ _ _ _ _).symm

end Cert.SguFwdIdeal.Value

end
-- ==== Proof.NormPre.lean ====
/- What the precondition says of the projected norm's arguments: every element of all but the residual's cotangent is a real number. -/
module

public import proofs.«01_k».proof.Proof.Gen.Pre_norm_finite
public import proofs.«01_k».proof.Proof.SguPre

@[expose] public section

set_option maxRecDepth 16384

noncomputable section

open Idealize.ShloMosaic Idealize.ShloMosaic.TcCoe Idealize.SL.Sem

namespace Cert.Pre_norm_finite

open Cert.Reals

theorem real (a0 : FVec Ideal S4096x1280 .bf16) (a1 : FVec Ideal S4096x1280 .bf16) (a2 : FVec Ideal S4096x1024 .bf16) (a3 : FVec Ideal S4096x1024 .bf16) (a4 : FVec Ideal S4096x1024 .bf16) (a5 : FVec Ideal S4096x1024 .bf16) (a6 : FVec Ideal S1024x6656 .bf16) (a7 : FVec Ideal S4096x1024 .f32) (a8 : FVec Ideal S1024 .f32) (a9 : FVec Ideal S4096x1024 .f32)
    (h : fn (F := Ideal) a0 a1 a2 a3 a4 a5 a6 a7 a8 a9 = fun _ => 1#1) :
    (∀ q, IsReal (a0 q)) ∧ (∀ q, IsReal (a1 q)) ∧ (∀ q, IsReal (a2 q)) ∧ (∀ q, IsReal (a3 q)) ∧ (∀ q, IsReal (a4 q)) ∧ (∀ q, IsReal (a5 q)) ∧ (∀ q, IsReal (a6 q)) ∧ (∀ q, IsReal (a7 q)) ∧ (∀ q, IsReal (a8 q)) := by
  have e := congrFun h (fun a => a.elim0)
  simp only [fn, fn_part1, fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  exact ⟨isReal_of_all _ _ _ _ _ _ e0, isReal_of_all _ _ _ _ _ _ e1, isReal_of_all _ _ _ _ _ _ e2, isReal_of_all _ _ _ _ _ _ e3, isReal_of_all _ _ _ _ _ _ e4, isReal_of_all _ _ _ _ _ _ e5, isReal_of_all _ _ _ _ _ _ e6, isReal_of_all _ _ _ _ _ _ e7, isReal_of_all _ _ _ _ _ _ e8⟩

end Cert.Pre_norm_finite

end
-- ==== Proof.Rms.lean ====
/- The root-mean-square norm of a row of 1024: its scale, and its gradient at real rows, whether the row's mean is taken at once or the square mean
   and the root are differentiated in turn. -/
module

public import proofs.«01_k».proof.Proof.Reals

@[expose] public section

noncomputable section

open Idealize.ShloMosaic

namespace Cert.Rms

open Cert.Reals

variable (x e : Fin 1024 → EReal)

/-- The row's mean square with the small constant. -/
def ms : EReal := Ideal.div (∑ j, x j * x j) ((1024 : ℝ) : EReal) + (eps : EReal)

/-- The row's scale. -/
def rs : EReal := Ideal.rsqrt (ms x)

/-- The normed row. -/
def xhat (i : Fin 1024) : EReal := x i * rs x

/-- The gradient of the norm at cotangent `e` of the normed row, the mean taken at once. -/
def grad (i : Fin 1024) : EReal := rs x * (e i - xhat x i * Ideal.div (∑ j, e j * xhat x j) ((1024 : ℝ) : EReal))

/-- The scale's share of the gradient, per element and occurrence. -/
def share : EReal := Ideal.div ((∑ j, x j * e j) * (((-1 / 2 : ℝ) : EReal) * Ideal.div (rs x) (ms x))) ((1024 : ℝ) : EReal)

variable {x e}

theorem ms_pos (hx : ∀ j, IsReal (x j)) : ∃ v : ℝ, 0 < v ∧ ms x = (v : EReal) := by
  choose f hf using hx
  refine ⟨(∑ j, f j * f j) * (1 / 1024) + eps, ?_, ?_⟩
  · have : 0 ≤ ∑ j, f j * f j := Finset.sum_nonneg fun j _ => mul_self_nonneg _
    have := eps_pos
    positivity
  · unfold ms
    simp only [hf, ← EReal.coe_mul]
    rw [← coe_sum, Ideal.div_coe (by norm_num), ← EReal.coe_mul, ← EReal.coe_add]

theorem isReal_rs (hx : ∀ j, IsReal (x j)) : IsReal (rs x) := by
  obtain ⟨v, hv, h⟩ := ms_pos hx
  rw [rs, h, Ideal.rsqrt_coe, if_neg (not_lt.mpr hv.le), if_neg hv.ne']
  exact isReal_coe _

theorem isReal_xhat (hx : ∀ j, IsReal (x j)) (i : Fin 1024) : IsReal (xhat x i) := (hx i).mul (isReal_rs hx)

theorem grad_real (x e : Fin 1024 → ℝ) (s r : ℝ) (hs : s ≠ 0) (hr : r * r * s = 1) (i : Fin 1024) :
    r * (e i - x i * r * ((∑ j, e j * (x j * r)) * (1 / 1024)))
      = e i * r + (x i * ((∑ j, x j * e j) * (-1 / 2 * (r * (1 / s))) * (1 / 1024)) + ((∑ j, x j * e j) * (-1 / 2 * (r * (1 / s))) * (1 / 1024)) * x i) := by
  have hd : ∑ j, e j * (x j * r) = (∑ j, x j * e j) * r := by
    rw [Finset.sum_mul]; exact Finset.sum_congr rfl fun j _ => by ring
  have hs' : 1 / s = r * r := by field_simp; linarith
  rw [hd, hs']
  ring

/-- The two forms of the gradient agree at real rows and real cotangents. -/
theorem grad_eq (hx : ∀ j, IsReal (x j)) (he : ∀ j, IsReal (e j)) (i : Fin 1024) :
    grad x e i = e i * rs x + (x i * share x e + share x e * x i) := by
  obtain ⟨v, hv, h⟩ := ms_pos hx
  have hroot : rs x = (((Real.sqrt v)⁻¹ : ℝ) : EReal) := by
    rw [rs, h, Ideal.rsqrt_coe, if_neg (not_lt.mpr hv.le), if_neg hv.ne']
  have hrr : (Real.sqrt v)⁻¹ * (Real.sqrt v)⁻¹ * v = 1 := by
    have := Real.mul_self_sqrt hv.le
    have h0 : Real.sqrt v ≠ 0 := (Real.sqrt_pos.mpr hv).ne'
    field_simp; nlinarith
  unfold grad share xhat
  rw [hroot, h]
  choose x' hx' using hx
  choose e' he' using he
  simp only [hx', he', Ideal.div_coe hv.ne', Ideal.div_coe (show (1024 : ℝ) ≠ 0 by norm_num), ← EReal.coe_mul, ← EReal.coe_add, ← EReal.coe_sub, ← coe_sum]
  exact congrArg _ (grad_real x' e' v _ hv.ne' hrr i)

end Cert.Rms

end
-- ==== Proof.NormRef.lean ====
/- The gradient of the projected norm: the functions of the arguments that both programs compute, and the reference's intermediate arrays read as
   them. -/
module

public import proofs.«01_k».proof.Proof.Gen.NormRefIdeal.Read
public import proofs.«01_k».proof.Proof.Rms
public import proofs.«01_k».proof.Proof.SguRef
public import Idealize.ShloMosaic.Lib.Pipeline.ValueKit

@[expose] public section

set_option maxRecDepth 16384

noncomputable section

open Idealize.ShloMosaic Idealize.ShloMosaic.TcCoe Idealize.SL.Sem

namespace Cert.NormFun

open Cert.NormRefIdeal Cert.NormRefIdeal.Read Cert.Reals

variable (b0 b1 : FVec Ideal S4096x1280 .bf16) (b2 b3 b4 b5 : FVec Ideal S4096x1024 .bf16) (w : FVec Ideal S1024x6656 .bf16)
  (x : FVec Ideal S4096x1024 .f32) (g : FVec Ideal S1024 .f32) (r : FVec Ideal S4096x1024 .f32)

/-- A sum over the 6656 columns of the projection is the sum over its six parts in turn. -/
theorem sum_parts (f : Fin 6656 → EReal) : ∑ k, f k
    = ((((∑ k : Fin 1280, f ⟨k.val, by omega⟩ + ∑ k : Fin 1280, f ⟨1280 + k.val, by omega⟩) + ∑ k : Fin 1024, f ⟨2560 + k.val, by omega⟩)
        + ∑ k : Fin 1024, f ⟨3584 + k.val, by omega⟩) + ∑ k : Fin 1024, f ⟨4608 + k.val, by omega⟩) + ∑ k : Fin 1024, f ⟨5632 + k.val, by omega⟩ := by
  refine (Fin.sum_univ_add (a := 5632) (b := 1024) f).trans (congrArg (· + _) ?_)
  refine (Fin.sum_univ_add (a := 4608) (b := 1024) _).trans (congrArg (· + _) ?_)
  refine (Fin.sum_univ_add (a := 3584) (b := 1024) _).trans (congrArg (· + _) ?_)
  refine (Fin.sum_univ_add (a := 2560) (b := 1024) _).trans (congrArg (· + _) ?_)
  exact Fin.sum_univ_add (a := 1280) (b := 1280) _

/-- The normed row's cotangent: the six parts' cotangents through the projection. -/
def dh (i : Fin 4096) (d : Fin 1024) : EReal :=
  ((((∑ k : Fin 1280, b0 (ix2 i k) * w (ix2 d ⟨k.val, by omega⟩) + ∑ k : Fin 1280, b1 (ix2 i k) * w (ix2 d ⟨1280 + k.val, by omega⟩))
      + ∑ k : Fin 1024, b2 (ix2 i k) * w (ix2 d ⟨2560 + k.val, by omega⟩)) + ∑ k : Fin 1024, b3 (ix2 i k) * w (ix2 d ⟨3584 + k.val, by omega⟩))
      + ∑ k : Fin 1024, b4 (ix2 i k) * w (ix2 d ⟨4608 + k.val, by omega⟩)) + ∑ k : Fin 1024, b5 (ix2 i k) * w (ix2 d ⟨5632 + k.val, by omega⟩)

/-- A row of the input. -/
abbrev xr (i : Fin 4096) : Fin 1024 → EReal := fun j => x (ix2 i j)

/-- The cotangent of the row's normed elements before the gain. -/
abbrev dxh (i : Fin 4096) : Fin 1024 → EReal := fun j => dh b0 b1 b2 b3 b4 b5 w i j * g (ix1 j)

/-! The six parts' cotangents side by side, read at a column of each part. -/

theorem cat0 (i : Fin 4096) (k : Fin 1280) : val_main_v12 (F := Ideal) b0 b1 b2 b3 b4 b5 (ix3 0 i ⟨k.val, by omega⟩) = b0 (ix2 i k) := by
  have := k.isLt
  pointwise [val_main_v12, val_main_v1, val_main_v0]

theorem cat1 (i : Fin 4096) (k : Fin 1280) : val_main_v12 (F := Ideal) b0 b1 b2 b3 b4 b5 (ix3 0 i ⟨1280 + k.val, by omega⟩) = b1 (ix2 i k) := by
  have := k.isLt
  pointwise [val_main_v12, val_main_v3, val_main_v2]

theorem cat2 (i : Fin 4096) (k : Fin 1024) : val_main_v12 (F := Ideal) b0 b1 b2 b3 b4 b5 (ix3 0 i ⟨2560 + k.val, by omega⟩) = b2 (ix2 i k) := by
  have := k.isLt
  pointwise [val_main_v12, val_main_v5, val_main_v4]
  rw [dif_neg (by omega), dif_neg (by omega), dif_pos (by omega)]
  exact congrArg (fun q => b2 (ix2 i q)) (Fin.ext (by simp only []; omega))

theorem cat3 (i : Fin 4096) (k : Fin 1024) : val_main_v12 (F := Ideal) b0 b1 b2 b3 b4 b5 (ix3 0 i ⟨3584 + k.val, by omega⟩) = b3 (ix2 i k) := by
  have := k.isLt
  pointwise [val_main_v12, val_main_v7, val_main_v6]
  rw [dif_neg (by omega), dif_neg (by omega), dif_neg (by omega), dif_pos (by omega)]
  exact congrArg (fun q => b3 (ix2 i q)) (Fin.ext (by simp only []; omega))

theorem cat4 (i : Fin 4096) (k : Fin 1024) : val_main_v12 (F := Ideal) b0 b1 b2 b3 b4 b5 (ix3 0 i ⟨4608 + k.val, by omega⟩) = b4 (ix2 i k) := by
  have := k.isLt
  pointwise [val_main_v12, val_main_v9, val_main_v8]
  rw [dif_neg (by omega), dif_neg (by omega), dif_neg (by omega), dif_neg (by omega), dif_pos (by omega)]
  exact congrArg (fun q => b4 (ix2 i q)) (Fin.ext (by simp only []; omega))

theorem cat5 (i : Fin 4096) (k : Fin 1024) : val_main_v12 (F := Ideal) b0 b1 b2 b3 b4 b5 (ix3 0 i ⟨5632 + k.val, by omega⟩) = b5 (ix2 i k) := by
  have := k.isLt
  pointwise [val_main_v12, val_main_v11, val_main_v10]
  rw [dif_neg (by omega), dif_neg (by omega), dif_neg (by omega), dif_neg (by omega), dif_neg (by omega)]
  exact congrArg (fun q => b5 (ix2 i q)) (Fin.ext (by simp only []; omega))

theorem dh_read (i : Fin 4096) (d : Fin 1024) : val_main_v33 (F := Ideal) b0 b1 b2 b3 b4 b5 w (ix3 0 i d) = dh b0 b1 b2 b3 b4 b5 w i d := by
  rw [val_main_v33_apply]
  refine Eq.trans (b := ∑ k : Fin 6656, val_main_v12 (F := Ideal) b0 b1 b2 b3 b4 b5 (ix3 0 i k) * w (ix2 d k)) (Finset.sum_congr rfl fun k _ => ?_) ?_
  · refine congrArg₂ (· * ·) (congrArg _ ?_) ?_
    · funext a; match a with | ⟨0, _⟩ => rfl | ⟨1, _⟩ => rfl | ⟨2, _⟩ => rfl
    · pointwise [val_main_v30]; exact congrArg w (funext fun a => match a with | ⟨0, _⟩ => rfl | ⟨1, _⟩ => rfl)
  rw [sum_parts]
  simp only [cat0, cat1, cat2, cat3, cat4, cat5]
  rfl

theorem ms_read (i : Fin 4096) : val_main_v20 (F := Ideal) x (ix3 0 i 0) = Rms.ms (xr x i) := by
  pointwise [val_main_v20, val_main_v19, val_main_cst_1, val_main_v18, val_main_v17, val_main_cst_0, val_main_v16, val_main_v15, val_main_cst, val_main_v14, val_main_v13, Rms.ms]
  rw [ofBits_1024, ofBits_eps]

theorem rs_read (i : Fin 4096) : val_main_v21 (F := Ideal) x (ix3 0 i 0) = Rms.rs (xr x i) := by
  pointwise [val_main_v21, ms_read, Rms.rs]

theorem xhat_read (i : Fin 4096) (d : Fin 1024) : val_main_v26 (F := Ideal) x (ix3 0 i d) = Rms.xhat (xr x i) d := by
  pointwise [val_main_v26, val_main_v25, val_main_v13, rs_read, Rms.xhat]

theorem dxh_read (i : Fin 4096) (d : Fin 1024) : val_main_v38 (F := Ideal) b0 b1 b2 b3 b4 b5 w g (ix3 0 i d) = dxh b0 b1 b2 b3 b4 b5 w g i d := by
  pointwise [val_main_v38, val_main_v37, val_main_v27, dh_read]

/-- The gain's cotangent. -/
theorem dg_read (d : Fin 1024) : val_main_v59 (F := Ideal) b0 b1 b2 b3 b4 b5 w x (ix2 0 d) = ∑ i, Rms.xhat (xr x i) d * dh b0 b1 b2 b3 b4 b5 w i d := by
  pointwise [val_main_v59, val_main_v39, val_main_cst_4]
  refine (Cert.SguFun.red01 _ d).trans ?_
  pointwise [val_main_v36, val_main_v35, val_main_cst_3, val_main_v34, xhat_read, dh_read]

theorem share_read (i : Fin 4096) : val_main_v49 (F := Ideal) b0 b1 b2 b3 b4 b5 w x g (ix1 i) = Rms.share (xr x i) (dxh b0 b1 b2 b3 b4 b5 w g i) := by
  pointwise [val_main_v49, val_main_cst_7]
  refine (Cert.SguFun.red02 _ i).trans ?_
  pointwise [val_main_v48, val_main_v47, val_main_cst_6, val_main_v46, val_main_v42, val_main_v41, val_main_cst_5, val_main_v40, val_main_v24, val_main_v23, val_main_cst_2, val_main_v22, val_main_v13, rs_read, ms_read, dxh_read, Rms.share]
  rw [ofBits_neg_half, ofBits_1024]

theorem dx_read (i : Fin 4096) (d : Fin 1024) : val_main_v55 (F := Ideal) b0 b1 b2 b3 b4 b5 w x g r (ix3 0 i d)
    = r (ix2 i d) + (dxh b0 b1 b2 b3 b4 b5 w g i d * Rms.rs (xr x i) + (x (ix2 i d) * Rms.share (xr x i) (dxh b0 b1 b2 b3 b4 b5 w g i)
        + Rms.share (xr x i) (dxh b0 b1 b2 b3 b4 b5 w g i) * x (ix2 i d))) := by
  pointwise [val_main_v55, val_main_v54, val_main_v53, val_main_v52, val_main_v51, val_main_v50, val_main_v45, val_main_v44, val_main_v43, val_main_v32, val_main_v13, rs_read, dxh_read, share_read]
  rw [add_assoc, add_assoc]

section Real

variable (h0 : ∀ q, IsReal (b0 q)) (h1 : ∀ q, IsReal (b1 q)) (h2 : ∀ q, IsReal (b2 q)) (h3 : ∀ q, IsReal (b3 q)) (h4 : ∀ q, IsReal (b4 q)) (h5 : ∀ q, IsReal (b5 q))
  (hw : ∀ q, IsReal (w q)) (hx : ∀ q, IsReal (x q)) (hg : ∀ q, IsReal (g q))

include h0 h1 h2 h3 h4 h5 hw in
theorem isReal_dh (i : Fin 4096) (d : Fin 1024) : IsReal (dh b0 b1 b2 b3 b4 b5 w i d) :=
  (((((isReal_sum _ _ fun _ => (h0 _).mul (hw _)).add (isReal_sum _ _ fun _ => (h1 _).mul (hw _))).add (isReal_sum _ _ fun _ => (h2 _).mul (hw _))).add
    (isReal_sum _ _ fun _ => (h3 _).mul (hw _))).add (isReal_sum _ _ fun _ => (h4 _).mul (hw _))).add (isReal_sum _ _ fun _ => (h5 _).mul (hw _))

include h0 h1 h2 h3 h4 h5 hw hx hg in
/-- The input's cotangent at real arguments, whatever the residual's. -/
theorem dx_real (i : Fin 4096) (d : Fin 1024) : val_main_v55 (F := Ideal) b0 b1 b2 b3 b4 b5 w x g r (ix3 0 i d)
    = r (ix2 i d) + Rms.grad (xr x i) (dxh b0 b1 b2 b3 b4 b5 w g i) d := by
  rw [dx_read, Rms.grad_eq (fun j => hx _) (fun j => (isReal_dh b0 b1 b2 b3 b4 b5 w h0 h1 h2 h3 h4 h5 hw i j).mul (hg _))]

end Real

end Cert.NormFun
-- ==== Proof.Norm.lean ====
/- The gradient of the projected norm: what one grid point's body computes from its blocks, and each of the kernel's three result arrays as the
   reference's. -/
module

public import proofs.«01_k».proof.Proof.Gen.NormIdeal.Value
public import proofs.«01_k».proof.Proof.NormRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen Cert.NormFun Cert.NormRefIdeal.Read Cert.Reals

variable (m : (ℓ : Loc nD τ sig) → Buf (Elt Ideal) ℓ)

/-- Row `r` of point `t`'s block in the whole array. -/
abbrev row (t : Fin cfg0.N) (r : Fin 512) : Fin 4096 := ⟨t.val * 512 + r.val, by have := t.isLt; have : cfg0.N = 8 := rfl; omega⟩

/-- Every window's block index at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0]
    ∧ win0_10.index t = ![t.val, 0] ∧ win0_11.index t = ![t.val, 0] ∧ win0_12.index t = ![0, 0] :=
  (by decide +kernel : ∀ t : Fin grid0.N, _)

abbrev B0 (c : Dev nD) : FVec Ideal S4096x1280 .bf16 := m ((c : Thread nD τ).loc main_arg0)
abbrev B1 (c : Dev nD) : FVec Ideal S4096x1280 .bf16 := m ((c : Thread nD τ).loc main_arg1)
abbrev B2 (c : Dev nD) : FVec Ideal S4096x1024 .bf16 := m ((c : Thread nD τ).loc main_arg2)
abbrev B3 (c : Dev nD) : FVec Ideal S4096x1024 .bf16 := m ((c : Thread nD τ).loc main_arg3)
abbrev B4 (c : Dev nD) : FVec Ideal S4096x1024 .bf16 := m ((c : Thread nD τ).loc main_arg4)
abbrev B5 (c : Dev nD) : FVec Ideal S4096x1024 .bf16 := m ((c : Thread nD τ).loc main_arg5)
abbrev W (c : Dev nD) : FVec Ideal S1024x6656 .bf16 := m ((c : Thread nD τ).loc main_arg6)
abbrev X (c : Dev nD) : FVec Ideal S4096x1024 .f32 := m ((c : Thread nD τ).loc main_arg7)
abbrev G (c : Dev nD) : FVec Ideal S1024 .f32 := m ((c : Thread nD τ).loc main_arg8)
abbrev R (c : Dev nD) : FVec Ideal S4096x1024 .f32 := m ((c : Thread nD τ).loc main_arg9)

variable (c : Dev nD) (t : Fin cfg0.N)

theorem w_blk (e : Fin 6656) (d : Fin 1024) : iblk m c 6 t (ix2 e d) = W m c (ix2 d e) := by
  rw [show iblk m c 6 t (ix2 e d) = V m c main_v0 (ix2 e d) by blk_ext [iblk, idx t]]
  entry_read
  pointwise

theorem g_blk (z : Fin 1) (d : Fin 1024) : iblk m c 8 t (ix2 z d) = G m c (ix1 d) := by
  rw [show iblk m c 8 t (ix2 z d) = V m c main_v1 (ix2 z d) by blk_ext [iblk, idx t]]
  entry_read
  pointwise

theorem b0_blk (r : Fin 512) (k : Fin 1280) : iblk m c 0 t (ix2 r k) = B0 m c (ix2 (row t r) k) := by blk_ext [iblk, V, idx t]
theorem b1_blk (r : Fin 512) (k : Fin 1280) : iblk m c 1 t (ix2 r k) = B1 m c (ix2 (row t r) k) := by blk_ext [iblk, V, idx t]
theorem b2_blk (r : Fin 512) (k : Fin 1024) : iblk m c 2 t (ix2 r k) = B2 m c (ix2 (row t r) k) := by blk_ext [iblk, V, idx t]
theorem b3_blk (r : Fin 512) (k : Fin 1024) : iblk m c 3 t (ix2 r k) = B3 m c (ix2 (row t r) k) := by blk_ext [iblk, V, idx t]
theorem b4_blk (r : Fin 512) (k : Fin 1024) : iblk m c 4 t (ix2 r k) = B4 m c (ix2 (row t r) k) := by blk_ext [iblk, V, idx t]
theorem b5_blk (r : Fin 512) (k : Fin 1024) : iblk m c 5 t (ix2 r k) = B5 m c (ix2 (row t r) k) := by blk_ext [iblk, V, idx t]

theorem x_blk (r : Fin 512) (k : Fin 1024) : iblk m c 7 t (ix2 r k) = X m c (ix2 (row t r) k) := by blk_ext [iblk, V, idx t]

theorem res_blk (r : Fin 512) (k : Fin 1024) : iblk m c 9 t (ix2 r k) = R m c (ix2 (row t r) k) := by blk_ext [iblk, V, idx t]

/-- The five first parts' cotangents through the weight's rows, at the body's loads. -/
abbrev dh5 := (k0_pay3 (iblk m c 0 t) (View.ld (iblk m c 6 t) (Rect.unit ![0, 0] ![1280, 1024] inb_S6656x1024_S1280x1024_0_0)) (iblk m c 1 t) (View.ld (iblk m c 6 t) (Rect.unit ![1280, 0] ![1280, 1024] inb_S6656x1024_S1280x1024_1280_0)) (iblk m c 2 t) (View.ld (iblk m c 6 t) (Rect.unit ![2560, 0] ![1024, 1024] inb_S6656x1024_S1024x1024_2560_0)) (iblk m c 3 t) (View.ld (iblk m c 6 t) (Rect.unit ![3584, 0] ![1024, 1024] inb_S6656x1024_S1024x1024_3584_0)) (iblk m c 4 t) (View.ld (iblk m c 6 t) (Rect.unit ![4608, 0] ![1024, 1024] inb_S6656x1024_S1024x1024_4608_0)))

/-- The last part's rows of the weight. -/
abbrev w5 := (View.ld (iblk m c 6 t) (Rect.unit ![5632, 0] ![1024, 1024] inb_S6656x1024_S1024x1024_5632_0))

theorem dh_blk (r : Fin 512) (d : Fin 1024) : k0_pay4 (F := Ideal) (dh5 m c t) (iblk m c 5 t) (w5 m c t) (ix2 r d)
    = dh (B0 m c) (B1 m c) (B2 m c) (B3 m c) (B4 m c) (B5 m c) (W m c) (row t r) d := by
  pointwise [k0_pay4, k0_pay3, w5, dh, b0_blk, b1_blk, b2_blk, b3_blk, b4_blk, b5_blk, w_blk]

theorem rs_blk (r : Fin 512) : k0_pay5 (F := Ideal) (iblk m c 7 t) (ix2 r 0) = Rms.rs (xr (X m c) (row t r)) := by
  pointwise [k0_pay5, Rms.rs, Rms.ms, x_blk]
  rw [ofBits_1024, ofBits_eps]

theorem xhat_blk (r : Fin 512) (d : Fin 1024) : k0_pay6 (F := Ideal) (iblk m c 7 t) (ix2 r d) = Rms.xhat (xr (X m c) (row t r)) d := by
  pointwise [k0_pay6, rs_blk, x_blk, Rms.xhat]

/-- The block's share of the input's cotangent. -/
theorem dx_blk (r : Fin 512) (d : Fin 1024) : k0_pay7 (F := Ideal) (dh5 m c t) (iblk m c 5 t) (w5 m c t) (iblk m c 7 t) (iblk m c 8 t) (iblk m c 9 t) (ix2 r d)
    = R m c (ix2 (row t r) d) + Rms.grad (xr (X m c) (row t r)) (dxh (B0 m c) (B1 m c) (B2 m c) (B3 m c) (B4 m c) (B5 m c) (W m c) (G m c) (row t r)) d := by
  pointwise [k0_pay7, dh_blk, xhat_blk, rs_blk, g_blk, res_blk, Rms.grad, ofBits_1024]

/-- The block's share of the gain's cotangent. -/
theorem dg_blk (d : Fin 1024) : k0_pay10 (F := Ideal) (dh5 m c t) (iblk m c 5 t) (w5 m c t) (iblk m c 7 t) (ix1 d)
    = ∑ r : Fin 512, dh (B0 m c) (B1 m c) (B2 m c) (B3 m c) (B4 m c) (B5 m c) (W m c) (row t r) d * Rms.xhat (xr (X m c) (row t r)) d := by
  pointwise [k0_pay10, dh_blk, xhat_blk]

theorem dg_pos (h0 : ¬ t.val % 8 = 0) (d : Fin 1024) : (outsAt0 m c t.val t.isLt).2.2 (ix2 0 d) = (outsAt0 m c (t.val - 1) (Nat.lt_of_le_of_lt (Nat.sub_le _ _) t.isLt)).2.2 (ix2 0 d)
    + ∑ r : Fin 512, dh (B0 m c) (B1 m c) (B2 m c) (B3 m c) (B4 m c) (B5 m c) (W m c) (row t r) d * Rms.xhat (xr (X m c) (row t r)) d := by
  rw [outsAt0_B m c t h0]
  frame_open
  frame_out
  try simp only [read_unread_whole]
  pointwise [k0_pay1, k0_pay9]
  exact congrArg (_ + ·) (dg_blk m c t d)

theorem dg_A (h0 : t.val % 8 = 0) (d : Fin 1024) : (outsAt0 m c t.val t.isLt).2.2 (ix2 0 d) = k0_pay2 (F := Ideal) (ix2 0 d)
    + ∑ r : Fin 512, dh (B0 m c) (B1 m c) (B2 m c) (B3 m c) (B4 m c) (B5 m c) (W m c) (row t r) d * Rms.xhat (xr (X m c) (row t r)) d := by
  rw [outsAt0_A m c t h0]
  frame_open
  frame_out
  try simp only [read_unread_whole]
  pointwise [k0_pay1, k0_pay9]
  exact congrArg (_ + ·) (dg_blk m c t d)

/-- The two copies of the input's cotangent, as a point leaves them. -/
theorem dx_out (r : Fin 512) (d : Fin 1024) : (outsAt0 m c t.val t.isLt).1 (ix2 r d) = R m c (ix2 (row t r) d) + Rms.grad (xr (X m c) (row t r)) (dxh (B0 m c) (B1 m c) (B2 m c) (B3 m c) (B4 m c) (B5 m c) (W m c) (G m c) (row t r)) d
    ∧ (outsAt0 m c t.val t.isLt).2.1 (ix2 r d) = R m c (ix2 (row t r) d) + Rms.grad (xr (X m c) (row t r)) (dxh (B0 m c) (B1 m c) (B2 m c) (B3 m c) (B4 m c) (B5 m c) (W m c) (G m c) (row t r)) d := by
  by_cases h0 : t.val % 8 = 0
  on_goal 1 => rw [outsAt0_A m c t h0]
  on_goal 2 => rw [outsAt0_B m c t h0]
  all_goals
    constructor
    all_goals
      frame_open
      frame_out
      try simp only [read_unread_whole]
    · exact dx_blk m c t r d
    · exact dx_blk m c t r d

abbrev tLast : Fin cfg0.N := ⟨7, by decide⟩

theorem zero2 (d : Fin 1024) : k0_pay2 (F := Ideal) (ix2 0 d) = 0 := by
  pointwise [k0_pay2]

/-- The gain's cotangent, as the last point leaves it. -/
theorem dg_last (d : Fin 1024) : (outsAt0 m c tLast.val tLast.isLt).2.2 (ix2 0 d) = ∑ i, dh (B0 m c) (B1 m c) (B2 m c) (B3 m c) (B4 m c) (B5 m c) (W m c) i d * Rms.xhat (xr (X m c) i) d := by
  refine (Pipeline.eq_sum_fin_of_reset_step_apply_last (fun n h (d : Fin 1024) => ((outsAt0 m c n h).2.2 (ix2 0 d) : EReal)) 8 (fun d => k0_pay2 (F := Ideal) (ix2 0 d))
    (fun t d => ∑ r, dh (B0 m c) (B1 m c) (B2 m c) (B3 m c) (B4 m c) (B5 m c) (W m c) (row t r) d * Rms.xhat (xr (X m c) (row t r)) d) (fun t h0 d => dg_A m c t h0 d) (fun t h0 d => dg_pos m c t h0 d)
    (by decide) tLast rfl d).trans ?_
  rw [zero2]
  exact (zero_add _).trans (Fin.sum_mul_add_congr fun s k hl => rfl)

/-- The gain's cotangent. -/
theorem whole12 : (dats m 0 c).arrAt 12 cfg0.N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 12 tLast (by decide +kernel) _ fun j => ?_
  blk_simp
  rw [after0_12]
  obtain ⟨d, rfl⟩ : ∃ d : Fin 1024, j = ix2 0 d := ⟨j 1, (eq_ix2 j).trans (congrArg (ix2 · (j 1)) (Subsingleton.elim (α := Fin 1) _ _))⟩
  refine (dg_last m c d).trans (Eq.trans ?_ (dg_read (B0 m c) (B1 m c) (B2 m c) (B3 m c) (B4 m c) (B5 m c) (W m c) (X m c) d).symm)
  exact Finset.sum_congr rfl fun i _ => mul_comm _ _

theorem emb10 (r : Fin 512) (d : Fin 1024) : ((cfg0.win 10).blk t).view.emb (ix2 r d) = ix2 (row t r) d := by
  blk_ext [idx t]

theorem emb11 (r : Fin 512) (d : Fin 1024) : ((cfg0.win 11).blk t).view.emb (ix2 r d) = ix2 (row t r) d := by
  blk_ext [idx t]

section Real

variable (h0 : ∀ q, IsReal (B0 m c q)) (h1 : ∀ q, IsReal (B1 m c q)) (h2 : ∀ q, IsReal (B2 m c q)) (h3 : ∀ q, IsReal (B3 m c q)) (h4 : ∀ q, IsReal (B4 m c q))
  (h5 : ∀ q, IsReal (B5 m c q)) (hw : ∀ q, IsReal (W m c q)) (hx : ∀ q, IsReal (X m c q)) (hg : ∀ q, IsReal (G m c q))

include h0 h1 h2 h3 h4 h5 hw hx hg

/-- The input's cotangent. -/
theorem whole10 : (dats m 0 c).arrAt 10 cfg0.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  obtain ⟨r, d, rfl⟩ : ∃ (r : Fin 512) (d : Fin 1024), y = ix2 r d := ⟨y 0, y 1, eq_ix2 y⟩
  refine Eq.trans ?_ (congrArg _ (emb10 t r d).symm)
  refine (dx_out m c t r d).1.trans ((dx_real _ _ _ _ _ _ _ _ _ (R m c) h0 h1 h2 h3 h4 h5 hw hx hg (row t r) d).symm.trans ?_)
  pointwise [val_main_v56]

/-- The input's cotangent, its second copy. -/
theorem whole11 : (dats m 0 c).arrAt 11 cfg0.N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  obtain ⟨r, d, rfl⟩ : ∃ (r : Fin 512) (d : Fin 1024), y = ix2 r d := ⟨y 0, y 1, eq_ix2 y⟩
  refine Eq.trans ?_ (congrArg _ (emb11 t r d).symm)
  refine (dx_out m c t r d).2.trans ((dx_real _ _ _ _ _ _ _ _ _ (R m c) h0 h1 h2 h3 h4 h5 hw hx hg (row t r) d).symm.trans ?_)
  pointwise [val_main_v58, val_main_v57]

end Real

end Cert.NormIdeal.Value

end
-- ==== Proof.LossPre.lean ====
/- What the precondition says of the loss's arguments: every element is a real number. -/
module

public import proofs.«01_k».proof.Proof.Gen.Pre_loss_finite
public import proofs.«01_k».proof.Proof.SguPre

@[expose] public section

set_option maxRecDepth 16384

noncomputable section

open Idealize.ShloMosaic Idealize.ShloMosaic.TcCoe Idealize.SL.Sem

namespace Cert.Pre_loss_finite

open Cert.Reals

theorem real (a0 : FVec Ideal S4096x4096 .bf16) (a1 : FVec Ideal S4096x1024 .bf16) (a2 : FVec Ideal S4096x1024 .f32) (a3 : FVec Ideal S1024 .f32) (a4 : FVec Ideal S4096x1024 .f32)
    (h : fn (F := Ideal) a0 a1 a2 a3 a4 = fun _ => 1#1) :
    (∀ q, IsReal (a0 q)) ∧ (∀ q, IsReal (a1 q)) ∧ (∀ q, IsReal (a2 q)) ∧ (∀ q, IsReal (a3 q)) ∧ (∀ q, IsReal (a4 q)) := by
  have e := congrFun h (fun a => a.elim0)
  simp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  exact ⟨isReal_of_all _ _ _ _ _ _ e0, isReal_of_all _ _ _ _ _ _ e1, isReal_of_all _ _ _ _ _ _ e2, isReal_of_all _ _ _ _ _ _ e3, isReal_of_all _ _ _ _ _ _ e4⟩

end Cert.Pre_loss_finite

end
-- ==== Proof.LossRef.lean ====
/- The loss and its gradient: the functions of the arguments that both programs compute, and the reference's intermediate arrays read as them. -/
module

public import proofs.«01_k».proof.Proof.Gen.LossRefIdeal.Read
public import proofs.«01_k».proof.Proof.Rms
public import proofs.«01_k».proof.Proof.SguRef
public import Idealize.ShloMosaic.Lib.Pipeline.ValueKit

@[expose] public section

set_option maxRecDepth 16384

noncomputable section

open Idealize.ShloMosaic Idealize.ShloMosaic.TcCoe Idealize.SL.Sem

namespace Cert.LossFun

open Cert.LossRefIdeal Cert.LossRefIdeal.Read Cert.Reals

variable (f : FVec Ideal S4096x4096 .bf16) (w : FVec Ideal S4096x1024 .bf16) (x : FVec Ideal S4096x1024 .f32) (g : FVec Ideal S1024 .f32)
  (y : FVec Ideal S4096x1024 .f32)

/-- The block's output: the residual and the squared positive parts through the down projection. -/
def out (i : Fin 4096) : Fin 1024 → EReal := fun d => x (ix2 i d) + ∑ k, max (f (ix2 i k)) 0 * max (f (ix2 i k)) 0 * w (ix2 k d)

/-- The normed output's difference from the target. -/
def err (i : Fin 4096) (d : Fin 1024) : EReal := Rms.xhat (out f w x i) d * g (ix1 d) - y (ix2 i d)

/-- The normed output's cotangent: the difference over the row's length. -/
def cot (i : Fin 4096) (d : Fin 1024) : EReal := err f w x g y i d * ((1 / 1024 : ℝ) : EReal)

/-- The cotangent before the gain. -/
abbrev dxh (i : Fin 4096) : Fin 1024 → EReal := fun d => cot f w x g y i d * g (ix1 d)

/-- A row's mean squared difference. -/
def rowSq (i : Fin 4096) : EReal := Ideal.div (∑ d, err f w x g y i d * err f w x g y i d) ((1024 : ℝ) : EReal)

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem out_read (i : Fin 4096) (d : Fin 1024) : val_main_v7 (F := Ideal) f w x (ix3 0 i d) = out f w x i d := by
  pointwise [val_main_v7, val_main_v6, val_main_v5, val_main_v4, val_main_v3, val_main_v2, val_main_call0_v0, val_main_call0_cst, val_main_v1, val_main_v0, out]

theorem ms_read (i : Fin 4096) : val_main_v14 (F := Ideal) f w x (ix3 0 i 0) = Rms.ms (out f w x i) := by
  pointwise [val_main_v14, val_main_v13, val_main_cst_1, val_main_v12, val_main_v11, val_main_cst_0, val_main_v10, val_main_v9, val_main_cst, val_main_v8, out_read, Rms.ms]
  rw [ofBits_1024, ofBits_eps]

theorem rs_read (i : Fin 4096) : val_main_v15 (F := Ideal) f w x (ix3 0 i 0) = Rms.rs (out f w x i) := by
  pointwise [val_main_v15, ms_read, Rms.rs]

theorem xhat_read (i : Fin 4096) (d : Fin 1024) : val_main_v20 (F := Ideal) f w x (ix3 0 i d) = Rms.xhat (out f w x i) d := by
  pointwise [val_main_v20, val_main_v19, out_read, rs_read, Rms.xhat]

theorem err_read (i : Fin 4096) (d : Fin 1024) : val_main_v25 (F := Ideal) f w x g y (ix3 0 i d) = err f w x g y i d := by
  pointwise [val_main_v25, val_main_v24, val_main_v23, val_main_v22, val_main_v21, xhat_read, err]

theorem sq_read (i : Fin 4096) : val_main_v31 (F := Ideal) f w x g y (ix2 0 i) = rowSq f w x g y i := by
  pointwise [val_main_v31, val_main_v30, val_main_cst_5, val_main_v29, val_main_cst_4, val_main_v26, err_read, rowSq]
  rw [ofBits_1024]

/-- The loss, in every place of its tile. -/
theorem loss_read (p : Fin 8) (q : Fin 128) : val_main_v65 (F := Ideal) f w x g y (ix2 p q) = ((1 / 2 : ℝ) : EReal) * ∑ i, rowSq f w x g y i := by
  pointwise [val_main_v65, val_main_v33, val_main_cst_7, val_main_v32, val_main_cst_6]
  rw [ofBits_half]
  exact congrArg _ ((Fintype.sum_unique _).trans (Finset.sum_congr rfl fun i _ => sq_read f w x g y i))

/-- The rows' halves summed are the half of the rows' sum. -/
theorem half_sum (F : Fin 8 → Fin 512 → EReal) (h : ∀ t r, IsReal (F t r)) :
    ∑ t, ((1 / 2 : ℝ) : EReal) * ∑ r, F t r = ((1 / 2 : ℝ) : EReal) * ∑ t, ∑ r, F t r := by
  choose G hG using h
  simp only [hG, ← coe_sum, ← EReal.coe_mul, Finset.mul_sum]

section Real

variable (hf : ∀ q, IsReal (f q)) (hw : ∀ q, IsReal (w q)) (hx : ∀ q, IsReal (x q)) (hg : ∀ q, IsReal (g q)) (hy : ∀ q, IsReal (y q))

theorem isReal_pos {a : EReal} (h : IsReal a) : IsReal (max a 0) := by
  obtain ⟨r, rfl⟩ := h
  rcases max_choice (r : EReal) 0 with e | e <;> rw [e]
  · exact isReal_coe r
  · exact isReal_coe 0

include hf hw hx in
theorem isReal_out (i : Fin 4096) (d : Fin 1024) : IsReal (out f w x i d) :=
  (hx _).add (isReal_sum _ _ fun _ => ((isReal_pos (hf _)).mul (isReal_pos (hf _))).mul (hw _))

include hf hw hx hg hy

theorem isReal_err (i : Fin 4096) (d : Fin 1024) : IsReal (err f w x g y i d) :=
  ((Rms.isReal_xhat (isReal_out f w x hf hw hx i) d).mul (hg _)).sub (hy _)

theorem isReal_cot (i : Fin 4096) (d : Fin 1024) : IsReal (cot f w x g y i d) := (isReal_err f w x g y hf hw hx hg hy i d).mul (isReal_coe _)

theorem isReal_rowSq (i : Fin 4096) : IsReal (rowSq f w x g y i) :=
  isReal_mean _ fun d => (isReal_err f w x g y hf hw hx hg hy i d).mul (isReal_err f w x g y hf hw hx hg hy i d)

theorem cot_read (i : Fin 4096) (d : Fin 1024) : val_main_v39 (F := Ideal) f w x g y (ix3 0 i d) = cot f w x g y i d := by
  pointwise [val_main_v39, val_main_v38, val_main_v37, val_main_v36, val_main_cst_10, val_main_v35, val_main_v34, val_main_cst_8, val_main_cst_9, val_main_v28, val_main_v27, val_main_cst_3, err_read, cot]
  obtain ⟨r, hr⟩ := isReal_err f w x g y hf hw hx hg hy i d
  rw [hr, ofBits_1024, ofBits_two, ofBits_half, Ideal.div_coe (by norm_num), ← EReal.coe_mul, ← EReal.coe_mul, ← EReal.coe_mul, ← EReal.coe_mul]
  exact congrArg _ (by ring)

theorem dxh_read (i : Fin 4096) (d : Fin 1024) : val_main_v44 (F := Ideal) f w x g y (ix3 0 i d) = dxh f w x g y i d := by
  pointwise [val_main_v44, val_main_v43, val_main_v21]
  rw [cot_read f w x g y hf hw hx hg hy]

/-- The gain's cotangent. -/
theorem dg_read (d : Fin 1024) : val_main_v64 (F := Ideal) f w x g y (ix2 0 d) = ∑ i, Rms.xhat (out f w x i) d * cot f w x g y i d := by
  have h := cot_read f w x g y hf hw hx hg hy
  pointwise [val_main_v64, val_main_v45, val_main_cst_12]
  refine (Cert.SguFun.red01 _ d).trans ?_
  pointwise [val_main_v42, val_main_v41, val_main_cst_11, val_main_v40, xhat_read, h]

theorem share_read (i : Fin 4096) : val_main_v54 (F := Ideal) f w x g y (ix1 i) = Rms.share (out f w x i) (dxh f w x g y i) := by
  have h := dxh_read f w x g y hf hw hx hg hy
  pointwise [val_main_v54, val_main_cst_15]
  refine (Cert.SguFun.red02 _ i).trans ?_
  pointwise [val_main_v53, val_main_v52, val_main_cst_14, val_main_v51, val_main_v48, val_main_v47, val_main_cst_13, val_main_v46, val_main_v18, val_main_v17, val_main_cst_2, val_main_v16, out_read, rs_read, ms_read, h, Rms.share]
  rw [ofBits_neg_half, ofBits_1024]

/-- The block output's cotangent. -/
theorem dx_read (i : Fin 4096) (d : Fin 1024) : val_main_v60 (F := Ideal) f w x g y (ix3 0 i d) = Rms.grad (out f w x i) (dxh f w x g y i) d := by
  have h := dxh_read f w x g y hf hw hx hg hy
  have hs := share_read f w x g y hf hw hx hg hy
  rw [Rms.grad_eq (isReal_out f w x hf hw hx i) (fun j => (isReal_cot f w x g y hf hw hx hg hy i j).mul (hg _))]
  pointwise [val_main_v60, val_main_v59, val_main_v58, val_main_v57, val_main_v56, val_main_v55, val_main_v50, val_main_v49, out_read, rs_read, h, hs]
  rw [add_assoc]

end Real

end Cert.LossFun

end
-- ==== Proof.Loss.lean ====
/- The loss and its gradient: what one grid point's body computes from its blocks, and each of the kernel's four result arrays as the reference's. -/
module

public import proofs.«01_k».proof.Proof.Gen.LossIdeal.Value
public import proofs.«01_k».proof.Proof.LossRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.LossFun Cert.LossRefIdeal.Read Cert.Reals

variable (m : (ℓ : Loc nD τ sig) → Buf (Elt Ideal) ℓ)

/-- Row `r` of point `t`'s block in the whole array. -/
abbrev row (t : Fin cfg0.N) (r : Fin 512) : Fin 4096 := ⟨t.val * 512 + r.val, by have := t.isLt; have : cfg0.N = 8 := rfl; omega⟩

/-- Every window's block index at point `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

abbrev F (c : Dev nD) : FVec Ideal S4096x4096 .bf16 := m ((c : Thread nD τ).loc main_arg0)
abbrev W (c : Dev nD) : FVec Ideal S4096x1024 .bf16 := m ((c : Thread nD τ).loc main_arg1)
abbrev X (c : Dev nD) : FVec Ideal S4096x1024 .f32 := m ((c : Thread nD τ).loc main_arg2)
abbrev G (c : Dev nD) : FVec Ideal S1024 .f32 := m ((c : Thread nD τ).loc main_arg3)
abbrev Y (c : Dev nD) : FVec Ideal S4096x1024 .f32 := m ((c : Thread nD τ).loc main_arg4)

variable (c : Dev nD) (t : Fin cfg0.N)

theorem f_blk (r : Fin 512) (k : Fin 4096) : iblk m c 0 t (ix2 r k) = F m c (ix2 (row t r) k) := by blk_ext [iblk, V, idx t]

theorem w_blk (k : Fin 4096) (d : Fin 1024) : iblk m c 1 t (ix2 k d) = W m c (ix2 k d) := by blk_ext [iblk, V, idx t]

theorem x_blk (r : Fin 512) (d : Fin 1024) : iblk m c 2 t (ix2 r d) = X m c (ix2 (row t r) d) := by blk_ext [iblk, V, idx t]

theorem g_blk (z : Fin 1) (d : Fin 1024) : iblk m c 3 t (ix2 z d) = G m c (ix1 d) := by
  rw [show iblk m c 3 t (ix2 z d) = V m c main_v0 (ix2 z d) by blk_ext [iblk, idx t]]
  entry_read
  pointwise

theorem y_blk (r : Fin 512) (d : Fin 1024) : iblk m c 4 t (ix2 r d) = Y m c (ix2 (row t r) d) := by blk_ext [iblk, V, idx t]

theorem out_blk (r : Fin 512) (d : Fin 1024) : k0_pay8 (F := Ideal) (iblk m c 0 t) (iblk m c 2 t) (iblk m c 1 t) (ix2 r d) = out (F m c) (W m c) (X m c) (row t r) d := by
  pointwise [k0_pay8, f_blk, w_blk, x_blk, out]

theorem rs_blk (r : Fin 512) : k0_pay9 (F := Ideal) (iblk m c 0 t) (iblk m c 2 t) (iblk m c 1 t) (ix2 r 0) = Rms.rs (out (F m c) (W m c) (X m c) (row t r)) := by
  pointwise [k0_pay9, out_blk, Rms.rs, Rms.ms]
  rw [ofBits_1024, ofBits_eps]

theorem xhat_blk (r : Fin 512) (d : Fin 1024) : k0_pay10 (F := Ideal) (iblk m c 0 t) (iblk m c 2 t) (iblk m c 1 t) (ix2 r d) = Rms.xhat (out (F m c) (W m c) (X m c) (row t r)) d := by
  pointwise [k0_pay10, out_blk, rs_blk, Rms.xhat]

theorem err_blk (r : Fin 512) (d : Fin 1024) : k0_pay11 (F := Ideal) (iblk m c 0 t) (iblk m c 2 t) (iblk m c 1 t) (iblk m c 3 t) (iblk m c 4 t) (ix2 r d) = err (F m c) (W m c) (X m c) (G m c) (Y m c) (row t r) d := by
  pointwise [k0_pay11, xhat_blk, g_blk, y_blk, err]

theorem cot_blk (r : Fin 512) (d : Fin 1024) : k0_pay2 (F := Ideal) (k0_pay11 (iblk m c 0 t) (iblk m c 2 t) (iblk m c 1 t) (iblk m c 3 t) (iblk m c 4 t)) (ix2 r d) = cot (F m c) (W m c) (X m c) (G m c) (Y m c) (row t r) d := by
  pointwise [k0_pay2, err_blk, cot, ofBits_inv_1024]

theorem sq_blk (r : Fin 512) : k0_pay13 (F := Ideal) (iblk m c 0 t) (iblk m c 2 t) (iblk m c 1 t) (iblk m c 3 t) (iblk m c 4 t) (ix2 r 0) = rowSq (F m c) (W m c) (X m c) (G m c) (Y m c) (row t r) := by
  pointwise [k0_pay13, err_blk, rowSq, ofBits_1024]

theorem dx_blk (r : Fin 512) (d : Fin 1024) : k0_pay3 (F := Ideal) (k0_pay9 (iblk m c 0 t) (iblk m c 2 t) (iblk m c 1 t)) (k0_pay10 (iblk m c 0 t) (iblk m c 2 t) (iblk m c 1 t)) (k0_pay11 (iblk m c 0 t) (iblk m c 2 t) (iblk m c 1 t) (iblk m c 3 t) (iblk m c 4 t)) (iblk m c 3 t) (ix2 r d)
    = Rms.grad (out (F m c) (W m c) (X m c) (row t r)) (dxh (F m c) (W m c) (X m c) (G m c) (Y m c) (row t r)) d := by
  pointwise [k0_pay3, cot_blk, xhat_blk, rs_blk, g_blk, Rms.grad, ofBits_1024]

/-- The two copies of the output's cotangent, as a point leaves them. -/
theorem dx_out (r : Fin 512) (d : Fin 1024) : (outsAt0 m c t.val t.isLt).1 (ix2 r d) = Rms.grad (out (F m c) (W m c) (X m c) (row t r)) (dxh (F m c) (W m c) (X m c) (G m c) (Y m c) (row t r)) d
    ∧ (outsAt0 m c t.val t.isLt).2.1 (ix2 r d) = Rms.grad (out (F m c) (W m c) (X m c) (row t r)) (dxh (F m c) (W m c) (X m c) (G m c) (Y m c) (row t r)) d := by
  by_cases h0 : t.val % 8 = 0
  on_goal 1 => rw [outsAt0_A m c t h0]
  on_goal 2 => rw [outsAt0_B m c t h0]
  all_goals
    constructor
    all_goals
      frame_open
      frame_out
      try simp only [read_unread_whole]
    · exact dx_blk m c t r d
    · exact dx_blk m c t r d

theorem dg_pos (h0 : ¬ t.val % 8 = 0) (d : Fin 1024) : (outsAt0 m c t.val t.isLt).2.2.1 (ix2 0 d) = (outsAt0 m c (t.val - 1) (Nat.lt_of_le_of_lt (Nat.sub_le _ _) t.isLt)).2.2.1 (ix2 0 d) + ∑ r : Fin 512, cot (F m c) (W m c) (X m c) (G m c) (Y m c) (row t r) d * Rms.xhat (out (F m c) (W m c) (X m c) (row t r)) d := by
  rw [outsAt0_B m c t h0]
  frame_open
  frame_out
  try simp only [read_unread_whole]
  pointwise [k0_pay5, cot_blk, xhat_blk]

theorem dg_A (h0 : t.val % 8 = 0) (d : Fin 1024) : (outsAt0 m c t.val t.isLt).2.2.1 (ix2 0 d) = k0_pay6 (F := Ideal) (ix2 0 d) + ∑ r : Fin 512, cot (F m c) (W m c) (X m c) (G m c) (Y m c) (row t r) d * Rms.xhat (out (F m c) (W m c) (X m c) (row t r)) d := by
  rw [outsAt0_A m c t h0]
  frame_open
  frame_out
  try simp only [read_unread_whole]
  pointwise [k0_pay5, cot_blk, xhat_blk]

theorem loss_pos (h0 : ¬ t.val % 8 = 0) (q : S8x128.Idx) : (outsAt0 m c t.val t.isLt).2.2.2 q = (outsAt0 m c (t.val - 1) (Nat.lt_of_le_of_lt (Nat.sub_le _ _) t.isLt)).2.2.2 q + ((1 / 2 : ℝ) : EReal) * ∑ r : Fin 512, rowSq (F m c) (W m c) (X m c) (G m c) (Y m c) (row t r) := by
  rw [outsAt0_B m c t h0]
  frame_open
  frame_out
  try simp only [read_unread_whole]
  pointwise [k0_pay1, k0_pay12, sq_blk, ofBits_half]

theorem loss_A (h0 : t.val % 8 = 0) (q : S8x128.Idx) : (outsAt0 m c t.val t.isLt).2.2.2 q = k0_pay7 (F := Ideal) q + ((1 / 2 : ℝ) : EReal) * ∑ r : Fin 512, rowSq (F m c) (W m c) (X m c) (G m c) (Y m c) (row t r) := by
  rw [outsAt0_A m c t h0]
  frame_open
  frame_out
  try simp only [read_unread_whole]
  pointwise [k0_pay1, k0_pay12, sq_blk, ofBits_half]

abbrev tLast : Fin cfg0.N := ⟨7, by decide⟩

theorem zero6 (d : Fin 1024) : k0_pay6 (F := Ideal) (ix2 0 d) = 0 := by
  pointwise [k0_pay6]

theorem zero7 (q : S8x128.Idx) : k0_pay7 (F := Ideal) q = (0 : EReal) := by
  pointwise [k0_pay7]

/-- The gain's cotangent, as the last point leaves it. -/
theorem dg_last (d : Fin 1024) : (outsAt0 m c tLast.val tLast.isLt).2.2.1 (ix2 0 d) = ∑ i, cot (F m c) (W m c) (X m c) (G m c) (Y m c) i d * Rms.xhat (out (F m c) (W m c) (X m c) i) d := by
  refine (Pipeline.eq_sum_fin_of_reset_step_apply_last (fun n h (d : Fin 1024) => ((outsAt0 m c n h).2.2.1 (ix2 0 d) : EReal)) 8 (fun d => k0_pay6 (F := Ideal) (ix2 0 d))
    (fun t d => ∑ r, cot (F m c) (W m c) (X m c) (G m c) (Y m c) (row t r) d * Rms.xhat (out (F m c) (W m c) (X m c) (row t r)) d) (fun t h0 d => dg_A m c t h0 d) (fun t h0 d => dg_pos m c t h0 d)
    (by decide) tLast rfl d).trans ?_
  rw [zero6]
  exact (zero_add _).trans (Fin.sum_mul_add_congr fun s k hl => rfl)

/-- The loss, as the last point leaves it: half of each block's rows, block after block. -/
theorem loss_last (q : S8x128.Idx) : (outsAt0 m c tLast.val tLast.isLt).2.2.2 q = ∑ t : Fin 8, ((1 / 2 : ℝ) : EReal) * ∑ r, rowSq (F m c) (W m c) (X m c) (G m c) (Y m c) (row t r) := by
  refine (Pipeline.eq_sum_fin_of_reset_step_apply_last (fun n h (q : S8x128.Idx) => ((outsAt0 m c n h).2.2.2 q : EReal)) 8 (k0_pay7 (F := Ideal))
    (fun t _ => ((1 / 2 : ℝ) : EReal) * ∑ r, rowSq (F m c) (W m c) (X m c) (G m c) (Y m c) (row t r)) (fun t h0 q => loss_A m c t h0 q) (fun t h0 q => loss_pos m c t h0 q)
    (by decide) tLast rfl q).trans ?_
  rw [zero7]
  exact zero_add _

theorem emb5 (r : Fin 512) (d : Fin 1024) : ((cfg0.win 5).blk t).view.emb (ix2 r d) = ix2 (row t r) d := by
  blk_ext [idx t]

theorem emb6 (r : Fin 512) (d : Fin 1024) : ((cfg0.win 6).blk t).view.emb (ix2 r d) = ix2 (row t r) d := by
  blk_ext [idx t]

section Real

variable (hf : ∀ q, IsReal (F m c q)) (hw : ∀ q, IsReal (W m c q)) (hx : ∀ q, IsReal (X m c q)) (hg : ∀ q, IsReal (G m c q)) (hy : ∀ q, IsReal (Y m c q))

include hf hw hx hg hy

/-- The output's cotangent. -/
theorem whole5 : (dats m 0 c).arrAt 5 cfg0.N = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, d, rfl⟩ : ∃ (r : Fin 512) (d : Fin 1024), y = ix2 r d := ⟨y 0, y 1, eq_ix2 y⟩
  refine Eq.trans ?_ (congrArg _ (emb5 t r d).symm)
  refine (dx_out m c t r d).1.trans ((dx_read _ _ _ _ _ hf hw hx hg hy (row t r) d).symm.trans ?_)
  pointwise [val_main_v61]

/-- The output's cotangent, its second copy. -/
theorem whole6 : (dats m 0 c).arrAt 6 cfg0.N = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨r, d, rfl⟩ : ∃ (r : Fin 512) (d : Fin 1024), y = ix2 r d := ⟨y 0, y 1, eq_ix2 y⟩
  refine Eq.trans ?_ (congrArg _ (emb6 t r d).symm)
  refine (dx_out m c t r d).2.trans ((dx_read _ _ _ _ _ hf hw hx hg hy (row t r) d).symm.trans ?_)
  pointwise [val_main_v63, val_main_v62]

/-- The gain's cotangent. -/
theorem whole7 : (dats m 0 c).arrAt 7 cfg0.N = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 tLast (by decide +kernel) _ fun j => ?_
  blk_simp
  rw [after0_7]
  obtain ⟨d, rfl⟩ : ∃ d : Fin 1024, j = ix2 0 d := ⟨j 1, (eq_ix2 j).trans (congrArg (ix2 · (j 1)) (Subsingleton.elim (α := Fin 1) _ _))⟩
  refine (dg_last m c d).trans (Eq.trans ?_ (dg_read (F m c) (W m c) (X m c) (G m c) (Y m c) hf hw hx hg hy d).symm)
  exact Finset.sum_congr rfl fun i _ => mul_comm _ _

/-- The loss. -/
theorem whole8 : (dats m 0 c).arrAt 8 cfg0.N = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 tLast (by decide +kernel) _ fun j => ?_
  blk_simp
  rw [after0_8]
  obtain ⟨p, q, rfl⟩ : ∃ (p : Fin 8) (q : Fin 128), j = ix2 p q := ⟨j 0, j 1, eq_ix2 j⟩
  refine (loss_last m c _).trans (Eq.trans ?_ (loss_read (F m c) (W m c) (X m c) (G m c) (Y m c) p q).symm)
  refine (half_sum (fun t r => rowSq (F m c) (W m c) (X m c) (G m c) (Y m c) (row t r)) fun t r => isReal_rowSq (F m c) (W m c) (X m c) (G m c) (Y m c) hf hw hx hg hy _).trans (congrArg _ ?_)
  exact Fin.sum_mul_add_congr fun s k hl => rfl

end Real

end Cert.LossIdeal.Value

end
-- ==== Proof.MergeFwd.lean ====
/- The gated merge: what one grid point's body computes from its blocks, and each of the kernel's three result arrays as the reference's. -/
module

public import proofs.«01_k».proof.Proof.Gen.MergeFwdIdeal.Value
public import proofs.«01_k».proof.Proof.Gen.MergeFwdRefIdeal.Read
public import proofs.«01_k».proof.Proof.Sigmoid
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen Cert.MergeFwdRefIdeal.Read

variable (m : (ℓ : Loc nD τ sig) → Buf (Elt Ideal) ℓ)

/-- Row `r` of point `t`'s block in the whole array. -/
abbrev row (t : Fin cfg0.N) (r : Fin 512) : Fin 4096 := ⟨t.val * 512 + r.val, by have := t.isLt; have : cfg0.N = 8 := rfl; omega⟩

/-- Every window's block index at point `t`. -/
theorem idx : ∀ t : Fin cfg0.N, win0_0.index t = ![t.val, 0] ∧ win0_1.index t = ![t.val, 0] ∧ win0_2.index t = ![t.val, 9]
    ∧ win0_3.index t = ![t.val, 10] ∧ win0_4.index t = ![t.val, 11] ∧ win0_5.index t = ![t.val, 12] ∧ win0_6.index t = ![t.val, 0]
    ∧ win0_7.index t = ![0, 0] ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N, _)

abbrev YA (c : Dev nD) : FVec Ideal S4096x1280 .bf16 := m ((c : Thread nD τ).loc main_arg0)
abbrev YB (c : Dev nD) : FVec Ideal S4096x1024 .bf16 := m ((c : Thread nD τ).loc main_arg1)
abbrev PR (c : Dev nD) : FVec Ideal S4096x6656 .bf16 := m ((c : Thread nD τ).loc main_arg2)
abbrev X (c : Dev nD) : FVec Ideal S4096x1024 .f32 := m ((c : Thread nD τ).loc main_arg3)
abbrev WA (c : Dev nD) : FVec Ideal S1280x1024 .bf16 := m ((c : Thread nD τ).loc main_arg4)
abbrev WB (c : Dev nD) : FVec Ideal S1024x1024 .bf16 := m ((c : Thread nD τ).loc main_arg5)
abbrev WO (c : Dev nD) : FVec Ideal S1024x1024 .bf16 := m ((c : Thread nD τ).loc main_arg6)

variable (c : Dev nD) (t : Fin cfg0.N)

/-- The first branch's activation. -/
theorem ya_point (r : Fin 512) (d : Fin 1024) : k0_pay4 (F := Ideal) (iblk m c 0 t) (iblk m c 7 t) (ix2 r d) = val_main_v11 (F := Ideal) (YA m c) (WA m c) (ix3 0 (row t r) d) := by
  pointwise [k0_pay4, val_main_v11, val_main_v10, val_main_v9, val_main_v8]
  blk_point [iblk, V, idx t]

/-- The second branch's activation. -/
theorem yb_point (r : Fin 512) (d : Fin 1024) : k0_pay5 (F := Ideal) (iblk m c 1 t) (iblk m c 8 t) (ix2 r d) = val_main_v15 (F := Ideal) (YB m c) (WB m c) (ix3 0 (row t r) d) := by
  pointwise [k0_pay5, val_main_v15, val_main_v14, val_main_v13, val_main_v12]
  blk_point [iblk, V, idx t]

/-- The merged activation. -/
theorem merged_point (r : Fin 512) (d : Fin 1024) :
    k0_pay6 (F := Ideal) (iblk m c 0 t) (iblk m c 7 t) (iblk m c 1 t) (iblk m c 8 t) (iblk m c 2 t) (iblk m c 3 t) (iblk m c 4 t) (iblk m c 5 t) (ix2 r d)
      = val_main_v30 (F := Ideal) (YA m c) (YB m c) (PR m c) (WA m c) (WB m c) (ix3 0 (row t r) d) := by
  pointwise [k0_pay6, ya_point, yb_point, val_main_v30, val_main_v29, val_main_v28, val_main_v27, val_main_cst_2, val_main_v26, val_main_v25, val_main_cst_1, val_main_v24, val_main_v23,
    val_main_v22, val_main_v21, val_main_v20, val_main_cst_0, val_main_v19, val_main_v18, val_main_cst, val_main_v17, val_main_v16, val_main_v7, val_main_v6, val_main_v1, val_main_v0]
  rw [Gates.sigmoid_eq, Gates.sigmoid_eq]
  refine congrArg₂ (fun a b => Ideal.div 1 (1 + Ideal.exp (-a)) * _ + Ideal.div 1 (1 + Ideal.exp (-b)) * _) ?_ ?_
  all_goals split_ifs <;> first | contradiction | blk_ext [iblk, V, idx t]

theorem x_blk (r : Fin 512) (d : Fin 1024) : iblk m c 6 t (ix2 r d) = X m c (ix2 (row t r) d) := by blk_ext [iblk, V, idx t]

theorem wo_blk (k d : Fin 1024) : iblk m c 9 t (ix2 k d) = WO m c (ix2 k d) := by blk_ext [iblk, V, idx t]

theorem emb10 (r : Fin 512) (d : Fin 1024) : ((cfg0.win 10).blk t).view.emb (ix2 r d) = ix2 (row t r) d := by
  blk_ext [idx t]

theorem emb11 (r : Fin 512) (d : Fin 1024) : ((cfg0.win 11).blk t).view.emb (ix2 r d) = ix2 (row t r) d := by
  blk_ext [idx t]

theorem emb12 (r : Fin 512) (d : Fin 1024) : ((cfg0.win 12).blk t).view.emb (ix2 r d) = ix2 (row t r) d := by
  blk_ext [idx t]

/-- The merge's output. -/
theorem whole10 : (dats m 0 c).arrAt 10 cfg0.N = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]; frame_out
  obtain ⟨r, d, rfl⟩ : ∃ (r : Fin 512) (d : Fin 1024), y = ix2 r d := ⟨y 0, y 1, eq_ix2 y⟩
  refine Eq.trans ?_ (congrArg _ (emb10 t r d).symm)
  pointwise [k0_pay1, merged_point, x_blk, wo_blk, val_main_v35, val_main_v34, val_main_v33, val_main_v32, val_main_v31]

/-- The first branch's activation. -/
theorem whole11 : (dats m 0 c).arrAt 11 cfg0.N = val_main_v37 (F := Ideal) (m ((c : Thread nD τ).loc main_arg0)) (m ((c : Thread nD τ).loc main_arg4)) := by
  refine (dats m 0 c).arrAt_eq_of_covers 11 _ (by decide +kernel) fun t _ y => ?_
  blk_simp
  rw [after0_11]; frame_out
  obtain ⟨r, d, rfl⟩ : ∃ (r : Fin 512) (d : Fin 1024), y = ix2 r d := ⟨y 0, y 1, eq_ix2 y⟩
  refine Eq.trans ?_ (congrArg _ (emb11 t r d).symm)
  pointwise [k0_pay2, ya_point, val_main_v37, val_main_v36]

/-- The second branch's activation. -/
theorem whole12 : (dats m 0 c).arrAt 12 cfg0.N = val_main_v39 (F := Ideal) (m ((c : Thread nD τ).loc main_arg1)) (m ((c : Thread nD τ).loc main_arg5)) := by
  refine (dats m 0 c).arrAt_eq_of_covers 12 _ (by decide +kernel) fun t _ y => ?_
  blk_simp
  rw [after0_12]; frame_out
  obtain ⟨r, d, rfl⟩ : ∃ (r : Fin 512) (d : Fin 1024), y = ix2 r d := ⟨y 0, y 1, eq_ix2 y⟩
  refine Eq.trans ?_ (congrArg _ (emb12 t r d).symm)
  pointwise [k0_pay3, yb_point, val_main_v39, val_main_v38]

end Cert.MergeFwdIdeal.Value

end
-- ==== Proof.UpPre.lean ====
/- What the precondition says of the norm before the upward product's arguments: every element of all but the residual's cotangent is a real number. -/
module

public import proofs.«01_k».proof.Proof.Gen.Pre_up_finite
public import proofs.«01_k».proof.Proof.SguPre

@[expose] public section

set_option maxRecDepth 16384

noncomputable section

open Idealize.ShloMosaic Idealize.ShloMosaic.TcCoe Idealize.SL.Sem

namespace Cert.Pre_up_finite

open Cert.Reals

theorem real (a0 : FVec Ideal S4096x4096 .bf16) (a1 : FVec Ideal S1024x4096 .bf16) (a2 : FVec Ideal S4096x1024 .f32) (a3 : FVec Ideal S1024 .f32) (a4 : FVec Ideal S4096x1024 .f32)
    (h : fn (F := Ideal) a0 a1 a2 a3 a4 = fun _ => 1#1) :
    (∀ q, IsReal (a0 q)) ∧ (∀ q, IsReal (a1 q)) ∧ (∀ q, IsReal (a2 q)) ∧ (∀ q, IsReal (a3 q)) := by
  have e := congrFun h (fun a => a.elim0)
  simp only [fn, fn_part1] at e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  exact ⟨isReal_of_all _ _ _ _ _ _ e0, isReal_of_all _ _ _ _ _ _ e1, isReal_of_all _ _ _ _ _ _ e2, isReal_of_all _ _ _ _ _ _ e3⟩

end Cert.Pre_up_finite

end
-- ==== Proof.Up.lean ====
/- The gradient of the norm before the upward product: the functions of the arguments that both programs compute, the reference's arrays read as
   them, and each of the kernel's three result arrays as the reference's. -/
module

public import proofs.«01_k».proof.Proof.Gen.UpIdeal.Value
public import proofs.«01_k».proof.Proof.Gen.UpRefIdeal.Read
public import proofs.«01_k».proof.Proof.Rms
public import proofs.«01_k».proof.Proof.SguRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpFun

open Cert.UpRefIdeal Cert.UpRefIdeal.Read Cert.Reals

variable (b : FVec Ideal S4096x4096 .bf16) (w : FVec Ideal S1024x4096 .bf16) (x : FVec Ideal S4096x1024 .f32) (g : FVec Ideal S1024 .f32)
  (r : FVec Ideal S4096x1024 .f32)

/-- The normed row's cotangent. -/
def dh (i : Fin 4096) (d : Fin 1024) : EReal := ∑ k : Fin 4096, b (ix2 i k) * w (ix2 d k)

/-- A row of the input. -/
abbrev xr (i : Fin 4096) : Fin 1024 → EReal := fun j => x (ix2 i j)

/-- The cotangent of the row's normed elements before the gain. -/
abbrev dxh (i : Fin 4096) : Fin 1024 → EReal := fun j => dh b w i j * g (ix1 j)

theorem dh_read (i : Fin 4096) (d : Fin 1024) : val_main_v22 (F := Ideal) b w (ix3 0 i d) = dh b w i d := by
  pointwise [val_main_v22, val_main_v21, val_main_v20, val_main_v17, dh]

theorem ms_read (i : Fin 4096) : val_main_v7 (F := Ideal) x (ix3 0 i 0) = Rms.ms (xr x i) := by
  pointwise [val_main_v7, val_main_v6, val_main_cst_1, val_main_v5, val_main_v4, val_main_cst_0, val_main_v3, val_main_v2, val_main_cst, val_main_v1, val_main_v0, Rms.ms]
  rw [ofBits_1024, ofBits_eps]

theorem rs_read (i : Fin 4096) : val_main_v8 (F := Ideal) x (ix3 0 i 0) = Rms.rs (xr x i) := by
  pointwise [val_main_v8, ms_read, Rms.rs]

theorem xhat_read (i : Fin 4096) (d : Fin 1024) : val_main_v13 (F := Ideal) x (ix3 0 i d) = Rms.xhat (xr x i) d := by
  pointwise [val_main_v13, val_main_v12, val_main_v0, rs_read, Rms.xhat]

theorem dxh_read (i : Fin 4096) (d : Fin 1024) : val_main_v27 (F := Ideal) b w g (ix3 0 i d) = dxh b w g i d := by
  pointwise [val_main_v27, val_main_v26, val_main_v14, dh_read]

/-- The gain's cotangent. -/
theorem dg_read (d : Fin 1024) : val_main_v48 (F := Ideal) b w x (ix2 0 d) = ∑ i, Rms.xhat (xr x i) d * dh b w i d := by
  pointwise [val_main_v48, val_main_v28, val_main_cst_4]
  refine (Cert.SguFun.red01 _ d).trans ?_
  pointwise [val_main_v25, val_main_v24, val_main_cst_3, val_main_v23, xhat_read, dh_read]

theorem share_read (i : Fin 4096) : val_main_v38 (F := Ideal) b w x g (ix1 i) = Rms.share (xr x i) (dxh b w g i) := by
  pointwise [val_main_v38, val_main_cst_7]
  refine (Cert.SguFun.red02 _ i).trans ?_
  pointwise [val_main_v37, val_main_v36, val_main_cst_6, val_main_v35, val_main_v31, val_main_v30, val_main_cst_5, val_main_v29, val_main_v11, val_main_v10, val_main_cst_2, val_main_v9, val_main_v0, rs_read, ms_read, dxh_read, Rms.share]
  rw [ofBits_neg_half, ofBits_1024]

theorem dx_read (i : Fin 4096) (d : Fin 1024) : val_main_v44 (F := Ideal) b w x g r (ix3 0 i d)
    = r (ix2 i d) + (dxh b w g i d * Rms.rs (xr x i) + (x (ix2 i d) * Rms.share (xr x i) (dxh b w g i) + Rms.share (xr x i) (dxh b w g i) * x (ix2 i d))) := by
  pointwise [val_main_v44, val_main_v43, val_main_v42, val_main_v41, val_main_v40, val_main_v39, val_main_v34, val_main_v33, val_main_v32, val_main_v19, val_main_v0, rs_read, dxh_read, share_read]
  rw [add_assoc, add_assoc]

theorem isReal_dh (hb : ∀ q, IsReal (b q)) (hw : ∀ q, IsReal (w q)) (i : Fin 4096) (d : Fin 1024) : IsReal (dh b w i d) :=
  isReal_sum _ _ fun _ => (hb _).mul (hw _)

/-- The input's cotangent at real arguments, whatever the residual's. -/
theorem dx_real (hb : ∀ q, IsReal (b q)) (hw : ∀ q, IsReal (w q)) (hx : ∀ q, IsReal (x q)) (hg : ∀ q, IsReal (g q)) (i : Fin 4096) (d : Fin 1024) :
    val_main_v44 (F := Ideal) b w x g r (ix3 0 i d) = r (ix2 i d) + Rms.grad (xr x i) (dxh b w g i) d := by
  rw [dx_read, Rms.grad_eq (fun j => hx _) (fun j => (isReal_dh b w hb hw i j).mul (hg _))]

end Cert.UpFun

namespace Cert.UpIdeal.Value

open Cert.UpIdeal Cert.UpIdeal.Gen Cert.UpFun Cert.UpRefIdeal.Read Cert.Reals

variable (m : (ℓ : Loc nD τ sig) → Buf (Elt Ideal) ℓ)

/-- Row `r` of point `t`'s block in the whole array. -/
abbrev row (t : Fin cfg0.N) (r : Fin 512) : Fin 4096 := ⟨t.val * 512 + r.val, by have := t.isLt; have : cfg0.N = 8 := rfl; omega⟩

/-- Every window's block index at point `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

abbrev B (c : Dev nD) : FVec Ideal S4096x4096 .bf16 := m ((c : Thread nD τ).loc main_arg0)
abbrev W (c : Dev nD) : FVec Ideal S1024x4096 .bf16 := m ((c : Thread nD τ).loc main_arg1)
abbrev X (c : Dev nD) : FVec Ideal S4096x1024 .f32 := m ((c : Thread nD τ).loc main_arg2)
abbrev G (c : Dev nD) : FVec Ideal S1024 .f32 := m ((c : Thread nD τ).loc main_arg3)
abbrev R (c : Dev nD) : FVec Ideal S4096x1024 .f32 := m ((c : Thread nD τ).loc main_arg4)

variable (c : Dev nD) (t : Fin cfg0.N)

theorem w_blk (e : Fin 4096) (d : Fin 1024) : iblk m c 1 t (ix2 e d) = W m c (ix2 d e) := by
  rw [show iblk m c 1 t (ix2 e d) = V m c main_v0 (ix2 e d) by blk_ext [iblk, idx t]]
  entry_read
  pointwise

theorem g_blk (z : Fin 1) (d : Fin 1024) : iblk m c 3 t (ix2 z d) = G m c (ix1 d) := by
  rw [show iblk m c 3 t (ix2 z d) = V m c main_v1 (ix2 z d) by blk_ext [iblk, idx t]]
  entry_read
  pointwise

theorem b_blk (r : Fin 512) (k : Fin 4096) : iblk m c 0 t (ix2 r k) = B m c (ix2 (row t r) k) := by blk_ext [iblk, V, idx t]

theorem x_blk (r : Fin 512) (k : Fin 1024) : iblk m c 2 t (ix2 r k) = X m c (ix2 (row t r) k) := by blk_ext [iblk, V, idx t]

theorem res_blk (r : Fin 512) (k : Fin 1024) : iblk m c 4 t (ix2 r k) = R m c (ix2 (row t r) k) := by blk_ext [iblk, V, idx t]

theorem dh_blk (r : Fin 512) (d : Fin 1024) : k0_pay3 (F := Ideal) (iblk m c 0 t) (iblk m c 1 t) (ix2 r d) = dh (B m c) (W m c) (row t r) d := by
  pointwise [k0_pay3, dh, b_blk, w_blk]

theorem rs_blk (r : Fin 512) : k0_pay4 (F := Ideal) (iblk m c 2 t) (ix2 r 0) = Rms.rs (xr (X m c) (row t r)) := by
  pointwise [k0_pay4, Rms.rs, Rms.ms, x_blk]
  rw [ofBits_1024, ofBits_eps]

theorem xhat_blk (r : Fin 512) (d : Fin 1024) : k0_pay5 (F := Ideal) (iblk m c 2 t) (ix2 r d) = Rms.xhat (xr (X m c) (row t r)) d := by
  pointwise [k0_pay5, rs_blk, x_blk, Rms.xhat]

/-- The block's share of the input's cotangent. -/
theorem dx_blk (r : Fin 512) (d : Fin 1024) : k0_pay6 (F := Ideal) (iblk m c 0 t) (iblk m c 1 t) (iblk m c 2 t) (iblk m c 3 t) (iblk m c 4 t) (ix2 r d)
    = R m c (ix2 (row t r) d) + Rms.grad (xr (X m c) (row t r)) (dxh (B m c) (W m c) (G m c) (row t r)) d := by
  pointwise [k0_pay6, dh_blk, xhat_blk, rs_blk, g_blk, res_blk, Rms.grad, ofBits_1024]

/-- The block's share of the gain's cotangent, added to what was there. -/
theorem dg_blk (o : FVec Ideal S1x1024 .f32) (d : Fin 1024) : k0_pay1 (F := Ideal) (k0_pay3 (F := Ideal) (iblk m c 0 t) (iblk m c 1 t)) (k0_pay5 (F := Ideal) (iblk m c 2 t)) o (ix2 0 d)
    = o (ix2 0 d) + ∑ r : Fin 512, dh (B m c) (W m c) (row t r) d * Rms.xhat (xr (X m c) (row t r)) d := by
  pointwise [k0_pay1, dh_blk, xhat_blk]

theorem dg_pos (h0 : ¬ t.val % 8 = 0) (d : Fin 1024) : (outsAt0 m c t.val t.isLt).2.2 (ix2 0 d) = (outsAt0 m c (t.val - 1) (Nat.lt_of_le_of_lt (Nat.sub_le _ _) t.isLt)).2.2 (ix2 0 d)
    + ∑ r : Fin 512, dh (B m c) (W m c) (row t r) d * Rms.xhat (xr (X m c) (row t r)) d := by
  rw [outsAt0_B m c t h0]
  frame_open
  frame_out
  try simp only [read_unread_whole]
  exact dg_blk m c t _ d

theorem dg_A (h0 : t.val % 8 = 0) (d : Fin 1024) : (outsAt0 m c t.val t.isLt).2.2 (ix2 0 d) = k0_pay2 (F := Ideal) (ix2 0 d)
    + ∑ r : Fin 512, dh (B m c) (W m c) (row t r) d * Rms.xhat (xr (X m c) (row t r)) d := by
  rw [outsAt0_A m c t h0]
  frame_open
  frame_out
  try simp only [read_unread_whole]
  exact dg_blk m c t _ d

/-- The two copies of the input's cotangent, as a point leaves them. -/
theorem dx_out (r : Fin 512) (d : Fin 1024) : (outsAt0 m c t.val t.isLt).1 (ix2 r d) = R m c (ix2 (row t r) d) + Rms.grad (xr (X m c) (row t r)) (dxh (B m c) (W m c) (G m c) (row t r)) d
    ∧ (outsAt0 m c t.val t.isLt).2.1 (ix2 r d) = R m c (ix2 (row t r) d) + Rms.grad (xr (X m c) (row t r)) (dxh (B m c) (W m c) (G m c) (row t r)) d := by
  by_cases h0 : t.val % 8 = 0
  on_goal 1 => rw [outsAt0_A m c t h0]
  on_goal 2 => rw [outsAt0_B m c t h0]
  all_goals
    constructor
    all_goals
      frame_open
      frame_out
      try simp only [read_unread_whole]
    · exact dx_blk m c t r d
    · exact dx_blk m c t r d

abbrev tLast : Fin cfg0.N := ⟨7, by decide⟩

theorem zero2 (d : Fin 1024) : k0_pay2 (F := Ideal) (ix2 0 d) = 0 := by
  pointwise [k0_pay2]

/-- The gain's cotangent, as the last point leaves it. -/
theorem dg_last (d : Fin 1024) : (outsAt0 m c tLast.val tLast.isLt).2.2 (ix2 0 d) = ∑ i, dh (B m c) (W m c) i d * Rms.xhat (xr (X m c) i) d := by
  refine (Pipeline.eq_sum_fin_of_reset_step_apply_last (fun n h (d : Fin 1024) => ((outsAt0 m c n h).2.2 (ix2 0 d) : EReal)) 8 (fun d => k0_pay2 (F := Ideal) (ix2 0 d))
    (fun t d => ∑ r, dh (B m c) (W m c) (row t r) d * Rms.xhat (xr (X m c) (row t r)) d) (fun t h0 d => dg_A m c t h0 d) (fun t h0 d => dg_pos m c t h0 d)
    (by decide) tLast rfl d).trans ?_
  rw [zero2]
  exact (zero_add _).trans (Fin.sum_mul_add_congr fun s k hl => rfl)

/-- The gain's cotangent. -/
theorem whole7 : (dats m 0 c).arrAt 7 cfg0.N = val_main_v48 (F := Ideal) (m ((c : Thread nD τ).loc main_arg0)) (m ((c : Thread nD τ).loc main_arg1)) (m ((c : Thread nD τ).loc main_arg2)) := by
  refine (dats m 0 c).arrAt_eq_of_after_last 7 tLast (by decide +kernel) _ fun j => ?_
  blk_simp
  rw [after0_7]
  obtain ⟨d, rfl⟩ : ∃ d : Fin 1024, j = ix2 0 d := ⟨j 1, (eq_ix2 j).trans (congrArg (ix2 · (j 1)) (Subsingleton.elim (α := Fin 1) _ _))⟩
  refine (dg_last m c d).trans (Eq.trans ?_ (dg_read (B m c) (W m c) (X m c) d).symm)
  exact Finset.sum_congr rfl fun i _ => mul_comm _ _

theorem emb5 (r : Fin 512) (d : Fin 1024) : ((cfg0.win 5).blk t).view.emb (ix2 r d) = ix2 (row t r) d := by
  blk_ext [idx t]

theorem emb6 (r : Fin 512) (d : Fin 1024) : ((cfg0.win 6).blk t).view.emb (ix2 r d) = ix2 (row t r) d := by
  blk_ext [idx t]

section Real

variable (hb : ∀ q, IsReal (B m c q)) (hw : ∀ q, IsReal (W m c q)) (hx : ∀ q, IsReal (X m c q)) (hg : ∀ q, IsReal (G m c q))

include hb hw hx hg

/-- The input's cotangent. -/
theorem whole5 : (dats m 0 c).arrAt 5 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, d, rfl⟩ : ∃ (r : Fin 512) (d : Fin 1024), y = ix2 r d := ⟨y 0, y 1, eq_ix2 y⟩
  refine Eq.trans ?_ (congrArg _ (emb5 t r d).symm)
  refine (dx_out m c t r d).1.trans ((dx_real _ _ _ _ (R m c) hb hw hx hg (row t r) d).symm.trans ?_)
  pointwise [val_main_v45]

/-- The input's cotangent, its second copy. -/
theorem whole6 : (dats m 0 c).arrAt 6 cfg0.N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨r, d, rfl⟩ : ∃ (r : Fin 512) (d : Fin 1024), y = ix2 r d := ⟨y 0, y 1, eq_ix2 y⟩
  refine Eq.trans ?_ (congrArg _ (emb6 t r d).symm)
  refine (dx_out m c t r d).2.trans ((dx_real _ _ _ _ (R m c) hb hw hx hg (row t r) d).symm.trans ?_)
  pointwise [val_main_v47, val_main_v46]

end Real

end Cert.UpIdeal.Value

end
-- ==== Proof.NormFwd.lean ====
/- The norm before its product: each of the kernel's two result arrays is the reference's. -/
module

public import proofs.«01_k».proof.Proof.Gen.NormFwdIdeal.Value
public import proofs.«01_k».proof.Proof.Gen.NormFwdRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormFwdIdeal.Value

open Cert.NormFwdIdeal Cert.NormFwdIdeal.Gen Cert.NormFwdRefIdeal.Read

variable (m : (ℓ : Loc nD τ sig) → Buf (Elt Ideal) ℓ)

/-- Row `r` of point `t`'s block in the whole array. -/
abbrev row (t : Fin cfg0.N) (r : Fin 1024) : Fin 4096 := ⟨t.val * 1024 + r.val, by have := t.isLt; have : cfg0.N = 4 := rfl; omega⟩

/-- Every window's block index at point `t`. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

abbrev X (c : Dev nD) : FVec Ideal S4096x1024 .f32 := m ((c : Thread nD τ).loc main_arg0)
abbrev G (c : Dev nD) : FVec Ideal S1024 .f32 := m ((c : Thread nD τ).loc main_arg1)
abbrev W (c : Dev nD) : FVec Ideal S1024x4096 .bf16 := m ((c : Thread nD τ).loc main_arg2)

variable (c : Dev nD) (t : Fin cfg0.N)

theorem x_blk (r d : Fin 1024) : iblk m c 0 t (ix2 r d) = X m c (ix2 (row t r) d) := by blk_ext [iblk, V, idx t]

theorem g_blk (z : Fin 1) (d : Fin 1024) : iblk m c 1 t (ix2 z d) = G m c (ix1 d) := by
  rw [show iblk m c 1 t (ix2 z d) = V m c main_v0 (ix2 z d) by blk_ext [iblk, idx t]]
  entry_read
  pointwise

theorem w_blk (e : Fin 4096) (d : Fin 1024) : iblk m c 2 t (ix2 e d) = W m c (ix2 d e) := by
  rw [show iblk m c 2 t (ix2 e d) = V m c main_v1 (ix2 e d) by blk_ext [iblk, idx t]]
  entry_read
  pointwise

/-- The normed row times the gain. -/
theorem h_point (r d : Fin 1024) : k0_pay1 (F := Ideal) (iblk m c 0 t) (iblk m c 1 t) (ix2 r d) = val_main_v13 (F := Ideal) (X m c) (G m c) (ix3 0 (row t r) d) := by
  pointwise [k0_pay1, x_blk, g_blk, val_main_v13, val_main_v12, val_main_v11, val_main_v10, val_main_v9, val_main_v8, val_main_v7, val_main_v6, val_main_cst_1, val_main_v5, val_main_v4, val_main_cst_0, val_main_v3, val_main_v2, val_main_cst, val_main_v1, val_main_v0]

theorem emb3 (r : Fin 1024) (e : Fin 4096) : ((cfg0.win 3).blk t).view.emb (ix2 r e) = ix2 (row t r) e := by
  blk_ext [idx t]

theorem emb4 (r d : Fin 1024) : ((cfg0.win 4).blk t).view.emb (ix2 r d) = ix2 (row t r) d := by
  blk_ext [idx t]

/-- The product. -/
theorem whole3 : (dats m 0 c).arrAt 3 cfg0.N = val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  simp only [outsAt0]
  frame_open
  frame_out
  try simp only [read_unread_whole]
  obtain ⟨r, e, rfl⟩ : ∃ (r : Fin 1024) (e : Fin 4096), y = ix2 r e := ⟨y 0, y 1, eq_ix2 y⟩
  refine Eq.trans ?_ (congrArg _ (emb3 t r e).symm)
  pointwise [k0_pay2, h_point, w_blk, val_main_v17, val_main_v16, val_main_v15, val_main_v14]

/-- The normed rows. -/
theorem whole4 : (dats m 0 c).arrAt 4 cfg0.N = val_main_v19 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  simp only [outsAt0]
  frame_open
  frame_out
  try simp only [read_unread_whole]
  obtain ⟨r, d, rfl⟩ : ∃ (r d : Fin 1024), y = ix2 r d := ⟨y 0, y 1, eq_ix2 y⟩
  refine Eq.trans ?_ (congrArg _ (emb4 t r d).symm)
  pointwise [h_point, val_main_v19, val_main_v18]

end Cert.NormFwdIdeal.Value

end
-- ==== Proof.ReluFwd.lean ====
/- The squared ReLU before its product, with the residual: the kernel's result array is the reference's. -/
module

public import proofs.«01_k».proof.Proof.Gen.ReluFwdIdeal.Value
public import proofs.«01_k».proof.Proof.Gen.ReluFwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReluFwdIdeal.Value

open Cert.ReluFwdIdeal Cert.ReluFwdIdeal.Gen Cert.ReluFwdRefIdeal.Read

variable (m : (ℓ : Loc nD τ sig) → Buf (Elt Ideal) ℓ)

/-- Every window's block index at point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final (c : Dev nD) : (dats m 0 c).arrAt 3 cfg0.N = val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v8, val_main_v7, val_main_v6, val_main_v5, val_main_v4, val_main_v3, val_main_v2, val_main_call0_v0, val_main_call0_cst, val_main_v1, val_main_v0]
  blk_point [iblk, V, idx t]

end Cert.ReluFwdIdeal.Value

end
-- ==== Proof.ReluW.lean ====
/- The gradient of the weight behind the squared ReLU: the kernel's result array is the reference's. -/
module

public import proofs.«01_k».proof.Proof.Gen.ReluWIdeal.Value
public import proofs.«01_k».proof.Proof.Gen.ReluWRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReluWIdeal.Value

open Cert.ReluWIdeal Cert.ReluWIdeal.Gen Cert.ReluWRefIdeal.Read

variable (m : (ℓ : Loc nD τ sig) → Buf (Elt Ideal) ℓ)

/-- Every window's block index at point `t`. -/
theorem idx : ∀ t : Fin cfg0.N, win0_0.index t = ![0, t.val] ∧ win0_1.index t = ![0, 0] ∧ win0_2.index t = ![t.val, 0] :=
  (by decide +kernel : ∀ t : Fin grid0.N, _)

/-- Row `r` of point `t`'s block in the whole array. -/
abbrev row (t : Fin cfg0.N) (r : Fin 512) : Fin 4096 := ⟨t.val * 512 + r.val, by have := t.isLt; have : cfg0.N = 8 := rfl; omega⟩

theorem p_blk (c : Dev nD) (t : Fin cfg0.N) (s : Fin 4096) (r : Fin 512) : iblk m c 0 t (ix2 s r) = m ((c : Thread nD τ).loc main_arg0) (ix2 s (row t r)) := by blk_ext [iblk, V, idx t]

theorem ct_blk (c : Dev nD) (t : Fin cfg0.N) (s : Fin 4096) (d : Fin 1024) : iblk m c 1 t (ix2 s d) = m ((c : Thread nD τ).loc main_arg2) (ix2 s d) := by blk_ext [iblk, V, idx t]

theorem emb2 (t : Fin cfg0.N) (r : Fin 512) (d : Fin 1024) : ((cfg0.win 2).blk t).view.emb (ix2 r d) = ix2 (row t r) d := by blk_ext [idx t]

theorem final (c : Dev nD) : (dats m 0 c).arrAt 2 cfg0.N = val_main_v10 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  simp only [outsAt0]
  frame_open
  frame_out
  try simp only [read_unread_whole]
  obtain ⟨r, d, rfl⟩ : ∃ (r : Fin 512) (d : Fin 1024), y = ix2 r d := ⟨y 0, y 1, eq_ix2 y⟩
  refine Eq.trans ?_ (congrArg _ (emb2 t r d).symm)
  pointwise [k0_pay1, p_blk, ct_blk, val_main_v10, val_main_v9, val_main_v8, val_main_v7, val_main_v6, val_main_v4, val_main_v3, val_main_call0_v0, val_main_call0_cst, val_main_v2, val_main_v1]
  exact Eq.trans (α := EReal) (Finset.sum_congr (M := EReal) rfl fun s _ => EReal.mul_comm _ _) (Fin.sum_univ_one (M := EReal) fun _ => _).symm

end Cert.ReluWIdeal.Value

end
-- ==== Proof.UpW.lean ====
/- The gradient of the upward weight, a plain product: the kernel's result array is the reference's. -/
module

public import proofs.«01_k».proof.Proof.Gen.UpWIdeal.Value
public import proofs.«01_k».proof.Proof.Gen.UpWRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpWIdeal.Value

open Cert.UpWIdeal Cert.UpWIdeal.Gen Cert.UpWRefIdeal.Read

variable (m : (ℓ : Loc nD τ sig) → Buf (Elt Ideal) ℓ)

/-- Every window's block index at point `t`. -/
theorem idx : ∀ t : Fin cfg0.N, win0_0.index t = ![0, t.val] ∧ win0_1.index t = ![0, 0] ∧ win0_2.index t = ![t.val, 0] :=
  (by decide +kernel : ∀ t : Fin grid0.N, _)

/-- Row `r` of point `t`'s block in the whole array. -/
abbrev row (t : Fin cfg0.N) (r : Fin 512) : Fin 4096 := ⟨t.val * 512 + r.val, by have := t.isLt; have : cfg0.N = 8 := rfl; omega⟩

theorem ct_blk (c : Dev nD) (t : Fin cfg0.N) (s : Fin 4096) (r : Fin 512) : iblk m c 0 t (ix2 s r) = m ((c : Thread nD τ).loc main_arg0) (ix2 s (row t r)) := by blk_ext [iblk, V, idx t]

theorem h_blk (c : Dev nD) (t : Fin cfg0.N) (s : Fin 4096) (d : Fin 1024) : iblk m c 1 t (ix2 s d) = m ((c : Thread nD τ).loc main_arg1) (ix2 s d) := by blk_ext [iblk, V, idx t]

theorem emb2 (t : Fin cfg0.N) (r : Fin 512) (d : Fin 1024) : ((cfg0.win 2).blk t).view.emb (ix2 r d) = ix2 (row t r) d := by blk_ext [idx t]

theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  simp only [outsAt0]
  frame_open
  frame_out
  try simp only [read_unread_whole]
  obtain ⟨r, d, rfl⟩ : ∃ (r : Fin 512) (d : Fin 1024), y = ix2 r d := ⟨y 0, y 1, eq_ix2 y⟩
  refine Eq.trans ?_ (congrArg _ (emb2 t r d).symm)
  pointwise [k0_pay1, ct_blk, h_blk, val_main_v9, val_main_v8, val_main_v7, val_main_v6, val_main_v5, val_main_v4, val_main_v2, val_main_v1]
  exact (Fin.sum_univ_one (M := EReal) fun _ => _).symm

end Cert.UpWIdeal.Value

end
-- ==== Proof.StepUp.lean ====
/- The optimiser's step of the upward weight: the kernel's four result arrays are the reference's. -/
module

public import proofs.«01_k».proof.Proof.Gen.StepUpIdeal.Value
public import proofs.«01_k».proof.Proof.Gen.StepUpRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.StepUpIdeal.Value

open Cert.StepUpIdeal Cert.StepUpIdeal.Gen Cert.StepUpRefIdeal.Read

variable (m : (ℓ : Loc nD τ sig) → Buf (Elt Ideal) ℓ)

/-- Every window's block index at point `t`: the first layer's gradient moves with the first four points, the second's with the last four. -/
theorem idx : ∀ t : Fin cfg0.N, (t.val < 4 → win0_0.index t = ![t.val, 0]) ∧ (4 ≤ t.val → win0_1.index t = ![t.val - 4, 0]) ∧
    win0_2.index t = ![t.val / 4, t.val % 4, 0] ∧ win0_3.index t = ![t.val / 4, t.val % 4, 0] ∧ win0_4.index t = ![t.val / 4, t.val % 4, 0] ∧
    win0_5.index t = ![t.val / 4, t.val % 4, 0] ∧ win0_6.index t = ![t.val / 4, t.val % 4, 0] ∧ win0_7.index t = ![t.val / 4, t.val % 4, 0] ∧
    win0_8.index t = ![t.val / 4, t.val % 4, 0] :=
  (by decide +kernel : ∀ t : Fin grid0.N, _)

theorem idx_lo (t : Fin cfg0.N) (h : t.val < 4) : win0_0.index t = ![t.val % 4, 0] := by rw [(idx t).1 h, Nat.mod_eq_of_lt h]

theorem idx_hi (t : Fin cfg0.N) (h : ¬t.val < 4) : win0_1.index t = ![t.val % 4, 0] := by
  have := t.isLt; have : cfg0.N = 8 := rfl
  rw [(idx t).2.1 (by omega), show t.val % 4 = t.val - 4 by omega]

/-- Point `t`'s layer. -/
abbrev lay (t : Fin cfg0.N) : Fin 2 := ⟨t.val / 4, by have := t.isLt; have : cfg0.N = 8 := rfl; omega⟩

/-- Row `r` of point `t`'s block in the layer's array. -/
abbrev row (t : Fin cfg0.N) (r : Fin 256) : Fin 1024 := ⟨t.val % 4 * 256 + r.val, by omega⟩

theorem lo_blk (c : Dev nD) (t : Fin cfg0.N) (h : t.val < 4) (r : Fin 256) (d : Fin 512) : iblk m c 0 t (ix2 r d) = m ((c : Thread nD τ).loc main_arg1) (ix2 (row t r) d) := by blk_ext [iblk, V, idx_lo t h]

theorem hi_blk (c : Dev nD) (t : Fin cfg0.N) (h : ¬t.val < 4) (r : Fin 256) (d : Fin 512) : iblk m c 1 t (ix2 r d) = m ((c : Thread nD τ).loc main_arg2) (ix2 (row t r) d) := by blk_ext [iblk, V, idx_hi t h]

theorem blk2 (c : Dev nD) (t : Fin cfg0.N) (r : Fin 256) (d : Fin 512) : iblk m c 2 t (ix3 (0 : Fin 1) r d) = m ((c : Thread nD τ).loc main_arg0) (ix3 (lay t) (row t r) d) := by blk_ext [iblk, V, idx t]

theorem blk3 (c : Dev nD) (t : Fin cfg0.N) (r : Fin 256) (d : Fin 512) : iblk m c 3 t (ix3 (0 : Fin 1) r d) = m ((c : Thread nD τ).loc main_arg3) (ix3 (lay t) (row t r) d) := by blk_ext [iblk, V, idx t]

theorem blk4 (c : Dev nD) (t : Fin cfg0.N) (r : Fin 256) (d : Fin 512) : iblk m c 4 t (ix3 (0 : Fin 1) r d) = m ((c : Thread nD τ).loc main_arg4) (ix3 (lay t) (row t r) d) := by blk_ext [iblk, V, idx t]

theorem emb5 (t : Fin cfg0.N) (r : Fin 256) (d : Fin 512) : ((cfg0.win 5).blk t).view.emb (ix3 (0 : Fin 1) r d) = ix3 (lay t) (row t r) d := by blk_ext [idx t]

theorem emb6 (t : Fin cfg0.N) (r : Fin 256) (d : Fin 512) : ((cfg0.win 6).blk t).view.emb (ix3 (0 : Fin 1) r d) = ix3 (lay t) (row t r) d := by blk_ext [idx t]

theorem emb7 (t : Fin cfg0.N) (r : Fin 256) (d : Fin 512) : ((cfg0.win 7).blk t).view.emb (ix3 (0 : Fin 1) r d) = ix3 (lay t) (row t r) d := by blk_ext [idx t]

theorem emb8 (t : Fin cfg0.N) (r : Fin 256) (d : Fin 512) : ((cfg0.win 8).blk t).view.emb (ix3 (0 : Fin 1) r d) = ix3 (lay t) (row t r) d := by blk_ext [idx t]

/-- The two layers' gradients as one array, at a point of the first layer. -/
theorem both_lo (x1 x2 : (⟨S1024x512, .f32⟩ : BufTy).Contents (Elt Ideal)) (t : Fin cfg0.N) (h : t.val < 4) (r : Fin 1024) (d : Fin 512) :
    val_main_v2 (F := Ideal) x1 x2 (ix3 (lay t) r d) = x1 (ix2 r d) := by
  rw [show lay t = 0 from Fin.ext (show t.val / 4 = 0 by omega)]
  pointwise [val_main_v2, val_main_v1, val_main_v0]

/-- And at a point of the second. -/
theorem both_hi (x1 x2 : (⟨S1024x512, .f32⟩ : BufTy).Contents (Elt Ideal)) (t : Fin cfg0.N) (h : ¬t.val < 4) (r : Fin 1024) (d : Fin 512) :
    val_main_v2 (F := Ideal) x1 x2 (ix3 (lay t) r d) = x2 (ix2 r d) := by
  have := t.isLt
  have e : cfg0.N = 8 := rfl
  rw [show lay t = 1 from Fin.ext (show t.val / 4 = 1 by omega)]
  pointwise [val_main_v2, val_main_v1, val_main_v0]

theorem whole5 (c : Dev nD) : (dats m 0 c).arrAt 5 cfg0.N = val_main_v2 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  obtain ⟨a, r, d, rfl⟩ : ∃ (a : Fin 1) (r : Fin 256) (d : Fin 512), y = ix3 a r d := ⟨y 0, y 1, y 2, eq_ix3 y⟩
  obtain rfl : a = 0 := Subsingleton.elim _ _
  by_cases h0 : t.val < 4
  · rw [outsAt0_A m c t h0 (by omega)]
    frame_open; frame_out
    try simp only [read_unread_whole]
    refine Eq.trans ?_ (congrArg _ (emb5 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, lo_blk m c t h0, both_lo _ _ t h0]
  · rw [outsAt0_B m c t h0 (by omega)]
    frame_open; frame_out
    try simp only [read_unread_whole]
    refine Eq.trans ?_ (congrArg _ (emb5 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, hi_blk m c t h0, both_hi _ _ t h0]

theorem whole6 (c : Dev nD) : (dats m 0 c).arrAt 6 cfg0.N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨a, r, d, rfl⟩ : ∃ (a : Fin 1) (r : Fin 256) (d : Fin 512), y = ix3 a r d := ⟨y 0, y 1, y 2, eq_ix3 y⟩
  obtain rfl : a = 0 := Subsingleton.elim _ _
  by_cases h0 : t.val < 4
  · rw [outsAt0_A m c t h0 (by omega)]
    frame_open; frame_out
    try simp only [read_unread_whole]
    refine Eq.trans ?_ (congrArg _ (emb6 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, lo_blk m c t h0, both_lo _ _ t h0, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]
  · rw [outsAt0_B m c t h0 (by omega)]
    frame_open; frame_out
    try simp only [read_unread_whole]
    refine Eq.trans ?_ (congrArg _ (emb6 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, hi_blk m c t h0, both_hi _ _ t h0, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]

theorem whole7 (c : Dev nD) : (dats m 0 c).arrAt 7 cfg0.N = val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain ⟨a, r, d, rfl⟩ : ∃ (a : Fin 1) (r : Fin 256) (d : Fin 512), y = ix3 a r d := ⟨y 0, y 1, y 2, eq_ix3 y⟩
  obtain rfl : a = 0 := Subsingleton.elim _ _
  by_cases h0 : t.val < 4
  · rw [outsAt0_A m c t h0 (by omega)]
    frame_open; frame_out
    try simp only [read_unread_whole]
    refine Eq.trans ?_ (congrArg _ (emb7 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, lo_blk m c t h0, both_lo _ _ t h0, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]
  · rw [outsAt0_B m c t h0 (by omega)]
    frame_open; frame_out
    try simp only [read_unread_whole]
    refine Eq.trans ?_ (congrArg _ (emb7 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, hi_blk m c t h0, both_hi _ _ t h0, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]

theorem whole8 (c : Dev nD) : (dats m 0 c).arrAt 8 cfg0.N = val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  obtain ⟨a, r, d, rfl⟩ : ∃ (a : Fin 1) (r : Fin 256) (d : Fin 512), y = ix3 a r d := ⟨y 0, y 1, y 2, eq_ix3 y⟩
  obtain rfl : a = 0 := Subsingleton.elim _ _
  by_cases h0 : t.val < 4
  · rw [outsAt0_A m c t h0 (by omega)]
    frame_open; frame_out
    try simp only [read_unread_whole]
    refine Eq.trans ?_ (congrArg _ (emb8 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, lo_blk m c t h0, both_lo _ _ t h0, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]
  · rw [outsAt0_B m c t h0 (by omega)]
    frame_open; frame_out
    try simp only [read_unread_whole]
    refine Eq.trans ?_ (congrArg _ (emb8 t r d).symm)
    pointwise [k0_pay1, k0_pay2, k0_pay3, k0_pay4, k0_pay5, k0_pay6, k0_pay7, k0_pay8, k0_pay9, k0_pay10, k0_pay11, k0_pay12, k0_pay13, k0_pay14, blk2, blk3, blk4, hi_blk m c t h0, both_hi _ _ t h0, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]

end Cert.StepUpIdeal.Value

end
-- ==== Proof.Grads.lean ====
/- The gradients of the three branch weights, plain products of whole rows summed block after block: each of the kernel's result arrays is the reference's. -/
module

public import proofs.«01_k».proof.Proof.Gen.GradsIdeal.Value
public import proofs.«01_k».proof.Proof.Gen.GradsRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradsIdeal.Value

open Cert.GradsIdeal Cert.GradsIdeal.Gen Cert.GradsRefIdeal.Read

variable (m : (ℓ : Loc nD τ sig) → Buf (Elt Ideal) ℓ)

/-- Every window's block index at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

/-- Row `r` of point `t`'s block in the whole array. -/
abbrev row (t : Fin cfg0.N) (r : Fin 1024) : Fin 4096 := ⟨t.val * 1024 + r.val, by have := t.isLt; have : cfg0.N = 4 := rfl; omega⟩

abbrev M (c : Dev nD) : FVec Ideal S4096x1024 .bf16 := m ((c : Thread nD τ).loc main_arg0)
abbrev X (c : Dev nD) : FVec Ideal S4096x1024 .bf16 := m ((c : Thread nD τ).loc main_arg1)
abbrev A (c : Dev nD) : FVec Ideal S4096x1280 .bf16 := m ((c : Thread nD τ).loc main_arg2)
abbrev DA (c : Dev nD) : FVec Ideal S4096x1024 .bf16 := m ((c : Thread nD τ).loc main_arg3)
abbrev B (c : Dev nD) : FVec Ideal S4096x1024 .bf16 := m ((c : Thread nD τ).loc main_arg4)
abbrev DB (c : Dev nD) : FVec Ideal S4096x1024 .bf16 := m ((c : Thread nD τ).loc main_arg5)

variable (c : Dev nD) (t : Fin cfg0.N)

abbrev tLast : Fin cfg0.N := ⟨3, by decide⟩

theorem blk0 (r : Fin 1024) (d : Fin 1024) : iblk m c 0 t (ix2 r d) = M m c (ix2 (row t r) d) := by blk_ext [iblk, V, idx t]

theorem blk1 (r : Fin 1024) (d : Fin 1024) : iblk m c 1 t (ix2 r d) = X m c (ix2 (row t r) d) := by blk_ext [iblk, V, idx t]

theorem blk2 (r : Fin 1024) (d : Fin 1280) : iblk m c 2 t (ix2 r d) = A m c (ix2 (row t r) d) := by blk_ext [iblk, V, idx t]

theorem blk3 (r : Fin 1024) (d : Fin 1024) : iblk m c 3 t (ix2 r d) = DA m c (ix2 (row t r) d) := by blk_ext [iblk, V, idx t]

theorem blk4 (r : Fin 1024) (d : Fin 1024) : iblk m c 4 t (ix2 r d) = B m c (ix2 (row t r) d) := by blk_ext [iblk, V, idx t]

theorem blk5 (r : Fin 1024) (d : Fin 1024) : iblk m c 5 t (ix2 r d) = DB m c (ix2 (row t r) d) := by blk_ext [iblk, V, idx t]

theorem m_A (h : t.val % 4 = 0) (i : Fin 1024) (e : Fin 1024) : (outsAt0 m c t.val t.isLt).2.2.2.1 (ix2 i e) = (0 : EReal) + ∑ r, M m c (ix2 (row t r) i) * X m c (ix2 (row t r) e) := by
  have h1 : ¬ 1 ≤ t.val := by have := t.isLt; have : cfg0.N = 4 := rfl; omega
  have h6 : ¬ t.val % 4 = 3 := by omega
  refine Eq.trans ?_ (zero_add _).symm
  rw [outsAt0_A m c t h h1 h h1 h h1 h6]
  frame_open
  frame_out
  pointwise [k0_pay5, k0_pay6, k0_pay7, k0_pay2, blk0, blk1]

theorem m_pos (h : ¬ t.val % 4 = 0) (i : Fin 1024) (e : Fin 1024) : (outsAt0 m c t.val t.isLt).2.2.2.1 (ix2 i e) = (outsAt0 m c (t.val - 1) (Nat.lt_of_le_of_lt (Nat.sub_le _ _) t.isLt)).2.2.2.1 (ix2 i e) + ∑ r, M m c (ix2 (row t r) i) * X m c (ix2 (row t r) e) := by
  have h1 : 1 ≤ t.val := by omega
  by_cases h6 : t.val % 4 = 3
  on_goal 1 => rw [outsAt0_C m c t h h1 h h1 h h1 h6]
  on_goal 2 => rw [outsAt0_B m c t h h1 h h1 h h1 h6]
  all_goals
    frame_open
    frame_out
    pointwise [k0_pay5, k0_pay6, k0_pay7, k0_pay2, blk0, blk1]
    exact congrArg (fun v : EReal => v + _) (congrFun (read_unread_whole _ (Memref.isWhole_whole _) _) _)

theorem m_out (h : ¬ t.val % 4 = 0) (h6 : t.val % 4 = 3) (i : Fin 1024) (e : Fin 1024) : (outsAt0 m c t.val t.isLt).1 (ix2 i e) = (outsAt0 m c (t.val - 1) (Nat.lt_of_le_of_lt (Nat.sub_le _ _) t.isLt)).2.2.2.1 (ix2 i e) + ∑ r, M m c (ix2 (row t r) i) * X m c (ix2 (row t r) e) := by
  have h1 : 1 ≤ t.val := by omega
  rw [outsAt0_C m c t h h1 h h1 h h1 h6]
  frame_open
  frame_out
  pointwise [k0_pay5, k0_pay6, k0_pay7, k0_pay2, blk0, blk1]
  exact congrArg (fun v : EReal => v + _) (congrFun (read_unread_whole _ (Memref.isWhole_whole _) _) _)

/-- The output weight's gradient, as the last point leaves it. -/
theorem m_last (i : Fin 1024) (e : Fin 1024) : (outsAt0 m c tLast.val tLast.isLt).1 (ix2 i e) = ∑ s : Fin 4096, M m c (ix2 s i) * X m c (ix2 s e) := by
  refine (m_out m c tLast (by decide) (by decide) i e).trans ((m_pos m c tLast (by decide) i e).symm.trans ?_)
  refine (Pipeline.eq_sum_fin_of_reset_step_apply_last (fun n h (_ : Unit) => ((outsAt0 m c n h).2.2.2.1 (ix2 i e) : EReal)) 4 (fun _ => 0)
    (fun t _ => ∑ r, M m c (ix2 (row t r) i) * X m c (ix2 (row t r) e)) (fun t h _ => m_A m c t h i e) (fun t h _ => m_pos m c t h i e)
    (by decide) tLast rfl ()).trans ?_
  exact (zero_add _).trans (Fin.sum_mul_add_congr fun s k hl => rfl)

/-- The output weight's gradient. -/
theorem whole6 : (dats m 0 c).arrAt 6 cfg0.N = val_main_v24 (F := Ideal) (m ((c : Thread nD τ).loc main_arg0)) (m ((c : Thread nD τ).loc main_arg1)) := by
  refine (dats m 0 c).arrAt_eq_of_after_last 6 tLast (by decide +kernel) _ fun j => ?_
  blk_simp
  rw [after0_6]
  obtain ⟨i, e, rfl⟩ : ∃ (i : Fin 1024) (e : Fin 1024), j = ix2 i e := ⟨j 0, j 1, eq_ix2 j⟩
  refine (m_last m c i e).trans ?_
  pointwise [val_main_v24, val_main_v19, val_main_v18, val_main_v10, val_main_v13, val_main_v9, val_main_v12]
  refine Eq.trans ?_ (Fin.sum_univ_one (M := EReal) fun _ => _).symm
  exact Finset.sum_congr rfl fun s _ => mul_comm _ _

theorem a_A (h : t.val % 4 = 0) (i : Fin 1280) (e : Fin 1024) : (outsAt0 m c t.val t.isLt).2.2.2.2.1 (ix2 i e) = (0 : EReal) + ∑ r, A m c (ix2 (row t r) i) * DA m c (ix2 (row t r) e) := by
  have h1 : ¬ 1 ≤ t.val := by have := t.isLt; have : cfg0.N = 4 := rfl; omega
  have h6 : ¬ t.val % 4 = 3 := by omega
  refine Eq.trans ?_ (zero_add _).symm
  rw [outsAt0_A m c t h h1 h h1 h h1 h6]
  frame_open
  frame_out
  pointwise [k0_pay8, k0_pay9, k0_pay10, k0_pay3, blk2, blk3]

theorem a_pos (h : ¬ t.val % 4 = 0) (i : Fin 1280) (e : Fin 1024) : (outsAt0 m c t.val t.isLt).2.2.2.2.1 (ix2 i e) = (outsAt0 m c (t.val - 1) (Nat.lt_of_le_of_lt (Nat.sub_le _ _) t.isLt)).2.2.2.2.1 (ix2 i e) + ∑ r, A m c (ix2 (row t r) i) * DA m c (ix2 (row t r) e) := by
  have h1 : 1 ≤ t.val := by omega
  by_cases h6 : t.val % 4 = 3
  on_goal 1 => rw [outsAt0_C m c t h h1 h h1 h h1 h6]
  on_goal 2 => rw [outsAt0_B m c t h h1 h h1 h h1 h6]
  all_goals
    frame_open
    frame_out
    pointwise [k0_pay8, k0_pay9, k0_pay10, k0_pay3, blk2, blk3]
    exact congrArg (fun v : EReal => v + _) (congrFun (read_unread_whole _ (Memref.isWhole_whole _) _) _)

theorem a_out (h : ¬ t.val % 4 = 0) (h6 : t.val % 4 = 3) (i : Fin 1280) (e : Fin 1024) : (outsAt0 m c t.val t.isLt).2.1 (ix2 i e) = (outsAt0 m c (t.val - 1) (Nat.lt_of_le_of_lt (Nat.sub_le _ _) t.isLt)).2.2.2.2.1 (ix2 i e) + ∑ r, A m c (ix2 (row t r) i) * DA m c (ix2 (row t r) e) := by
  have h1 : 1 ≤ t.val := by omega
  rw [outsAt0_C m c t h h1 h h1 h h1 h6]
  frame_open
  frame_out
  pointwise [k0_pay8, k0_pay9, k0_pay10, k0_pay3, blk2, blk3]
  exact congrArg (fun v : EReal => v + _) (congrFun (read_unread_whole _ (Memref.isWhole_whole _) _) _)

/-- The first branch's weight's gradient, as the last point leaves it. -/
theorem a_last (i : Fin 1280) (e : Fin 1024) : (outsAt0 m c tLast.val tLast.isLt).2.1 (ix2 i e) = ∑ s : Fin 4096, A m c (ix2 s i) * DA m c (ix2 s e) := by
  refine (a_out m c tLast (by decide) (by decide) i e).trans ((a_pos m c tLast (by decide) i e).symm.trans ?_)
  refine (Pipeline.eq_sum_fin_of_reset_step_apply_last (fun n h (_ : Unit) => ((outsAt0 m c n h).2.2.2.2.1 (ix2 i e) : EReal)) 4 (fun _ => 0)
    (fun t _ => ∑ r, A m c (ix2 (row t r) i) * DA m c (ix2 (row t r) e)) (fun t h _ => a_A m c t h i e) (fun t h _ => a_pos m c t h i e)
    (by decide) tLast rfl ()).trans ?_
  exact (zero_add _).trans (Fin.sum_mul_add_congr fun s k hl => rfl)

/-- The first branch's weight's gradient. -/
theorem whole7 : (dats m 0 c).arrAt 7 cfg0.N = val_main_v25 (F := Ideal) (m ((c : Thread nD τ).loc main_arg2)) (m ((c : Thread nD τ).loc main_arg3)) := by
  refine (dats m 0 c).arrAt_eq_of_after_last 7 tLast (by decide +kernel) _ fun j => ?_
  blk_simp
  rw [after0_7]
  obtain ⟨i, e, rfl⟩ : ∃ (i : Fin 1280) (e : Fin 1024), j = ix2 i e := ⟨j 0, j 1, eq_ix2 j⟩
  refine (a_last m c i e).trans ?_
  pointwise [val_main_v25, val_main_v23, val_main_v22, val_main_v15, val_main_v4, val_main_v14, val_main_v3]
  refine Eq.trans ?_ (Fin.sum_univ_one (M := EReal) fun _ => _).symm
  exact Finset.sum_congr rfl fun s _ => mul_comm _ _

theorem b_A (h : t.val % 4 = 0) (i : Fin 1024) (e : Fin 1024) : (outsAt0 m c t.val t.isLt).2.2.2.2.2 (ix2 i e) = (0 : EReal) + ∑ r, B m c (ix2 (row t r) i) * DB m c (ix2 (row t r) e) := by
  have h1 : ¬ 1 ≤ t.val := by have := t.isLt; have : cfg0.N = 4 := rfl; omega
  have h6 : ¬ t.val % 4 = 3 := by omega
  refine Eq.trans ?_ (zero_add _).symm
  rw [outsAt0_A m c t h h1 h h1 h h1 h6]
  frame_open
  frame_out
  pointwise [k0_pay11, k0_pay12, k0_pay1, k0_pay4, blk4, blk5]

theorem b_pos (h : ¬ t.val % 4 = 0) (i : Fin 1024) (e : Fin 1024) : (outsAt0 m c t.val t.isLt).2.2.2.2.2 (ix2 i e) = (outsAt0 m c (t.val - 1) (Nat.lt_of_le_of_lt (Nat.sub_le _ _) t.isLt)).2.2.2.2.2 (ix2 i e) + ∑ r, B m c (ix2 (row t r) i) * DB m c (ix2 (row t r) e) := by
  have h1 : 1 ≤ t.val := by omega
  by_cases h6 : t.val % 4 = 3
  on_goal 1 => rw [outsAt0_C m c t h h1 h h1 h h1 h6]
  on_goal 2 => rw [outsAt0_B m c t h h1 h h1 h h1 h6]
  all_goals
    frame_open
    frame_out
    pointwise [k0_pay11, k0_pay12, k0_pay1, k0_pay4, blk4, blk5]
    exact congrArg (fun v : EReal => v + _) (congrFun (read_unread_whole _ (Memref.isWhole_whole _) _) _)

theorem b_out (h : ¬ t.val % 4 = 0) (h6 : t.val % 4 = 3) (i : Fin 1024) (e : Fin 1024) : (outsAt0 m c t.val t.isLt).2.2.1 (ix2 i e) = (outsAt0 m c (t.val - 1) (Nat.lt_of_le_of_lt (Nat.sub_le _ _) t.isLt)).2.2.2.2.2 (ix2 i e) + ∑ r, B m c (ix2 (row t r) i) * DB m c (ix2 (row t r) e) := by
  have h1 : 1 ≤ t.val := by omega
  rw [outsAt0_C m c t h h1 h h1 h h1 h6]
  frame_open
  frame_out
  pointwise [k0_pay11, k0_pay12, k0_pay1, k0_pay4, blk4, blk5]
  exact congrArg (fun v : EReal => v + _) (congrFun (read_unread_whole _ (Memref.isWhole_whole _) _) _)

/-- The second branch's weight's gradient, as the last point leaves it. -/
theorem b_last (i : Fin 1024) (e : Fin 1024) : (outsAt0 m c tLast.val tLast.isLt).2.2.1 (ix2 i e) = ∑ s : Fin 4096, B m c (ix2 s i) * DB m c (ix2 s e) := by
  refine (b_out m c tLast (by decide) (by decide) i e).trans ((b_pos m c tLast (by decide) i e).symm.trans ?_)
  refine (Pipeline.eq_sum_fin_of_reset_step_apply_last (fun n h (_ : Unit) => ((outsAt0 m c n h).2.2.2.2.2 (ix2 i e) : EReal)) 4 (fun _ => 0)
    (fun t _ => ∑ r, B m c (ix2 (row t r) i) * DB m c (ix2 (row t r) e)) (fun t h _ => b_A m c t h i e) (fun t h _ => b_pos m c t h i e)
    (by decide) tLast rfl ()).trans ?_
  exact (zero_add _).trans (Fin.sum_mul_add_congr fun s k hl => rfl)

/-- The second branch's weight's gradient. -/
theorem whole8 : (dats m 0 c).arrAt 8 cfg0.N = val_main_v26 (F := Ideal) (m ((c : Thread nD τ).loc main_arg4)) (m ((c : Thread nD τ).loc main_arg5)) := by
  refine (dats m 0 c).arrAt_eq_of_after_last 8 tLast (by decide +kernel) _ fun j => ?_
  blk_simp
  rw [after0_8]
  obtain ⟨i, e, rfl⟩ : ∃ (i : Fin 1024) (e : Fin 1024), j = ix2 i e := ⟨j 0, j 1, eq_ix2 j⟩
  refine (b_last m c i e).trans ?_
  pointwise [val_main_v26, val_main_v21, val_main_v20, val_main_v17, val_main_v7, val_main_v16, val_main_v6]
  refine Eq.trans ?_ (Fin.sum_univ_one (M := EReal) fun _ => _).symm
  exact Finset.sum_congr rfl fun s _ => mul_comm _ _

end Cert.GradsIdeal.Value

end
-- ==== Proof.References.lean ====
/- The references' runs, with each result as the reference's own composed value. -/
module

public import proofs.«01_k».proof.Proof.Gen.UpRefIdeal.Run
public import proofs.«01_k».proof.Proof.Gen.UpRefIdeal.Read
public import proofs.«01_k».proof.Proof.Gen.NormFwdRefIdeal.Run
public import proofs.«01_k».proof.Proof.Gen.NormFwdRefIdeal.Read
public import proofs.«01_k».proof.Proof.Gen.ReluFwdRefIdeal.Run
public import proofs.«01_k».proof.Proof.Gen.ReluFwdRefIdeal.Read
public import proofs.«01_k».proof.Proof.Gen.ReluWRefIdeal.Run
public import proofs.«01_k».proof.Proof.Gen.ReluWRefIdeal.Read
public import proofs.«01_k».proof.Proof.Gen.UpWRefIdeal.Run
public import proofs.«01_k».proof.Proof.Gen.UpWRefIdeal.Read
public import proofs.«01_k».proof.Proof.Gen.StepUpRefIdeal.Run
public import proofs.«01_k».proof.Proof.Gen.StepUpRefIdeal.Read
public import proofs.«01_k».proof.Proof.Gen.GradsRefIdeal.Run
public import proofs.«01_k».proof.Proof.Gen.GradsRefIdeal.Read
public import proofs.«01_k».proof.Proof.Gen.ReluRefIdeal.Read
public import proofs.«01_k».proof.Proof.Gen.MergeRefIdeal.Read
public import proofs.«01_k».proof.Proof.Gen.SguRefIdeal.Read
public import proofs.«01_k».proof.Proof.Gen.SguFwdRefIdeal.Read
public import proofs.«01_k».proof.Proof.Gen.NormRefIdeal.Read
public import proofs.«01_k».proof.Proof.Gen.LossRefIdeal.Read
public import proofs.«01_k».proof.Proof.Gen.MergeFwdRefIdeal.Read

@[expose] public section

noncomputable section

namespace Cert.MergeRefIdeal.Value

open Idealize.ShloMosaic Idealize.SL.Sem Cert.MergeRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = Read.val_main_v51 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v53) = Read.val_main_v53 (F := Ideal) (m ((c.tc : Thread nD τ).loc main_arg0)) (m ((c.tc : Thread nD τ).loc main_arg3)) (m ((c.tc : Thread nD τ).loc main_arg6))
      ∧ r.2.mem ((c.tc : Thread nD τ).loc main_v55) = Read.val_main_v55 (F := Ideal) (m ((c.tc : Thread nD τ).loc main_arg0)) (m ((c.tc : Thread nD τ).loc main_arg3)) (m ((c.tc : Thread nD τ).loc main_arg6))
      ∧ r.2.mem ((c.tc : Thread nD τ).loc main_v57) = Read.val_main_v57 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6))
      ∧ r.2.mem ((c.tc : Thread nD τ).loc main_v59) = Read.val_main_v59 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v61) = Read.val_main_v61 (F := Ideal) (m ((c.tc : Thread nD τ).loc main_arg0)) (m ((c.tc : Thread nD τ).loc main_arg3)) (m ((c.tc : Thread nD τ).loc main_arg4)) (m ((c.tc : Thread nD τ).loc main_arg6))
      ∧ r.2.mem ((c.tc : Thread nD τ).loc main_v63) = Read.val_main_v63 (F := Ideal) (m ((c.tc : Thread nD τ).loc main_arg0)) (m ((c.tc : Thread nD τ).loc main_arg3)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (Read.val_main_v51_eq _ _ _ _ _), (h c).2.1.trans (Read.val_main_v53_eq _ _ _), (h c).2.2.1.trans (Read.val_main_v55_eq _ _ _), (h c).2.2.2.1.trans (Read.val_main_v57_eq _ _ _ _ _), (h c).2.2.2.2.1.trans (Read.val_main_v59_eq _ _ _ _ _), (h c).2.2.2.2.2.1.trans (Read.val_main_v61_eq _ _ _ _), (h c).2.2.2.2.2.2.1.trans (Read.val_main_v63_eq _ _ _ _), (h c).2.2.2.2.2.2.2⟩) (run m ρ)

end Cert.MergeRefIdeal.Value

namespace Cert.ReluRefIdeal.Value

open Idealize.ShloMosaic Idealize.SL.Sem Cert.ReluRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Read.val_main_v18 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v18_eq _ _ _), (h c).2⟩) (run m ρ)

end Cert.ReluRefIdeal.Value

namespace Cert.SguRefIdeal.Value

open Idealize.ShloMosaic Idealize.SL.Sem Cert.SguRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v171) = Read.val_main_v171 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v173) = Read.val_main_v173 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v111) = Read.val_main_v111 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v175) = Read.val_main_v175 (F := Ideal) (m ((c.tc : Thread nD τ).loc main_arg0)) (m ((c.tc : Thread nD τ).loc main_arg1))
      ∧ r.2.mem ((c.tc : Thread nD τ).loc main_v176) = Read.val_main_v176 (F := Ideal) (m ((c.tc : Thread nD τ).loc main_arg0)) (m ((c.tc : Thread nD τ).loc main_arg1)) (m ((c.tc : Thread nD τ).loc main_arg4))
      ∧ r.2.mem ((c.tc : Thread nD τ).loc main_v177) = Read.val_main_v177 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Read.val_main_v171_eq _), (h c).2.1.trans (Read.val_main_v173_eq _), (h c).2.2.1.trans (Read.val_main_v111_eq _), (h c).2.2.2.1.trans (Read.val_main_v175_eq _), (h c).2.2.2.2.1.trans (Read.val_main_v176_eq _), (h c).2.2.2.2.2.1.trans (Read.val_main_v177_eq _), (h c).2.2.2.2.2.2⟩) (run m ρ)

end Cert.SguRefIdeal.Value

namespace Cert.SguFwdRefIdeal.Value

open Idealize.ShloMosaic Idealize.SL.Sem Cert.SguFwdRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v79_eq _ _), (h c).2⟩) (run m ρ)

end Cert.SguFwdRefIdeal.Value

namespace Cert.NormRefIdeal.Value

open Idealize.ShloMosaic Idealize.SL.Sem Cert.NormRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v58) = Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (Read.val_main_v56_eq _ _), (h c).2.1.trans (Read.val_main_v58_eq _ _), (h c).2.2.1.trans (Read.val_main_v59_eq _ _ _ _ _ _ _ _), (h c).2.2.2⟩) (run m ρ)

end Cert.NormRefIdeal.Value

namespace Cert.LossRefIdeal.Value

open Idealize.ShloMosaic Idealize.SL.Sem Cert.LossRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v63) = Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v64) = Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v65) = Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v61_eq _ _), (h c).2.1.trans (Read.val_main_v63_eq _ _), (h c).2.2.1.trans (Read.val_main_v64_eq _ _), (h c).2.2.2.1.trans (Read.val_main_v65_eq _ _), (h c).2.2.2.2⟩) (run m ρ)

end Cert.LossRefIdeal.Value

namespace Cert.MergeFwdRefIdeal.Value

open Idealize.ShloMosaic Idealize.SL.Sem Cert.MergeFwdRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v37) = Read.val_main_v37 (F := Ideal) (m ((c.tc : Thread nD τ).loc main_arg0)) (m ((c.tc : Thread nD τ).loc main_arg4))
      ∧ r.2.mem ((c.tc : Thread nD τ).loc main_v39) = Read.val_main_v39 (F := Ideal) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (Read.val_main_v35_eq _ _ _ _ _ _ _), (h c).2.1.trans (Read.val_main_v37_eq _ _), (h c).2.2.1.trans (Read.val_main_v39_eq _ _), (h c).2.2.2⟩) (run m ρ)

end Cert.MergeFwdRefIdeal.Value

namespace Cert.UpRefIdeal.Value

open Idealize.ShloMosaic Idealize.SL.Sem Cert.UpRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47) = Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v48) = Read.val_main_v48 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v45_eq _ _), (h c).2.1.trans (Read.val_main_v47_eq _ _), (h c).2.2.1.trans (Read.val_main_v48_eq _ _ _), (h c).2.2.2⟩) (run m ρ)

end Cert.UpRefIdeal.Value

namespace Cert.NormFwdRefIdeal.Value

open Idealize.ShloMosaic Idealize.SL.Sem Cert.NormFwdRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = Read.val_main_v17 (F := Ideal) (m ((c.tc : Thread nD τ).loc main_arg0)) (m ((c.tc : Thread nD τ).loc main_arg1)) (m ((c.tc : Thread nD τ).loc main_arg2))
      ∧ r.2.mem ((c.tc : Thread nD τ).loc main_v19) = Read.val_main_v19 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v17_eq _ _ _), (h c).2.1.trans (Read.val_main_v19_eq _ _), (h c).2.2⟩) (run m ρ)

end Cert.NormFwdRefIdeal.Value

namespace Cert.ReluFwdRefIdeal.Value

open Idealize.ShloMosaic Idealize.SL.Sem Cert.ReluFwdRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Read.val_main_v8 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v8_eq _ _ _), (h c).2⟩) (run m ρ)

end Cert.ReluFwdRefIdeal.Value

namespace Cert.ReluWRefIdeal.Value

open Idealize.ShloMosaic Idealize.SL.Sem Cert.ReluWRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = Read.val_main_v10 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v10_eq _ _), (h c).2⟩) (run m ρ)

end Cert.ReluWRefIdeal.Value

namespace Cert.UpWRefIdeal.Value

open Idealize.ShloMosaic Idealize.SL.Sem Cert.UpWRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Read.val_main_v9 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v9_eq _ _), (h c).2⟩) (run m ρ)

end Cert.UpWRefIdeal.Value

namespace Cert.StepUpRefIdeal.Value

open Idealize.ShloMosaic Idealize.SL.Sem Cert.StepUpRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Read.val_main_v2 (F := Ideal) (m ((c.tc : Thread nD τ).loc main_arg1)) (m ((c.tc : Thread nD τ).loc main_arg2))
      ∧ r.2.mem ((c.tc : Thread nD τ).loc main_v26) = Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v7) = Read.val_main_v7 (F := Ideal) (m ((c.tc : Thread nD τ).loc main_arg1)) (m ((c.tc : Thread nD τ).loc main_arg2)) (m ((c.tc : Thread nD τ).loc main_arg3))
      ∧ r.2.mem ((c.tc : Thread nD τ).loc main_v13) = Read.val_main_v13 (F := Ideal) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v2_eq _ _), (h c).2.1.trans (Read.val_main_v26_eq _ _ _ _ _), (h c).2.2.1.trans (Read.val_main_v7_eq _ _ _), (h c).2.2.2.1.trans (Read.val_main_v13_eq _ _ _), (h c).2.2.2.2⟩) (run m ρ)

end Cert.StepUpRefIdeal.Value

namespace Cert.GradsRefIdeal.Value

open Idealize.ShloMosaic Idealize.SL.Sem Cert.GradsRefIdeal

/-- The reference's run, each result named by its last stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = Read.val_main_v24 (F := Ideal) (m ((c.tc : Thread nD τ).loc main_arg0)) (m ((c.tc : Thread nD τ).loc main_arg1))
      ∧ r.2.mem ((c.tc : Thread nD τ).loc main_v25) = Read.val_main_v25 (F := Ideal) (m ((c.tc : Thread nD τ).loc main_arg2)) (m ((c.tc : Thread nD τ).loc main_arg3))
      ∧ r.2.mem ((c.tc : Thread nD τ).loc main_v26) = Read.val_main_v26 (F := Ideal) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (Read.val_main_v24_eq _ _), (h c).2.1.trans (Read.val_main_v25_eq _ _), (h c).2.2.1.trans (Read.val_main_v26_eq _ _), (h c).2.2.2⟩) (run m ρ)

end Cert.GradsRefIdeal.Value

end
-- ==== Proof.lean ====
module

public import proofs.«01_k».proof.Defs
public import proofs.«01_k».proof.Proof.Gen.Relu
public import proofs.«01_k».proof.Proof.Gen.Relu.Skeleton
public import proofs.«01_k».proof.Proof.Gen.Relu.Launch
public import proofs.«01_k».proof.Proof.Gen.Relu.Points
public import proofs.«01_k».proof.Proof.Gen.Relu.Frame
public import proofs.«01_k».proof.Proof.Gen.ReluIdeal
public import proofs.«01_k».proof.Proof.Gen.ReluIdeal.Skeleton
public import proofs.«01_k».proof.Proof.Gen.ReluIdeal.Launch
public import proofs.«01_k».proof.Proof.Gen.ReluIdeal.Points
public import proofs.«01_k».proof.Proof.Gen.ReluIdeal.Frame
public import proofs.«01_k».proof.Proof.Gen.ReluRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.ReluFwd
public import proofs.«01_k».proof.Proof.Gen.ReluFwd.Skeleton
public import proofs.«01_k».proof.Proof.Gen.ReluFwd.Launch
public import proofs.«01_k».proof.Proof.Gen.ReluFwd.Points
public import proofs.«01_k».proof.Proof.Gen.ReluFwd.Frame
public import proofs.«01_k».proof.Proof.Gen.ReluFwdIdeal
public import proofs.«01_k».proof.Proof.Gen.ReluFwdIdeal.Skeleton
public import proofs.«01_k».proof.Proof.Gen.ReluFwdIdeal.Launch
public import proofs.«01_k».proof.Proof.Gen.ReluFwdIdeal.Points
public import proofs.«01_k».proof.Proof.Gen.ReluFwdIdeal.Frame
public import proofs.«01_k».proof.Proof.Gen.ReluFwdRefIdeal
public import proofs.«01_k».proof.Proof.Gen.ReluW
public import proofs.«01_k».proof.Proof.Gen.ReluW.Skeleton
public import proofs.«01_k».proof.Proof.Gen.ReluW.Launch
public import proofs.«01_k».proof.Proof.Gen.ReluW.Points
public import proofs.«01_k».proof.Proof.Gen.ReluW.Frame
public import proofs.«01_k».proof.Proof.Gen.ReluWIdeal
public import proofs.«01_k».proof.Proof.Gen.ReluWIdeal.Skeleton
public import proofs.«01_k».proof.Proof.Gen.ReluWIdeal.Launch
public import proofs.«01_k».proof.Proof.Gen.ReluWIdeal.Points
public import proofs.«01_k».proof.Proof.Gen.ReluWIdeal.Frame
public import proofs.«01_k».proof.Proof.Gen.ReluWRefIdeal
public import proofs.«01_k».proof.Proof.Gen.BranchFwd
public import proofs.«01_k».proof.Proof.Gen.BranchFwd.Skeleton
public import proofs.«01_k».proof.Proof.Gen.BranchFwd.Launch
public import proofs.«01_k».proof.Proof.Gen.BranchFwd.Points
public import proofs.«01_k».proof.Proof.Gen.BranchFwd.Frame
public import proofs.«01_k».proof.Proof.Gen.BranchFwdIdeal
public import proofs.«01_k».proof.Proof.Gen.BranchFwdIdeal.Skeleton
public import proofs.«01_k».proof.Proof.Gen.BranchFwdIdeal.Launch
public import proofs.«01_k».proof.Proof.Gen.BranchFwdIdeal.Points
public import proofs.«01_k».proof.Proof.Gen.BranchFwdIdeal.Frame
public import proofs.«01_k».proof.Proof.Gen.BranchFwdRefIdeal
public import proofs.«01_k».proof.Proof.Gen.BranchFwdRefIdeal.Run
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWRefIdeal
public import proofs.«01_k».proof.Proof.Gen.StepUp
public import proofs.«01_k».proof.Proof.Gen.StepUp.Skeleton
public import proofs.«01_k».proof.Proof.Gen.StepUp.Launch
public import proofs.«01_k».proof.Proof.Gen.StepUp.Points
public import proofs.«01_k».proof.Proof.Gen.StepUp.Frame
public import proofs.«01_k».proof.Proof.Gen.StepUpIdeal
public import proofs.«01_k».proof.Proof.Gen.StepUpIdeal.Skeleton
public import proofs.«01_k».proof.Proof.Gen.StepUpIdeal.Launch
public import proofs.«01_k».proof.Proof.Gen.StepUpIdeal.Points
public import proofs.«01_k».proof.Proof.Gen.StepUpIdeal.Frame
public import proofs.«01_k».proof.Proof.Gen.StepUpRefIdeal
public import proofs.«01_k».proof.Proof.Gen.Grads
public import proofs.«01_k».proof.Proof.Gen.Grads.Skeleton
public import proofs.«01_k».proof.Proof.Gen.Grads.Launch
public import proofs.«01_k».proof.Proof.Gen.Grads.Points
public import proofs.«01_k».proof.Proof.Gen.Grads.Frame
public import proofs.«01_k».proof.Proof.Gen.GradsIdeal
public import proofs.«01_k».proof.Proof.Gen.GradsIdeal.Skeleton
public import proofs.«01_k».proof.Proof.Gen.GradsIdeal.Launch
public import proofs.«01_k».proof.Proof.Gen.GradsIdeal.Points
public import proofs.«01_k».proof.Proof.Gen.GradsIdeal.Frame
public import proofs.«01_k».proof.Proof.Gen.GradsRefIdeal
public import proofs.«01_k».proof.Proof.Relu
public import proofs.«01_k».proof.Proof.Merge
public import proofs.«01_k».proof.Proof.SguPre
public import proofs.«01_k».proof.Proof.Sgu
public import proofs.«01_k».proof.Proof.SguFwd
public import proofs.«01_k».proof.Proof.NormPre
public import proofs.«01_k».proof.Proof.Norm
public import proofs.«01_k».proof.Proof.LossPre
public import proofs.«01_k».proof.Proof.Loss
public import proofs.«01_k».proof.Proof.MergeFwd
public import proofs.«01_k».proof.Proof.UpPre
public import proofs.«01_k».proof.Proof.Up
public import proofs.«01_k».proof.Proof.NormFwd
public import proofs.«01_k».proof.Proof.ReluFwd
public import proofs.«01_k».proof.Proof.ReluW
public import proofs.«01_k».proof.Proof.UpW
public import proofs.«01_k».proof.Proof.StepUp
public import proofs.«01_k».proof.Proof.Grads
public import proofs.«01_k».proof.Proof.References
public import Idealize.ShloMosaic.Adequacy
public import Idealize.ShloMosaic.Init

@[expose] public section

noncomputable section

namespace Cert.Proof

open Idealize.ShloMosaic Idealize.SL.Sem

theorem quiet_relu : Cert.quiescent_ReluRefIdeal := fun m g _ =>
  (θ_run _ _ _).mono (fun r h => ⟨fun c => (h c).2, sem_eq_zero_of_no_sems rfl _⟩) (Cert.ReluRefIdeal.Value.run_stages m g)

/-- The kernel's result and the reference's are one array. -/
theorem relu : Cert.algebraic_ReluIdeal_ReluRefIdeal := by
  intro m g m' g' hpre hagree
  refine ⟨_, Cert.ReluIdeal.Value.run_blocks m g, (θ_run _ _ _).mono (fun r h c => ?_) (Cert.ReluRefIdeal.Value.run_stages m' g')⟩
  obtain ⟨h0, hargs⟩ := h c
  obtain ⟨a0, a1, a2⟩ := hagree c
  refine ⟨h0.trans ?_, hargs⟩
  · rw [a0, a1, a2]; exact (Cert.ReluIdeal.Value.final m c).symm

theorem quiet_merge : Cert.quiescent_MergeRefIdeal := fun m g _ =>
  (θ_run _ _ _).mono (fun r h => ⟨fun c => (h c).2.2.2.2.2.2.2, sem_eq_zero_of_no_sems rfl _⟩) (Cert.MergeRefIdeal.Value.run_stages m g)

/-- The seven result arrays of the kernel are the reference's. -/
theorem merge : Cert.algebraic_MergeIdeal_MergeRefIdeal := by
  intro m g m' g' hpre hagree
  refine ⟨_, _, _, _, _, _, _, Cert.MergeIdeal.Value.run_blocks m g, (θ_run _ _ _).mono (fun r h c => ?_) (Cert.MergeRefIdeal.Value.run_stages m' g')⟩
  obtain ⟨h0, h1, h2, h3, h4, h5, h6, hargs⟩ := h c
  obtain ⟨a0, a1, a2, a3, a4, a5, a6⟩ := hagree c
  refine ⟨h0.trans ?_, h1.trans ?_, h2.trans ?_, h3.trans ?_, h4.trans ?_, h5.trans ?_, h6.trans ?_, hargs⟩
  · rw [a1, a2, a3, a4, a5]; exact (Cert.MergeIdeal.Value.final10 m c).symm
  · rw [a0, a3, a6]; exact (Cert.MergeIdeal.Value.final11 m c).symm
  · rw [a0, a3, a6]; exact (Cert.MergeIdeal.Value.final12 m c).symm
  · rw [a0, a1, a3, a4, a6]; exact (Cert.MergeIdeal.Value.final13 m c).symm
  · rw [a0, a2, a3, a5, a6]; exact (Cert.MergeIdeal.Value.final14 m c).symm
  · rw [a0, a3, a4, a6]; exact (Cert.MergeIdeal.Value.final15 m c).symm
  · rw [a0, a3, a5, a6]; exact (Cert.MergeIdeal.Value.final16 m c).symm

theorem quiet_sgu : Cert.quiescent_SguRefIdeal := fun m g _ =>
  (θ_run _ _ _).mono (fun r h => ⟨fun c => (h c).2.2.2.2.2.2, sem_eq_zero_of_no_sems rfl _⟩) (Cert.SguRefIdeal.Value.run_stages m g)

/-- The six result arrays of the kernel are the reference's, at real arguments. -/
theorem sgu : Cert.algebraic_SguIdeal_SguRefIdeal_pre_sgu_finite := by
  intro m g m' g' hpre hagree
  refine ⟨_, _, _, _, _, _, Cert.SguIdeal.Value.run_blocks m g, (θ_run _ _ _).mono (fun r h c => ?_) (Cert.SguRefIdeal.Value.run_stages m' g')⟩
  obtain ⟨h0, h1, h2, h3, h4, h5, hargs⟩ := h c
  obtain ⟨a0, a1, a2, a3, a4, a5⟩ := hagree c
  obtain ⟨r0, r1, r2, r3, r4, r5⟩ := Cert.Pre_sgu_finite.real _ _ _ _ _ _ (hpre c)
  refine ⟨h0.trans ?_, h1.trans ?_, h2.trans ?_, h3.trans ?_, h4.trans ?_, h5.trans ?_, hargs⟩
  · rw [a0, a1, a2, a3, a4, a5]; exact (Cert.SguIdeal.Value.whole11 m c r0 r1 r2 r3 r4 r5).symm
  · rw [a0, a1, a2, a4]; exact (Cert.SguIdeal.Value.whole12 m c r0 r1 r2 r4).symm
  · rw [a0, a1, a2, a3]; exact (Cert.SguIdeal.Value.whole13 m c).symm
  · rw [a0, a1]; exact (Cert.SguIdeal.Value.whole14 m c).symm
  · rw [a0, a1, a4]; exact (Cert.SguIdeal.Value.whole15 m c).symm
  · rw [a0, a1, a4]; exact (Cert.SguIdeal.Value.whole16 m c).symm

theorem quiet_sguFwd : Cert.quiescent_SguFwdRefIdeal := fun m g _ =>
  (θ_run _ _ _).mono (fun r h => ⟨fun c => (h c).2, sem_eq_zero_of_no_sems rfl _⟩) (Cert.SguFwdRefIdeal.Value.run_stages m g)

/-- The gated activation of the kernel is the reference's. -/
theorem sguFwd : Cert.algebraic_SguFwdIdeal_SguFwdRefIdeal := by
  intro m g m' g' hpre hagree
  refine ⟨_, Cert.SguFwdIdeal.Value.run_blocks m g, (θ_run _ _ _).mono (fun r h c => ?_) (Cert.SguFwdRefIdeal.Value.run_stages m' g')⟩
  obtain ⟨h0, hargs⟩ := h c
  obtain ⟨a0, a1, a2, a3, a4⟩ := hagree c
  refine ⟨h0.trans ?_, hargs⟩
  · rw [a0, a1, a2, a3, a4]; exact (Cert.SguFwdIdeal.Value.whole8 m c).symm

theorem quiet_norm : Cert.quiescent_NormRefIdeal := fun m g _ =>
  (θ_run _ _ _).mono (fun r h => ⟨fun c => (h c).2.2.2, sem_eq_zero_of_no_sems rfl _⟩) (Cert.NormRefIdeal.Value.run_stages m g)

/-- The three result arrays of the kernel are the reference's, at real arguments. -/
theorem norm : Cert.algebraic_NormIdeal_NormRefIdeal_pre_norm_finite := by
  intro m g m' g' hpre hagree
  refine ⟨_, _, _, Cert.NormIdeal.Value.run_blocks m g, (θ_run _ _ _).mono (fun r h c => ?_) (Cert.NormRefIdeal.Value.run_stages m' g')⟩
  obtain ⟨h0, h1, h2, hargs⟩ := h c
  obtain ⟨a0, a1, a2, a3, a4, a5, a6, a7, a8, a9⟩ := hagree c
  obtain ⟨r0, r1, r2, r3, r4, r5, r6, r7, r8⟩ := Cert.Pre_norm_finite.real _ _ _ _ _ _ _ _ _ _ (hpre c)
  refine ⟨h0.trans ?_, h1.trans ?_, h2.trans ?_, hargs⟩
  · rw [a0, a1, a2, a3, a4, a5, a6, a7, a8, a9]; exact (Cert.NormIdeal.Value.whole10 m c r0 r1 r2 r3 r4 r5 r6 r7 r8).symm
  · rw [a0, a1, a2, a3, a4, a5, a6, a7, a8, a9]; exact (Cert.NormIdeal.Value.whole11 m c r0 r1 r2 r3 r4 r5 r6 r7 r8).symm
  · rw [a0, a1, a2, a3, a4, a5, a6, a7]; exact (Cert.NormIdeal.Value.whole12 m c).symm

theorem quiet_loss : Cert.quiescent_LossRefIdeal := fun m g _ =>
  (θ_run _ _ _).mono (fun r h => ⟨fun c => (h c).2.2.2.2, sem_eq_zero_of_no_sems rfl _⟩) (Cert.LossRefIdeal.Value.run_stages m g)

/-- The four result arrays of the kernel are the reference's, at real arguments. -/
theorem loss : Cert.algebraic_LossIdeal_LossRefIdeal_pre_loss_finite := by
  intro m g m' g' hpre hagree
  refine ⟨_, _, _, _, Cert.LossIdeal.Value.run_blocks m g, (θ_run _ _ _).mono (fun r h c => ?_) (Cert.LossRefIdeal.Value.run_stages m' g')⟩
  obtain ⟨h0, h1, h2, h3, hargs⟩ := h c
  obtain ⟨a0, a1, a2, a3, a4⟩ := hagree c
  obtain ⟨r0, r1, r2, r3, r4⟩ := Cert.Pre_loss_finite.real _ _ _ _ _ (hpre c)
  refine ⟨h0.trans ?_, h1.trans ?_, h2.trans ?_, h3.trans ?_, hargs⟩
  · rw [a0, a1, a2, a3, a4]; exact (Cert.LossIdeal.Value.whole5 m c r0 r1 r2 r3 r4).symm
  · rw [a0, a1, a2, a3, a4]; exact (Cert.LossIdeal.Value.whole6 m c r0 r1 r2 r3 r4).symm
  · rw [a0, a1, a2, a3, a4]; exact (Cert.LossIdeal.Value.whole7 m c r0 r1 r2 r3 r4).symm
  · rw [a0, a1, a2, a3, a4]; exact (Cert.LossIdeal.Value.whole8 m c r0 r1 r2 r3 r4).symm

theorem quiet_mergeFwd : Cert.quiescent_MergeFwdRefIdeal := fun m g _ =>
  (θ_run _ _ _).mono (fun r h => ⟨fun c => (h c).2.2.2, sem_eq_zero_of_no_sems rfl _⟩) (Cert.MergeFwdRefIdeal.Value.run_stages m g)

/-- The three result arrays of the kernel are the reference's. -/
theorem mergeFwd : Cert.algebraic_MergeFwdIdeal_MergeFwdRefIdeal := by
  intro m g m' g' hpre hagree
  refine ⟨_, _, _, Cert.MergeFwdIdeal.Value.run_blocks m g, (θ_run _ _ _).mono (fun r h c => ?_) (Cert.MergeFwdRefIdeal.Value.run_stages m' g')⟩
  obtain ⟨h0, h1, h2, hargs⟩ := h c
  obtain ⟨a0, a1, a2, a3, a4, a5, a6⟩ := hagree c
  refine ⟨h0.trans ?_, h1.trans ?_, h2.trans ?_, hargs⟩
  · rw [a0, a1, a2, a3, a4, a5, a6]; exact (Cert.MergeFwdIdeal.Value.whole10 m c).symm
  · rw [a0, a4]; exact (Cert.MergeFwdIdeal.Value.whole11 m c).symm
  · rw [a1, a5]; exact (Cert.MergeFwdIdeal.Value.whole12 m c).symm

theorem quiet_upward : Cert.quiescent_UpRefIdeal := fun m g _ =>
  (θ_run _ _ _).mono (fun r h => ⟨fun c => (h c).2.2.2, sem_eq_zero_of_no_sems rfl _⟩) (Cert.UpRefIdeal.Value.run_stages m g)

/-- The three result arrays of the kernel are the reference's, at real arguments. -/
theorem upward : Cert.algebraic_UpIdeal_UpRefIdeal_pre_up_finite := by
  intro m g m' g' hpre hagree
  refine ⟨_, _, _, Cert.UpIdeal.Value.run_blocks m g, (θ_run _ _ _).mono (fun r h c => ?_) (Cert.UpRefIdeal.Value.run_stages m' g')⟩
  obtain ⟨h0, h1, h2, hargs⟩ := h c
  obtain ⟨a0, a1, a2, a3, a4⟩ := hagree c
  obtain ⟨r0, r1, r2, r3⟩ := Cert.Pre_up_finite.real _ _ _ _ _ (hpre c)
  refine ⟨h0.trans ?_, h1.trans ?_, h2.trans ?_, hargs⟩
  · rw [a0, a1, a2, a3, a4]; exact (Cert.UpIdeal.Value.whole5 m c r0 r1 r2 r3).symm
  · rw [a0, a1, a2, a3, a4]; exact (Cert.UpIdeal.Value.whole6 m c r0 r1 r2 r3).symm
  · rw [a0, a1, a2]; exact (Cert.UpIdeal.Value.whole7 m c).symm

theorem quiet_normFwd : Cert.quiescent_NormFwdRefIdeal := fun m g _ =>
  (θ_run _ _ _).mono (fun r h => ⟨fun c => (h c).2.2, sem_eq_zero_of_no_sems rfl _⟩) (Cert.NormFwdRefIdeal.Value.run_stages m g)

/-- The two result arrays of the kernel are the reference's. -/
theorem normFwd : Cert.algebraic_NormFwdIdeal_NormFwdRefIdeal := by
  intro m g m' g' hpre hagree
  refine ⟨_, _, Cert.NormFwdIdeal.Value.run_blocks m g, (θ_run _ _ _).mono (fun r h c => ?_) (Cert.NormFwdRefIdeal.Value.run_stages m' g')⟩
  obtain ⟨h0, h1, hargs⟩ := h c
  obtain ⟨a0, a1, a2⟩ := hagree c
  refine ⟨h0.trans ?_, h1.trans ?_, hargs⟩
  · rw [a0, a1, a2]; exact (Cert.NormFwdIdeal.Value.whole3 m c).symm
  · rw [a0, a1]; exact (Cert.NormFwdIdeal.Value.whole4 m c).symm

theorem quiet_reluFwd : Cert.quiescent_ReluFwdRefIdeal := fun m g _ =>
  (θ_run _ _ _).mono (fun r h => ⟨fun c => (h c).2, sem_eq_zero_of_no_sems rfl _⟩) (Cert.ReluFwdRefIdeal.Value.run_stages m g)

/-- The kernel's result and the reference's are one array. -/
theorem reluFwd : Cert.algebraic_ReluFwdIdeal_ReluFwdRefIdeal := by
  intro m g m' g' hpre hagree
  refine ⟨_, Cert.ReluFwdIdeal.Value.run_blocks m g, (θ_run _ _ _).mono (fun r h c => ?_) (Cert.ReluFwdRefIdeal.Value.run_stages m' g')⟩
  obtain ⟨h0, hargs⟩ := h c
  obtain ⟨a0, a1, a2⟩ := hagree c
  refine ⟨h0.trans ?_, hargs⟩
  · rw [a0, a1, a2]; exact (Cert.ReluFwdIdeal.Value.final m c).symm

theorem quiet_reluW : Cert.quiescent_ReluWRefIdeal := fun m g _ =>
  (θ_run _ _ _).mono (fun r h => ⟨fun c => (h c).2, sem_eq_zero_of_no_sems rfl _⟩) (Cert.ReluWRefIdeal.Value.run_stages m g)

/-- The kernel's result and the reference's are one array. -/
theorem reluW : Cert.algebraic_ReluWIdeal_ReluWRefIdeal := by
  intro m g m' g' hpre hagree
  refine ⟨_, Cert.ReluWIdeal.Value.run_blocks m g, (θ_run _ _ _).mono (fun r h c => ?_) (Cert.ReluWRefIdeal.Value.run_stages m' g')⟩
  obtain ⟨h0, hargs⟩ := h c
  obtain ⟨a0, a1, a2⟩ := hagree c
  refine ⟨h0.trans ?_, hargs⟩
  · rw [a0, a2]; exact (Cert.ReluWIdeal.Value.final m c).symm

theorem quiet_branchFwd : Cert.quiescent_BranchFwdRefIdeal := fun m g _ =>
  (θ_run _ _ _).mono (fun r h => ⟨fun c => (h c).2.2, sem_eq_zero_of_no_sems rfl _⟩) (Cert.BranchFwdRefIdeal.Value.run m g)

theorem quiet_upW : Cert.quiescent_UpWRefIdeal := fun m g _ =>
  (θ_run _ _ _).mono (fun r h => ⟨fun c => (h c).2, sem_eq_zero_of_no_sems rfl _⟩) (Cert.UpWRefIdeal.Value.run_stages m g)

/-- The kernel's result and the reference's are one array. -/
theorem upW : Cert.algebraic_UpWIdeal_UpWRefIdeal := by
  intro m g m' g' hpre hagree
  refine ⟨_, Cert.UpWIdeal.Value.run_blocks m g, (θ_run _ _ _).mono (fun r h c => ?_) (Cert.UpWRefIdeal.Value.run_stages m' g')⟩
  obtain ⟨h0, hargs⟩ := h c
  obtain ⟨a0, a1, a2⟩ := hagree c
  refine ⟨h0.trans ?_, hargs⟩
  · rw [a0, a1]; exact (Cert.UpWIdeal.Value.final m c).symm

theorem quiet_stepUp : Cert.quiescent_StepUpRefIdeal := fun m g _ =>
  (θ_run _ _ _).mono (fun r h => ⟨fun c => (h c).2.2.2.2, sem_eq_zero_of_no_sems rfl _⟩) (Cert.StepUpRefIdeal.Value.run_stages m g)

/-- The four result arrays of the kernel are the reference's. -/
theorem stepUp : Cert.algebraic_StepUpIdeal_StepUpRefIdeal := by
  intro m g m' g' hpre hagree
  refine ⟨_, _, _, _, Cert.StepUpIdeal.Value.run_blocks m g, (θ_run _ _ _).mono (fun r h c => ?_) (Cert.StepUpRefIdeal.Value.run_stages m' g')⟩
  obtain ⟨h0, h1, h2, h3, hargs⟩ := h c
  obtain ⟨a0, a1, a2, a3, a4⟩ := hagree c
  refine ⟨h0.trans ?_, h1.trans ?_, h2.trans ?_, h3.trans ?_, hargs⟩
  · rw [a1, a2]; exact (Cert.StepUpIdeal.Value.whole5 m c).symm
  · rw [a0, a1, a2, a3, a4]; exact (Cert.StepUpIdeal.Value.whole6 m c).symm
  · rw [a1, a2, a3]; exact (Cert.StepUpIdeal.Value.whole7 m c).symm
  · rw [a1, a2, a4]; exact (Cert.StepUpIdeal.Value.whole8 m c).symm

theorem quiet_grads : Cert.quiescent_GradsRefIdeal := fun m g _ =>
  (θ_run _ _ _).mono (fun r h => ⟨fun c => (h c).2.2.2, sem_eq_zero_of_no_sems rfl _⟩) (Cert.GradsRefIdeal.Value.run_stages m g)

/-- The three result arrays of the kernel are the reference's. -/
theorem grads : Cert.algebraic_GradsIdeal_GradsRefIdeal := by
  intro m g m' g' hpre hagree
  refine ⟨_, _, _, Cert.GradsIdeal.Value.run_blocks m g, (θ_run _ _ _).mono (fun r h c => ?_) (Cert.GradsRefIdeal.Value.run_stages m' g')⟩
  obtain ⟨h0, h1, h2, hargs⟩ := h c
  obtain ⟨a0, a1, a2, a3, a4, a5, a6, a7, a8⟩ := hagree c
  refine ⟨h0.trans ?_, h1.trans ?_, h2.trans ?_, hargs⟩
  · rw [a0, a1]; exact (Cert.GradsIdeal.Value.whole6 m c).symm
  · rw [a2, a3]; exact (Cert.GradsIdeal.Value.whole7 m c).symm
  · rw [a4, a5]; exact (Cert.GradsIdeal.Value.whole8 m c).symm

theorem claim : Cert.Claim :=
  ⟨Cert.Relu.Gen.facts, Cert.ReluIdeal.Gen.facts, Cert.ReluRefIdeal.Gen.facts,
    Cert.Merge.Gen.facts, Cert.MergeIdeal.Gen.facts, Cert.MergeRefIdeal.Gen.facts,
    Cert.Sgu.Gen.facts, Cert.SguIdeal.Gen.facts, Cert.SguRefIdeal.Gen.facts,
    Cert.SguFwd.Gen.facts, Cert.SguFwdIdeal.Gen.facts, Cert.SguFwdRefIdeal.Gen.facts,
    Cert.Norm.Gen.facts, Cert.NormIdeal.Gen.facts, Cert.NormRefIdeal.Gen.facts,
    Cert.Loss.Gen.facts, Cert.LossIdeal.Gen.facts, Cert.LossRefIdeal.Gen.facts,
    Cert.MergeFwd.Gen.facts, Cert.MergeFwdIdeal.Gen.facts, Cert.MergeFwdRefIdeal.Gen.facts,
    Cert.Up.Gen.facts, Cert.UpIdeal.Gen.facts, Cert.UpRefIdeal.Gen.facts,
    Cert.NormFwd.Gen.facts, Cert.NormFwdIdeal.Gen.facts, Cert.NormFwdRefIdeal.Gen.facts,
    Cert.ReluFwd.Gen.facts, Cert.ReluFwdIdeal.Gen.facts, Cert.ReluFwdRefIdeal.Gen.facts,
    Cert.ReluW.Gen.facts, Cert.ReluWIdeal.Gen.facts, Cert.ReluWRefIdeal.Gen.facts,
    Cert.BranchFwd.Gen.facts,
    Cert.BranchFwdIdeal.Gen.facts,
    Cert.BranchFwdRefIdeal.Gen.facts,
    Cert.UpW.Gen.facts, Cert.UpWIdeal.Gen.facts, Cert.UpWRefIdeal.Gen.facts,
    Cert.StepUp.Gen.facts, Cert.StepUpIdeal.Gen.facts, Cert.StepUpRefIdeal.Gen.facts,
    Cert.Grads.Gen.facts, Cert.GradsIdeal.Gen.facts, Cert.GradsRefIdeal.Gen.facts,
    Cert.Pre_sgu_finite.Gen.facts,
    Cert.Pre_norm_finite.Gen.facts,
    Cert.Pre_loss_finite.Gen.facts,
    Cert.Pre_up_finite.Gen.facts,
    fun m ρ _ => Cert.Relu.Gen.frame m ρ, fun m ρ _ => Cert.ReluIdeal.Gen.frame m ρ, quiet_relu,
    fun m ρ _ => Cert.Merge.Gen.frame m ρ, fun m ρ _ => Cert.MergeIdeal.Gen.frame m ρ, quiet_merge,
    fun m ρ _ => Cert.Sgu.Gen.frame m ρ, fun m ρ _ => Cert.SguIdeal.Gen.frame m ρ, fun m ρ _ => Cert.SguIdeal.Gen.frame m ρ, quiet_sgu, fun m ρ _ => quiet_sgu m ρ trivial,
    fun m ρ _ => Cert.SguFwd.Gen.frame m ρ, fun m ρ _ => Cert.SguFwdIdeal.Gen.frame m ρ, quiet_sguFwd,
    fun m ρ _ => Cert.Norm.Gen.frame m ρ, fun m ρ _ => Cert.NormIdeal.Gen.frame m ρ, fun m ρ _ => Cert.NormIdeal.Gen.frame m ρ, quiet_norm, fun m ρ _ => quiet_norm m ρ trivial,
    fun m ρ _ => Cert.Loss.Gen.frame m ρ, fun m ρ _ => Cert.LossIdeal.Gen.frame m ρ, fun m ρ _ => Cert.LossIdeal.Gen.frame m ρ, quiet_loss, fun m ρ _ => quiet_loss m ρ trivial,
    fun m ρ _ => Cert.MergeFwd.Gen.frame m ρ, fun m ρ _ => Cert.MergeFwdIdeal.Gen.frame m ρ, quiet_mergeFwd,
    fun m ρ _ => Cert.Up.Gen.frame m ρ, fun m ρ _ => Cert.UpIdeal.Gen.frame m ρ, fun m ρ _ => Cert.UpIdeal.Gen.frame m ρ, quiet_upward, fun m ρ _ => quiet_upward m ρ trivial,
    fun m ρ _ => Cert.NormFwd.Gen.frame m ρ, fun m ρ _ => Cert.NormFwdIdeal.Gen.frame m ρ, quiet_normFwd,
    fun m ρ _ => Cert.ReluFwd.Gen.frame m ρ, fun m ρ _ => Cert.ReluFwdIdeal.Gen.frame m ρ, quiet_reluFwd,
    fun m ρ _ => Cert.ReluW.Gen.frame m ρ, fun m ρ _ => Cert.ReluWIdeal.Gen.frame m ρ, quiet_reluW,
    fun m ρ _ => Cert.BranchFwd.Gen.frame m ρ, fun m ρ _ => Cert.BranchFwdIdeal.Gen.frame m ρ, quiet_branchFwd,
    fun m ρ _ => Cert.UpW.Gen.frame m ρ, fun m ρ _ => Cert.UpWIdeal.Gen.frame m ρ, quiet_upW,
    fun m ρ _ => Cert.StepUp.Gen.frame m ρ, fun m ρ _ => Cert.StepUpIdeal.Gen.frame m ρ, quiet_stepUp,
    fun m ρ _ => Cert.Grads.Gen.frame m ρ, fun m ρ _ => Cert.GradsIdeal.Gen.frame m ρ, quiet_grads,
    trivial, relu,
    trivial, merge,
    ⟨IdealRules.named_const.statement Cert.SguIdeal.κ "gelu_k" .f32 0x3D372713#32 (((8943 / 200000 : ℝ)) : EReal) rfl, IdealRules.named_const.statement Cert.SguIdeal.κ "gelu_3k" .f32 0x3E095D4F#32 (((26829 / 200000 : ℝ)) : EReal) rfl⟩, sgu,
    IdealRules.named_const.statement Cert.SguFwdIdeal.κ "gelu_k" .f32 0x3D372713#32 (((8943 / 200000 : ℝ)) : EReal) rfl, sguFwd,
    trivial, norm,
    trivial, loss,
    trivial, mergeFwd,
    trivial, upward,
    trivial, normFwd,
    trivial, reluFwd,
    trivial, reluW,
    IdealRules.named_const.statement Cert.BranchFwdIdeal.κ "gelu_k" .f32 0x3D372713#32 (((8943 / 200000 : ℝ)) : EReal) rfl,
    trivial, upW,
    trivial, stepUp,
    trivial, grads⟩

end Cert.Proof

end
